-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0x7F7FFFFF#32 ⊤

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2x16x8192x64 : Shape := ⟨4, ![2, 16, 8192, 64]⟩
abbrev S64x7 : Shape := ⟨2, ![64, 7]⟩
abbrev S_ : Shape := ⟨0, ![]⟩

class Facts : Prop where
  bcast_S_S2x16x8192x64 : S_.BroadcastsInDim S2x16x8192x64 (![] : Fin 0 → Fin S2x16x8192x64.rank)
  reducesTo_S2x16x8192x64_S_d0_1_2_3 : S2x16x8192x64.ReducesTo [0, 1, 2, 3] S_
  h_S_ : 0 < S_.numel

variable [Facts]

def fn {F : FTy → Type} [FloatOps F] (main_arg0 : FVec F S2x16x8192x64 .f32) (main_arg1 : FVec F S2x16x8192x64 .f32) (main_arg2 : FVec F S2x16x8192x64 .f32) (main_arg3 : FVec F S64x7 .f32) : IVec S_ 1 :=
  let main_v0 : FVec F S2x16x8192x64 .f32 := Host.absf main_arg0
  let main_cst : FVec F S_ .f32 := constant S_ .f32 0x7F800000#32
  let main_v1 : FVec F S2x16x8192x64 .f32 := broadcastInDim S2x16x8192x64 ![] bcast_S_S2x16x8192x64 main_cst
  let main_v2 : IVec S2x16x8192x64 1 := cmpf .olt main_v0 main_v1
  let main_c : IVec S_ 1 := constantI S_ 1 1#1
  let main_v3 : IVec S_ 1 := (fun x v => Host.reduce IntOp.andi x v reducesTo_S2x16x8192x64_S_d0_1_2_3 h_S_) main_v2 main_c
  let main_v4 : FVec F S2x16x8192x64 .f32 := Host.absf main_arg1
  let main_cst_0 : FVec F S_ .f32 := constant S_ .f32 0x7F800000#32
  let main_v5 : FVec F S2x16x8192x64 .f32 := broadcastInDim S2x16x8192x64 ![] bcast_S_S2x16x8192x64 main_cst_0
  let main_v6 : IVec S2x16x8192x64 1 := cmpf .olt main_v4 main_v5
  let main_c_1 : IVec S_ 1 := constantI S_ 1 1#1
  let main_v7 : IVec S_ 1 := (fun x v => Host.reduce IntOp.andi x v reducesTo_S2x16x8192x64_S_d0_1_2_3 h_S_) main_v6 main_c_1
  let main_v8 : IVec S_ 1 := andi main_v3 main_v7
  main_v8
-- ==== Kernel.lean ====
abbrev S2x16x8192x64 : Shape := ⟨4, ![2, 16, 8192, 64]⟩
abbrev S64x7 : Shape := ⟨2, ![64, 7]⟩
abbrev S128 : Shape := ⟨1, ![128]⟩
abbrev S128x128 : Shape := ⟨2, ![128, 128]⟩
abbrev S256x256 : Shape := ⟨2, ![256, 256]⟩
abbrev S32x8192x64 : Shape := ⟨3, ![32, 8192, 64]⟩
abbrev S_ : Shape := ⟨0, ![]⟩
abbrev S64x128 : Shape := ⟨2, ![64, 128]⟩
abbrev S1x128 : Shape := ⟨2, ![1, 128]⟩
abbrev S32x8192x1 : Shape := ⟨3, ![32, 8192, 1]⟩
abbrev S1x8192x64 : Shape := ⟨3, ![1, 8192, 64]⟩
abbrev S1x8192x1 : Shape := ⟨3, ![1, 8192, 1]⟩
abbrev S8192x128 : Shape := ⟨2, ![8192, 128]⟩
abbrev S32x128 : Shape := ⟨2, ![32, 128]⟩
abbrev S1x256x64 : Shape := ⟨3, ![1, 256, 64]⟩
abbrev S256x64 : Shape := ⟨2, ![256, 64]⟩
abbrev S256x128 : Shape := ⟨2, ![256, 128]⟩
abbrev S256 : Shape := ⟨1, ![256]⟩
abbrev S256x1 : Shape := ⟨2, ![256, 1]⟩
abbrev S1x256x1 : Shape := ⟨3, ![1, 256, 1]⟩
abbrev S262144 : Shape := ⟨1, ![262144]⟩
abbrev S1 : Shape := ⟨1, ![1]⟩
abbrev S2 : Shape := ⟨1, ![2]⟩
abbrev S1x1x1 : Shape := ⟨3, ![1, 1, 1]⟩
abbrev S2x1 : Shape := ⟨2, ![2, 1]⟩
abbrev S2x2 : Shape := ⟨2, ![2, 2]⟩
abbrev S1x2 : Shape := ⟨2, ![1, 2]⟩
abbrev S2x16x256 : Shape := ⟨3, ![2, 16, 256]⟩
abbrev S32x1x256 : Shape := ⟨3, ![32, 1, 256]⟩
abbrev S32x256 : Shape := ⟨2, ![32, 256]⟩
abbrev S32 : Shape := ⟨1, ![32]⟩
abbrev S32x1 : Shape := ⟨2, ![32, 1]⟩
abbrev S8192 : Shape := ⟨1, ![8192]⟩
abbrev S262144x64 : Shape := ⟨2, ![262144, 64]⟩
abbrev S262144x1 : Shape := ⟨2, ![262144, 1]⟩
abbrev S8192x1 : Shape := ⟨2, ![8192, 1]⟩
abbrev S8192x64 : Shape := ⟨2, ![8192, 64]⟩
abbrev S32x256x64 : Shape := ⟨3, ![32, 256, 64]⟩
abbrev S32x32x256x64 : Shape := ⟨4, ![32, 32, 256, 64]⟩
abbrev S1x1x256x64 : Shape := ⟨4, ![1, 1, 256, 64]⟩
abbrev S1x1x256 : Shape := ⟨3, ![1, 1, 256]⟩
abbrev S1x256 : Shape := ⟨2, ![1, 256]⟩
abbrev S256x512 : Shape := ⟨2, ![256, 512]⟩
abbrev S512x64 : Shape := ⟨2, ![512, 64]⟩

abbrev nBuf : Space → Nat
  | .hbm => 913
  | .vmem => 29
  | .smem => 0
  | _ => 0

abbrev hbmTy0_0 (i : Nat) : BufTy := match i % 128 with
  | 0 => ⟨S2x16x8192x64, .f32⟩
  | 1 => ⟨S2x16x8192x64, .f32⟩
  | 2 => ⟨S2x16x8192x64, .f32⟩
  | 3 => ⟨S64x7, .f32⟩
  | 4 => ⟨S128, .f32⟩
  | 5 => ⟨S128, .f32⟩
  | 6 => ⟨S128x128, .f32⟩
  | 7 => ⟨S256x256, .f32⟩
  | 8 => ⟨S32x8192x64, .f32⟩
  | 9 => ⟨S32x8192x64, .f32⟩
  | 10 => ⟨S32x8192x64, .f32⟩
  | 11 => ⟨S_, .i32⟩
  | 12 => ⟨S_, .f32⟩
  | 13 => ⟨S64x128, .f32⟩
  | 14 => ⟨S1x128, .f32⟩
  | 15 => ⟨S1x128, .f32⟩
  | 16 => ⟨S32x8192x1, .i32⟩
  | 17 => ⟨S32x8192x1, .i32⟩
  | 18 => ⟨S262144, .i32⟩
  | 19 => ⟨S262144, .i32⟩
  | 20 => ⟨S_, .i32⟩
  | 21 => ⟨S_, .i32⟩
  | 22 => ⟨S_, .i32⟩
  | 23 => ⟨S_, .i32⟩
  | 24 => ⟨S1, .i32⟩
  | 25 => ⟨S_, .i32⟩
  | 26 => ⟨S_, .i32⟩
  | 27 => ⟨S_, .i32⟩
  | 28 => ⟨S1, .i32⟩
  | 29 => ⟨S2, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S1x1x1, .i32⟩
  | 49 => ⟨S1x1x1, .i32⟩
  | 50 => ⟨S1, .i32⟩
  | 51 => ⟨S_, .i32⟩
  | 52 => ⟨S1, .i32⟩
  | 53 => ⟨S_, .i32⟩
  | 54 => ⟨S2, .i64⟩
  | 55 => ⟨S_, .i64⟩
  | 56 => ⟨S2, .i64⟩
  | 57 => ⟨S2, .i64⟩
  | 58 => ⟨S_, .i64⟩
  | 59 => ⟨S2, .i64⟩
  | 60 => ⟨S2, .i64⟩
  | 61 => ⟨S2, .i32⟩
  | 62 => ⟨S2, .i32⟩
  | 63 => ⟨S_, .i32⟩
  | 64 => ⟨S_, .i32⟩
  | 65 => ⟨S_, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S_, .i32⟩
  | 75 => ⟨S2, .i32⟩
  | 76 => ⟨S2, .i32⟩
  | 77 => ⟨S2, .i32⟩
  | 78 => ⟨S2, .i32⟩
  | 79 => ⟨S2, .i32⟩
  | 80 => ⟨S_, .i32⟩
  | 81 => ⟨S2, .i32⟩
  | 82 => ⟨S2, .i32⟩
  | 83 => ⟨S_, .i32⟩
  | 84 => ⟨S2, .i32⟩
  | 85 => ⟨S2, .i32⟩
  | 86 => ⟨S2, .i32⟩
  | 87 => ⟨S2, .i32⟩
  | 88 => ⟨S2, .i32⟩
  | 89 => ⟨S_, .i32⟩
  | 90 => ⟨S2, .i32⟩
  | 91 => ⟨S2, .i32⟩
  | 92 => ⟨S_, .i32⟩
  | 93 => ⟨S2, .i32⟩
  | 94 => ⟨S2, .i32⟩
  | 95 => ⟨S2, .i32⟩
  | 96 => ⟨S2, .i32⟩
  | 97 => ⟨S2, .i32⟩
  | 98 => ⟨S_, .i32⟩
  | 99 => ⟨S2, .i32⟩
  | 100 => ⟨S2, .i32⟩
  | 101 => ⟨S_, .i32⟩
  | 102 => ⟨S2, .i32⟩
  | 103 => ⟨S2, .i32⟩
  | 104 => ⟨S2, .i32⟩
  | 105 => ⟨S2, .i32⟩
  | 106 => ⟨S2, .i32⟩
  | 107 => ⟨S2, .i32⟩
  | 108 => ⟨S2, .i32⟩
  | 109 => ⟨S2, .i32⟩
  | 110 => ⟨S_, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S_, .i32⟩
  | 118 => ⟨S2, .i32⟩
  | 119 => ⟨S2, .i32⟩
  | 120 => ⟨S2, .i32⟩
  | 121 => ⟨S2, .i32⟩
  | 122 => ⟨S2, .i32⟩
  | 123 => ⟨S_, .i32⟩
  | 124 => ⟨S2, .i32⟩
  | 125 => ⟨S2, .i32⟩
  | 126 => ⟨S_, .i32⟩
  | 127 => ⟨S2, .i32⟩
  | _ => ⟨S2x16x8192x64, .f32⟩

abbrev hbmTy0_1 (i : Nat) : BufTy := match i % 128 with
  | 0 => ⟨S2, .i32⟩
  | 1 => ⟨S2, .i32⟩
  | 2 => ⟨S2, .i32⟩
  | 3 => ⟨S2, .i32⟩
  | 4 => ⟨S_, .i32⟩
  | 5 => ⟨S2, .i32⟩
  | 6 => ⟨S2, .i32⟩
  | 7 => ⟨S_, .i32⟩
  | 8 => ⟨S2, .i32⟩
  | 9 => ⟨S2, .i32⟩
  | 10 => ⟨S2, .i32⟩
  | 11 => ⟨S2, .i32⟩
  | 12 => ⟨S2, .i32⟩
  | 13 => ⟨S_, .i32⟩
  | 14 => ⟨S2, .i32⟩
  | 15 => ⟨S2, .i32⟩
  | 16 => ⟨S_, .i32⟩
  | 17 => ⟨S2, .i32⟩
  | 18 => ⟨S2, .i32⟩
  | 19 => ⟨S2, .i32⟩
  | 20 => ⟨S2, .i32⟩
  | 21 => ⟨S2, .i32⟩
  | 22 => ⟨S2, .i32⟩
  | 23 => ⟨S2, .i32⟩
  | 24 => ⟨S2, .i32⟩
  | 25 => ⟨S_, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S2, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S_, .i32⟩
  | 76 => ⟨S2, .i32⟩
  | 77 => ⟨S2, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S2, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S_, .i32⟩
  | 119 => ⟨S2, .i32⟩
  | 120 => ⟨S2, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S2x16x8192x64, .f32⟩

abbrev hbmTy0_2 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S2, .i32⟩
  | 24 => ⟨S2, .i32⟩
  | 25 => ⟨S2, .i32⟩
  | 26 => ⟨S_, .i32⟩
  | 27 => ⟨S2, .i32⟩
  | 28 => ⟨S2, .i32⟩
  | 29 => ⟨S2x1, .i32⟩
  | 30 => ⟨S2x1, .i32⟩
  | 31 => ⟨S2x2, .i32⟩
  | 32 => ⟨S1x2, .i32⟩
  | 33 => ⟨S2, .i32⟩
  | 34 => ⟨S1x2, .i32⟩
  | 35 => ⟨S2, .i32⟩
  | 36 => ⟨S1, .i32⟩
  | 37 => ⟨S_, .i32⟩
  | 38 => ⟨S1, .i32⟩
  | 39 => ⟨S_, .i32⟩
  | 40 => ⟨S2x16x256, .i64⟩
  | 41 => ⟨S2x16x256, .i64⟩
  | 42 => ⟨S2x16x256, .i64⟩
  | 43 => ⟨S_, .i64⟩
  | 44 => ⟨S2x16x256, .i64⟩
  | 45 => ⟨S2x16x256, .i64⟩
  | 46 => ⟨S_, .i64⟩
  | 47 => ⟨S2x16x256, .i64⟩
  | 48 => ⟨S2x16x256, .i64⟩
  | 49 => ⟨S_, .i64⟩
  | 50 => ⟨S2x16x256, .i64⟩
  | 51 => ⟨S2x16x256, .i64⟩
  | 52 => ⟨S2x16x256, .i64⟩
  | 53 => ⟨S2x16x256, .i64⟩
  | 54 => ⟨S_, .i64⟩
  | 55 => ⟨S2x16x256, .i64⟩
  | 56 => ⟨S2x16x256, .i64⟩
  | 57 => ⟨S2x16x256, .i32⟩
  | 58 => ⟨S2x16x256, .i32⟩
  | 59 => ⟨S_, .i32⟩
  | 60 => ⟨S_, .i32⟩
  | 61 => ⟨S_, .i32⟩
  | 62 => ⟨S2x16x256, .i32⟩
  | 63 => ⟨S2x16x256, .i32⟩
  | 64 => ⟨S2x16x256, .i32⟩
  | 65 => ⟨S2x16x256, .i32⟩
  | 66 => ⟨S2x16x256, .i32⟩
  | 67 => ⟨S_, .i32⟩
  | 68 => ⟨S2x16x256, .i32⟩
  | 69 => ⟨S2x16x256, .i32⟩
  | 70 => ⟨S_, .i32⟩
  | 71 => ⟨S2x16x256, .i32⟩
  | 72 => ⟨S2x16x256, .i32⟩
  | 73 => ⟨S2x16x256, .i32⟩
  | 74 => ⟨S2x16x256, .i32⟩
  | 75 => ⟨S2x16x256, .i32⟩
  | 76 => ⟨S_, .i32⟩
  | 77 => ⟨S2x16x256, .i32⟩
  | 78 => ⟨S2x16x256, .i32⟩
  | 79 => ⟨S_, .i32⟩
  | 80 => ⟨S2x16x256, .i32⟩
  | 81 => ⟨S2x16x256, .i32⟩
  | 82 => ⟨S2x16x256, .i32⟩
  | 83 => ⟨S2x16x256, .i32⟩
  | 84 => ⟨S2x16x256, .i32⟩
  | 85 => ⟨S_, .i32⟩
  | 86 => ⟨S2x16x256, .i32⟩
  | 87 => ⟨S2x16x256, .i32⟩
  | 88 => ⟨S_, .i32⟩
  | 89 => ⟨S2x16x256, .i32⟩
  | 90 => ⟨S2x16x256, .i32⟩
  | 91 => ⟨S2x16x256, .i32⟩
  | 92 => ⟨S2x16x256, .i32⟩
  | 93 => ⟨S2x16x256, .i32⟩
  | 94 => ⟨S_, .i32⟩
  | 95 => ⟨S2x16x256, .i32⟩
  | 96 => ⟨S2x16x256, .i32⟩
  | 97 => ⟨S_, .i32⟩
  | 98 => ⟨S2x16x256, .i32⟩
  | 99 => ⟨S2x16x256, .i32⟩
  | 100 => ⟨S2x16x256, .i32⟩
  | 101 => ⟨S2x16x256, .i32⟩
  | 102 => ⟨S2x16x256, .i32⟩
  | 103 => ⟨S2x16x256, .i32⟩
  | 104 => ⟨S2x16x256, .i32⟩
  | 105 => ⟨S2x16x256, .i32⟩
  | 106 => ⟨S_, .i32⟩
  | 107 => ⟨S2x16x256, .i32⟩
  | 108 => ⟨S2x16x256, .i32⟩
  | 109 => ⟨S2x16x256, .i32⟩
  | 110 => ⟨S_, .i32⟩
  | 111 => ⟨S2x16x256, .i32⟩
  | 112 => ⟨S2x16x256, .i32⟩
  | 113 => ⟨S_, .i32⟩
  | 114 => ⟨S2x16x256, .i32⟩
  | 115 => ⟨S2x16x256, .i32⟩
  | 116 => ⟨S2x16x256, .i32⟩
  | 117 => ⟨S2x16x256, .i32⟩
  | 118 => ⟨S2x16x256, .i32⟩
  | 119 => ⟨S_, .i32⟩
  | 120 => ⟨S2x16x256, .i32⟩
  | 121 => ⟨S2x16x256, .i32⟩
  | 122 => ⟨S_, .i32⟩
  | 123 => ⟨S2x16x256, .i32⟩
  | 124 => ⟨S2x16x256, .i32⟩
  | 125 => ⟨S2x16x256, .i32⟩
  | 126 => ⟨S2x16x256, .i32⟩
  | 127 => ⟨S2x16x256, .i32⟩
  | _ => ⟨S2x16x8192x64, .f32⟩

abbrev hbmTy0_3 (i : Nat) : BufTy := match i % 128 with
  | 0 => ⟨S_, .i32⟩
  | 1 => ⟨S2x16x256, .i32⟩
  | 2 => ⟨S2x16x256, .i32⟩
  | 3 => ⟨S_, .i32⟩
  | 4 => ⟨S2x16x256, .i32⟩
  | 5 => ⟨S2x16x256, .i32⟩
  | 6 => ⟨S2x16x256, .i32⟩
  | 7 => ⟨S2x16x256, .i32⟩
  | 8 => ⟨S2x16x256, .i32⟩
  | 9 => ⟨S_, .i32⟩
  | 10 => ⟨S2x16x256, .i32⟩
  | 11 => ⟨S2x16x256, .i32⟩
  | 12 => ⟨S_, .i32⟩
  | 13 => ⟨S2x16x256, .i32⟩
  | 14 => ⟨S2x16x256, .i32⟩
  | 15 => ⟨S2x16x256, .i32⟩
  | 16 => ⟨S2x16x256, .i32⟩
  | 17 => ⟨S2x16x256, .i32⟩
  | 18 => ⟨S2x16x256, .i32⟩
  | 19 => ⟨S2x16x256, .i32⟩
  | 20 => ⟨S2x16x256, .i32⟩
  | 21 => ⟨S_, .i32⟩
  | 22 => ⟨S2x16x256, .i32⟩
  | 23 => ⟨S2x16x256, .i32⟩
  | 24 => ⟨S2x16x256, .i32⟩
  | 25 => ⟨S_, .i32⟩
  | 26 => ⟨S2x16x256, .i32⟩
  | 27 => ⟨S2x16x256, .i32⟩
  | 28 => ⟨S_, .i32⟩
  | 29 => ⟨S2x16x256, .i32⟩
  | 30 => ⟨S2x16x256, .i32⟩
  | 31 => ⟨S2x16x256, .i32⟩
  | 32 => ⟨S2x16x256, .i32⟩
  | 33 => ⟨S2x16x256, .i32⟩
  | 34 => ⟨S_, .i32⟩
  | 35 => ⟨S2x16x256, .i32⟩
  | 36 => ⟨S2x16x256, .i32⟩
  | 37 => ⟨S_, .i32⟩
  | 38 => ⟨S2x16x256, .i32⟩
  | 39 => ⟨S2x16x256, .i32⟩
  | 40 => ⟨S2x16x256, .i32⟩
  | 41 => ⟨S2x16x256, .i32⟩
  | 42 => ⟨S2x16x256, .i32⟩
  | 43 => ⟨S_, .i32⟩
  | 44 => ⟨S2x16x256, .i32⟩
  | 45 => ⟨S2x16x256, .i32⟩
  | 46 => ⟨S_, .i32⟩
  | 47 => ⟨S2x16x256, .i32⟩
  | 48 => ⟨S2x16x256, .i32⟩
  | 49 => ⟨S2x16x256, .i32⟩
  | 50 => ⟨S2x16x256, .i32⟩
  | 51 => ⟨S2x16x256, .i32⟩
  | 52 => ⟨S_, .i32⟩
  | 53 => ⟨S2x16x256, .i32⟩
  | 54 => ⟨S2x16x256, .i32⟩
  | 55 => ⟨S_, .i32⟩
  | 56 => ⟨S2x16x256, .i32⟩
  | 57 => ⟨S2x16x256, .i32⟩
  | 58 => ⟨S2x16x256, .i32⟩
  | 59 => ⟨S2x16x256, .i32⟩
  | 60 => ⟨S2x16x256, .i32⟩
  | 61 => ⟨S2x16x256, .i32⟩
  | 62 => ⟨S2x16x256, .i32⟩
  | 63 => ⟨S2x16x256, .i32⟩
  | 64 => ⟨S_, .i32⟩
  | 65 => ⟨S2x16x256, .i32⟩
  | 66 => ⟨S2x16x256, .i32⟩
  | 67 => ⟨S2x16x256, .i32⟩
  | 68 => ⟨S_, .i32⟩
  | 69 => ⟨S2x16x256, .i32⟩
  | 70 => ⟨S2x16x256, .i32⟩
  | 71 => ⟨S_, .i32⟩
  | 72 => ⟨S2x16x256, .i32⟩
  | 73 => ⟨S2x16x256, .i32⟩
  | 74 => ⟨S2x16x256, .i32⟩
  | 75 => ⟨S2x16x256, .i32⟩
  | 76 => ⟨S2x16x256, .i32⟩
  | 77 => ⟨S_, .i32⟩
  | 78 => ⟨S2x16x256, .i32⟩
  | 79 => ⟨S2x16x256, .i32⟩
  | 80 => ⟨S_, .i32⟩
  | 81 => ⟨S2x16x256, .i32⟩
  | 82 => ⟨S2x16x256, .i32⟩
  | 83 => ⟨S2x16x256, .i32⟩
  | 84 => ⟨S2x16x256, .i32⟩
  | 85 => ⟨S2x16x256, .i32⟩
  | 86 => ⟨S_, .i32⟩
  | 87 => ⟨S2x16x256, .i32⟩
  | 88 => ⟨S2x16x256, .i32⟩
  | 89 => ⟨S_, .i32⟩
  | 90 => ⟨S2x16x256, .i32⟩
  | 91 => ⟨S2x16x256, .i32⟩
  | 92 => ⟨S2x16x256, .i32⟩
  | 93 => ⟨S2x16x256, .i32⟩
  | 94 => ⟨S2x16x256, .i32⟩
  | 95 => ⟨S_, .i32⟩
  | 96 => ⟨S2x16x256, .i32⟩
  | 97 => ⟨S2x16x256, .i32⟩
  | 98 => ⟨S_, .i32⟩
  | 99 => ⟨S2x16x256, .i32⟩
  | 100 => ⟨S2x16x256, .i32⟩
  | 101 => ⟨S2x16x256, .i32⟩
  | 102 => ⟨S2x16x256, .i32⟩
  | 103 => ⟨S2x16x256, .i32⟩
  | 104 => ⟨S2x16x256, .i32⟩
  | 105 => ⟨S2x16x256, .i32⟩
  | 106 => ⟨S2x16x256, .i32⟩
  | 107 => ⟨S_, .i32⟩
  | 108 => ⟨S2x16x256, .i32⟩
  | 109 => ⟨S2x16x256, .i32⟩
  | 110 => ⟨S2x16x256, .i32⟩
  | 111 => ⟨S_, .i32⟩
  | 112 => ⟨S2x16x256, .i32⟩
  | 113 => ⟨S2x16x256, .i32⟩
  | 114 => ⟨S_, .i32⟩
  | 115 => ⟨S2x16x256, .i32⟩
  | 116 => ⟨S2x16x256, .i32⟩
  | 117 => ⟨S2x16x256, .i32⟩
  | 118 => ⟨S2x16x256, .i32⟩
  | 119 => ⟨S2x16x256, .i32⟩
  | 120 => ⟨S_, .i32⟩
  | 121 => ⟨S2x16x256, .i32⟩
  | 122 => ⟨S2x16x256, .i32⟩
  | 123 => ⟨S_, .i32⟩
  | 124 => ⟨S2x16x256, .i32⟩
  | 125 => ⟨S2x16x256, .i32⟩
  | 126 => ⟨S2x16x256, .i32⟩
  | 127 => ⟨S2x16x256, .i32⟩
  | _ => ⟨S2x16x8192x64, .f32⟩

abbrev hbmTy0_4 (i : Nat) : BufTy := match i % 128 with
  | 0 => ⟨S2x16x256, .i32⟩
  | 1 => ⟨S_, .i32⟩
  | 2 => ⟨S2x16x256, .i32⟩
  | 3 => ⟨S2x16x256, .i32⟩
  | 4 => ⟨S_, .i32⟩
  | 5 => ⟨S2x16x256, .i32⟩
  | 6 => ⟨S2x16x256, .i32⟩
  | 7 => ⟨S2x16x256, .i32⟩
  | 8 => ⟨S2x16x256, .i32⟩
  | 9 => ⟨S2x16x256, .i32⟩
  | 10 => ⟨S_, .i32⟩
  | 11 => ⟨S2x16x256, .i32⟩
  | 12 => ⟨S2x16x256, .i32⟩
  | 13 => ⟨S_, .i32⟩
  | 14 => ⟨S2x16x256, .i32⟩
  | 15 => ⟨S2x16x256, .i32⟩
  | 16 => ⟨S2x16x256, .i32⟩
  | 17 => ⟨S2x16x256, .i32⟩
  | 18 => ⟨S2x16x256, .i32⟩
  | 19 => ⟨S2x16x256, .i32⟩
  | 20 => ⟨S2x16x256, .i32⟩
  | 21 => ⟨S2x16x256, .i32⟩
  | 22 => ⟨S_, .i32⟩
  | 23 => ⟨S2x16x256, .i32⟩
  | 24 => ⟨S2x16x256, .i32⟩
  | 25 => ⟨S2x16x256, .i32⟩
  | 26 => ⟨S1, .i32⟩
  | 27 => ⟨S_, .i32⟩
  | 28 => ⟨S1, .i32⟩
  | 29 => ⟨S_, .i32⟩
  | 30 => ⟨S2x16x256, .i64⟩
  | 31 => ⟨S2x16x256, .i64⟩
  | 32 => ⟨S2x16x256, .i64⟩
  | 33 => ⟨S_, .i64⟩
  | 34 => ⟨S2x16x256, .i64⟩
  | 35 => ⟨S2x16x256, .i64⟩
  | 36 => ⟨S_, .i64⟩
  | 37 => ⟨S2x16x256, .i64⟩
  | 38 => ⟨S2x16x256, .i64⟩
  | 39 => ⟨S_, .i64⟩
  | 40 => ⟨S2x16x256, .i64⟩
  | 41 => ⟨S2x16x256, .i64⟩
  | 42 => ⟨S2x16x256, .i64⟩
  | 43 => ⟨S2x16x256, .i64⟩
  | 44 => ⟨S_, .i64⟩
  | 45 => ⟨S2x16x256, .i64⟩
  | 46 => ⟨S2x16x256, .i64⟩
  | 47 => ⟨S2x16x256, .i32⟩
  | 48 => ⟨S2x16x256, .i32⟩
  | 49 => ⟨S_, .i32⟩
  | 50 => ⟨S_, .i32⟩
  | 51 => ⟨S_, .i32⟩
  | 52 => ⟨S2x16x256, .i32⟩
  | 53 => ⟨S2x16x256, .i32⟩
  | 54 => ⟨S2x16x256, .i32⟩
  | 55 => ⟨S2x16x256, .i32⟩
  | 56 => ⟨S2x16x256, .i32⟩
  | 57 => ⟨S_, .i32⟩
  | 58 => ⟨S2x16x256, .i32⟩
  | 59 => ⟨S2x16x256, .i32⟩
  | 60 => ⟨S_, .i32⟩
  | 61 => ⟨S2x16x256, .i32⟩
  | 62 => ⟨S2x16x256, .i32⟩
  | 63 => ⟨S2x16x256, .i32⟩
  | 64 => ⟨S2x16x256, .i32⟩
  | 65 => ⟨S2x16x256, .i32⟩
  | 66 => ⟨S_, .i32⟩
  | 67 => ⟨S2x16x256, .i32⟩
  | 68 => ⟨S2x16x256, .i32⟩
  | 69 => ⟨S_, .i32⟩
  | 70 => ⟨S2x16x256, .i32⟩
  | 71 => ⟨S2x16x256, .i32⟩
  | 72 => ⟨S2x16x256, .i32⟩
  | 73 => ⟨S2x16x256, .i32⟩
  | 74 => ⟨S2x16x256, .i32⟩
  | 75 => ⟨S_, .i32⟩
  | 76 => ⟨S2x16x256, .i32⟩
  | 77 => ⟨S2x16x256, .i32⟩
  | 78 => ⟨S_, .i32⟩
  | 79 => ⟨S2x16x256, .i32⟩
  | 80 => ⟨S2x16x256, .i32⟩
  | 81 => ⟨S2x16x256, .i32⟩
  | 82 => ⟨S2x16x256, .i32⟩
  | 83 => ⟨S2x16x256, .i32⟩
  | 84 => ⟨S_, .i32⟩
  | 85 => ⟨S2x16x256, .i32⟩
  | 86 => ⟨S2x16x256, .i32⟩
  | 87 => ⟨S_, .i32⟩
  | 88 => ⟨S2x16x256, .i32⟩
  | 89 => ⟨S2x16x256, .i32⟩
  | 90 => ⟨S2x16x256, .i32⟩
  | 91 => ⟨S2x16x256, .i32⟩
  | 92 => ⟨S2x16x256, .i32⟩
  | 93 => ⟨S2x16x256, .i32⟩
  | 94 => ⟨S2x16x256, .i32⟩
  | 95 => ⟨S2x16x256, .i32⟩
  | 96 => ⟨S_, .i32⟩
  | 97 => ⟨S2x16x256, .i32⟩
  | 98 => ⟨S2x16x256, .i32⟩
  | 99 => ⟨S2x16x256, .i32⟩
  | 100 => ⟨S_, .i32⟩
  | 101 => ⟨S2x16x256, .i32⟩
  | 102 => ⟨S2x16x256, .i32⟩
  | 103 => ⟨S_, .i32⟩
  | 104 => ⟨S2x16x256, .i32⟩
  | 105 => ⟨S2x16x256, .i32⟩
  | 106 => ⟨S2x16x256, .i32⟩
  | 107 => ⟨S2x16x256, .i32⟩
  | 108 => ⟨S2x16x256, .i32⟩
  | 109 => ⟨S_, .i32⟩
  | 110 => ⟨S2x16x256, .i32⟩
  | 111 => ⟨S2x16x256, .i32⟩
  | 112 => ⟨S_, .i32⟩
  | 113 => ⟨S2x16x256, .i32⟩
  | 114 => ⟨S2x16x256, .i32⟩
  | 115 => ⟨S2x16x256, .i32⟩
  | 116 => ⟨S2x16x256, .i32⟩
  | 117 => ⟨S2x16x256, .i32⟩
  | 118 => ⟨S_, .i32⟩
  | 119 => ⟨S2x16x256, .i32⟩
  | 120 => ⟨S2x16x256, .i32⟩
  | 121 => ⟨S_, .i32⟩
  | 122 => ⟨S2x16x256, .i32⟩
  | 123 => ⟨S2x16x256, .i32⟩
  | 124 => ⟨S2x16x256, .i32⟩
  | 125 => ⟨S2x16x256, .i32⟩
  | 126 => ⟨S2x16x256, .i32⟩
  | 127 => ⟨S_, .i32⟩
  | _ => ⟨S2x16x8192x64, .f32⟩

abbrev hbmTy0_5 (i : Nat) : BufTy := match i % 128 with
  | 0 => ⟨S2x16x256, .i32⟩
  | 1 => ⟨S2x16x256, .i32⟩
  | 2 => ⟨S_, .i32⟩
  | 3 => ⟨S2x16x256, .i32⟩
  | 4 => ⟨S2x16x256, .i32⟩
  | 5 => ⟨S2x16x256, .i32⟩
  | 6 => ⟨S2x16x256, .i32⟩
  | 7 => ⟨S2x16x256, .i32⟩
  | 8 => ⟨S2x16x256, .i32⟩
  | 9 => ⟨S2x16x256, .i32⟩
  | 10 => ⟨S2x16x256, .i32⟩
  | 11 => ⟨S_, .i32⟩
  | 12 => ⟨S2x16x256, .i32⟩
  | 13 => ⟨S2x16x256, .i32⟩
  | 14 => ⟨S2x16x256, .i32⟩
  | 15 => ⟨S_, .i32⟩
  | 16 => ⟨S2x16x256, .i32⟩
  | 17 => ⟨S2x16x256, .i32⟩
  | 18 => ⟨S_, .i32⟩
  | 19 => ⟨S2x16x256, .i32⟩
  | 20 => ⟨S2x16x256, .i32⟩
  | 21 => ⟨S2x16x256, .i32⟩
  | 22 => ⟨S2x16x256, .i32⟩
  | 23 => ⟨S2x16x256, .i32⟩
  | 24 => ⟨S_, .i32⟩
  | 25 => ⟨S2x16x256, .i32⟩
  | 26 => ⟨S2x16x256, .i32⟩
  | 27 => ⟨S_, .i32⟩
  | 28 => ⟨S2x16x256, .i32⟩
  | 29 => ⟨S2x16x256, .i32⟩
  | 30 => ⟨S2x16x256, .i32⟩
  | 31 => ⟨S2x16x256, .i32⟩
  | 32 => ⟨S2x16x256, .i32⟩
  | 33 => ⟨S_, .i32⟩
  | 34 => ⟨S2x16x256, .i32⟩
  | 35 => ⟨S2x16x256, .i32⟩
  | 36 => ⟨S_, .i32⟩
  | 37 => ⟨S2x16x256, .i32⟩
  | 38 => ⟨S2x16x256, .i32⟩
  | 39 => ⟨S2x16x256, .i32⟩
  | 40 => ⟨S2x16x256, .i32⟩
  | 41 => ⟨S2x16x256, .i32⟩
  | 42 => ⟨S_, .i32⟩
  | 43 => ⟨S2x16x256, .i32⟩
  | 44 => ⟨S2x16x256, .i32⟩
  | 45 => ⟨S_, .i32⟩
  | 46 => ⟨S2x16x256, .i32⟩
  | 47 => ⟨S2x16x256, .i32⟩
  | 48 => ⟨S2x16x256, .i32⟩
  | 49 => ⟨S2x16x256, .i32⟩
  | 50 => ⟨S2x16x256, .i32⟩
  | 51 => ⟨S2x16x256, .i32⟩
  | 52 => ⟨S2x16x256, .i32⟩
  | 53 => ⟨S2x16x256, .i32⟩
  | 54 => ⟨S_, .i32⟩
  | 55 => ⟨S2x16x256, .i32⟩
  | 56 => ⟨S2x16x256, .i32⟩
  | 57 => ⟨S2x16x256, .i32⟩
  | 58 => ⟨S_, .i32⟩
  | 59 => ⟨S2x16x256, .i32⟩
  | 60 => ⟨S2x16x256, .i32⟩
  | 61 => ⟨S_, .i32⟩
  | 62 => ⟨S2x16x256, .i32⟩
  | 63 => ⟨S2x16x256, .i32⟩
  | 64 => ⟨S2x16x256, .i32⟩
  | 65 => ⟨S2x16x256, .i32⟩
  | 66 => ⟨S2x16x256, .i32⟩
  | 67 => ⟨S_, .i32⟩
  | 68 => ⟨S2x16x256, .i32⟩
  | 69 => ⟨S2x16x256, .i32⟩
  | 70 => ⟨S_, .i32⟩
  | 71 => ⟨S2x16x256, .i32⟩
  | 72 => ⟨S2x16x256, .i32⟩
  | 73 => ⟨S2x16x256, .i32⟩
  | 74 => ⟨S2x16x256, .i32⟩
  | 75 => ⟨S2x16x256, .i32⟩
  | 76 => ⟨S_, .i32⟩
  | 77 => ⟨S2x16x256, .i32⟩
  | 78 => ⟨S2x16x256, .i32⟩
  | 79 => ⟨S_, .i32⟩
  | 80 => ⟨S2x16x256, .i32⟩
  | 81 => ⟨S2x16x256, .i32⟩
  | 82 => ⟨S2x16x256, .i32⟩
  | 83 => ⟨S2x16x256, .i32⟩
  | 84 => ⟨S2x16x256, .i32⟩
  | 85 => ⟨S_, .i32⟩
  | 86 => ⟨S2x16x256, .i32⟩
  | 87 => ⟨S2x16x256, .i32⟩
  | 88 => ⟨S_, .i32⟩
  | 89 => ⟨S2x16x256, .i32⟩
  | 90 => ⟨S2x16x256, .i32⟩
  | 91 => ⟨S2x16x256, .i32⟩
  | 92 => ⟨S2x16x256, .i32⟩
  | 93 => ⟨S2x16x256, .i32⟩
  | 94 => ⟨S2x16x256, .i32⟩
  | 95 => ⟨S2x16x256, .i32⟩
  | 96 => ⟨S2x16x256, .i32⟩
  | 97 => ⟨S_, .i32⟩
  | 98 => ⟨S2x16x256, .i32⟩
  | 99 => ⟨S2x16x256, .i32⟩
  | 100 => ⟨S2x16x256, .i32⟩
  | 101 => ⟨S_, .i32⟩
  | 102 => ⟨S2x16x256, .i32⟩
  | 103 => ⟨S2x16x256, .i32⟩
  | 104 => ⟨S_, .i32⟩
  | 105 => ⟨S2x16x256, .i32⟩
  | 106 => ⟨S2x16x256, .i32⟩
  | 107 => ⟨S2x16x256, .i32⟩
  | 108 => ⟨S2x16x256, .i32⟩
  | 109 => ⟨S2x16x256, .i32⟩
  | 110 => ⟨S_, .i32⟩
  | 111 => ⟨S2x16x256, .i32⟩
  | 112 => ⟨S2x16x256, .i32⟩
  | 113 => ⟨S_, .i32⟩
  | 114 => ⟨S2x16x256, .i32⟩
  | 115 => ⟨S2x16x256, .i32⟩
  | 116 => ⟨S2x16x256, .i32⟩
  | 117 => ⟨S2x16x256, .i32⟩
  | 118 => ⟨S2x16x256, .i32⟩
  | 119 => ⟨S_, .i32⟩
  | 120 => ⟨S2x16x256, .i32⟩
  | 121 => ⟨S2x16x256, .i32⟩
  | 122 => ⟨S_, .i32⟩
  | 123 => ⟨S2x16x256, .i32⟩
  | 124 => ⟨S2x16x256, .i32⟩
  | 125 => ⟨S2x16x256, .i32⟩
  | 126 => ⟨S2x16x256, .i32⟩
  | 127 => ⟨S2x16x256, .i32⟩
  | _ => ⟨S2x16x8192x64, .f32⟩

abbrev hbmTy0_6 (i : Nat) : BufTy := match i % 128 with
  | 0 => ⟨S_, .i32⟩
  | 1 => ⟨S2x16x256, .i32⟩
  | 2 => ⟨S2x16x256, .i32⟩
  | 3 => ⟨S_, .i32⟩
  | 4 => ⟨S2x16x256, .i32⟩
  | 5 => ⟨S2x16x256, .i32⟩
  | 6 => ⟨S2x16x256, .i32⟩
  | 7 => ⟨S2x16x256, .i32⟩
  | 8 => ⟨S2x16x256, .i32⟩
  | 9 => ⟨S2x16x256, .i32⟩
  | 10 => ⟨S2x16x256, .i32⟩
  | 11 => ⟨S2x16x256, .i32⟩
  | 12 => ⟨S_, .i32⟩
  | 13 => ⟨S2x16x256, .i32⟩
  | 14 => ⟨S2x16x256, .i32⟩
  | 15 => ⟨S2x16x256, .i32⟩
  | 16 => ⟨S1x1x1, .i32⟩
  | 17 => ⟨S1x1x1, .i32⟩
  | 18 => ⟨S1x1x1, .i1⟩
  | 19 => ⟨S_, .i32⟩
  | 20 => ⟨S1x1x1, .i32⟩
  | 21 => ⟨S1x1x1, .i32⟩
  | 22 => ⟨S1x1x1, .i1⟩
  | 23 => ⟨S1x1x1, .i1⟩
  | 24 => ⟨S1x1x1, .i1⟩
  | 25 => ⟨S_, .i32⟩
  | 26 => ⟨S1x1x1, .i32⟩
  | 27 => ⟨S1x1x1, .i32⟩
  | 28 => ⟨S1x1x1, .i32⟩
  | 29 => ⟨S_, .i32⟩
  | 30 => ⟨S1x1x1, .i32⟩
  | 31 => ⟨S1x1x1, .i32⟩
  | 32 => ⟨S1x1x1, .i32⟩
  | 33 => ⟨S1x1x1, .i32⟩
  | 34 => ⟨S2x16x256, .i32⟩
  | 35 => ⟨S2x16x256, .i32⟩
  | 36 => ⟨S2x16x256, .i32⟩
  | 37 => ⟨S2x16x256, .i32⟩
  | 38 => ⟨S2x16x256, .i32⟩
  | 39 => ⟨S2x16x256, .i32⟩
  | 40 => ⟨S2x16x256, .i32⟩
  | 41 => ⟨S2x16x256, .i32⟩
  | 42 => ⟨S2x16x256, .i32⟩
  | 43 => ⟨S2x16x256, .i32⟩
  | 44 => ⟨S2x16x256, .i32⟩
  | 45 => ⟨S2x16x256, .i32⟩
  | 46 => ⟨S_, .i32⟩
  | 47 => ⟨S_, .i32⟩
  | 48 => ⟨S2x16x256, .i32⟩
  | 49 => ⟨S2x16x256, .i32⟩
  | 50 => ⟨S2x16x256, .i32⟩
  | 51 => ⟨S_, .i32⟩
  | 52 => ⟨S2x16x256, .i32⟩
  | 53 => ⟨S2x16x256, .i1⟩
  | 54 => ⟨S2x16x256, .i32⟩
  | 55 => ⟨S2x16x256, .i32⟩
  | 56 => ⟨S_, .i32⟩
  | 57 => ⟨S2x16x256, .i32⟩
  | 58 => ⟨S2x16x256, .i1⟩
  | 59 => ⟨S2x16x256, .i1⟩
  | 60 => ⟨S_, .i32⟩
  | 61 => ⟨S2x16x256, .i32⟩
  | 62 => ⟨S2x16x256, .i32⟩
  | 63 => ⟨S2x16x256, .i32⟩
  | 64 => ⟨S32x1x256, .i32⟩
  | 65 => ⟨S32x256, .i32⟩
  | 66 => ⟨S32, .i32⟩
  | 67 => ⟨S32x1, .i32⟩
  | 68 => ⟨S_, .i32⟩
  | 69 => ⟨S32x1, .i32⟩
  | 70 => ⟨S32x1, .i32⟩
  | 71 => ⟨S32x256, .i32⟩
  | 72 => ⟨S32x256, .i32⟩
  | 73 => ⟨S8192, .i32⟩
  | 74 => ⟨S262144x64, .f32⟩
  | 75 => ⟨S262144x64, .f32⟩
  | 76 => ⟨S262144x64, .f32⟩
  | 77 => ⟨S_, .f32⟩
  | 78 => ⟨S262144x64, .f32⟩
  | 79 => ⟨S_, .i32⟩
  | 80 => ⟨S262144, .i32⟩
  | 81 => ⟨S262144, .i1⟩
  | 82 => ⟨S_, .i32⟩
  | 83 => ⟨S262144, .i32⟩
  | 84 => ⟨S262144, .i32⟩
  | 85 => ⟨S262144, .i32⟩
  | 86 => ⟨S262144x1, .i32⟩
  | 87 => ⟨S262144x64, .f32⟩
  | 88 => ⟨S_, .f32⟩
  | 89 => ⟨S262144x64, .f32⟩
  | 90 => ⟨S_, .i32⟩
  | 91 => ⟨S262144, .i32⟩
  | 92 => ⟨S262144, .i1⟩
  | 93 => ⟨S_, .i32⟩
  | 94 => ⟨S262144, .i32⟩
  | 95 => ⟨S262144, .i32⟩
  | 96 => ⟨S262144, .i32⟩
  | 97 => ⟨S262144x1, .i32⟩
  | 98 => ⟨S262144x64, .f32⟩
  | 99 => ⟨S_, .f32⟩
  | 100 => ⟨S262144x64, .f32⟩
  | 101 => ⟨S_, .i32⟩
  | 102 => ⟨S262144, .i32⟩
  | 103 => ⟨S262144, .i1⟩
  | 104 => ⟨S_, .i32⟩
  | 105 => ⟨S262144, .i32⟩
  | 106 => ⟨S262144, .i32⟩
  | 107 => ⟨S262144, .i32⟩
  | 108 => ⟨S262144x1, .i32⟩
  | 109 => ⟨S262144x64, .f32⟩
  | 110 => ⟨S_, .i32⟩
  | 111 => ⟨S8192, .i32⟩
  | 112 => ⟨S8192, .i1⟩
  | 113 => ⟨S_, .i32⟩
  | 114 => ⟨S8192, .i32⟩
  | 115 => ⟨S8192, .i32⟩
  | 116 => ⟨S8192, .i32⟩
  | 117 => ⟨S8192x1, .i32⟩
  | 118 => ⟨S8192x64, .f32⟩
  | 119 => ⟨S32x256x64, .f32⟩
  | 120 => ⟨S_, .i32⟩
  | 121 => ⟨S8192, .i32⟩
  | 122 => ⟨S8192, .i1⟩
  | 123 => ⟨S_, .i32⟩
  | 124 => ⟨S8192, .i32⟩
  | 125 => ⟨S8192, .i32⟩
  | 126 => ⟨S8192, .i32⟩
  | 127 => ⟨S8192x1, .i32⟩
  | _ => ⟨S2x16x8192x64, .f32⟩

abbrev hbmTy0_7 (i : Nat) : BufTy := match i % 128 with
  | 0 => ⟨S8192x64, .f32⟩
  | 1 => ⟨S32x256x64, .f32⟩
  | 2 => ⟨S32x32x256x64, .f32⟩
  | 3 => ⟨S32x32x256x64, .f32⟩
  | 4 => ⟨S32x32x256x64, .f32⟩
  | 5 => ⟨S32x32x256x64, .f32⟩
  | 6 => ⟨S262144x64, .f32⟩
  | 7 => ⟨S_, .i32⟩
  | 8 => ⟨S262144, .i32⟩
  | 9 => ⟨S262144, .i1⟩
  | 10 => ⟨S_, .i32⟩
  | 11 => ⟨S262144, .i32⟩
  | 12 => ⟨S262144, .i32⟩
  | 13 => ⟨S262144, .i32⟩
  | 14 => ⟨S262144x1, .i32⟩
  | 15 => ⟨S262144x64, .f32⟩
  | 16 => ⟨S2x16x8192x64, .f32⟩
  | _ => ⟨S2x16x8192x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2x16x8192x64, .f32⟩

abbrev bufTy : (tb : Table) → Fin (tcTables nBuf tb) → BufTy
  | .hbm, ⟨i, _⟩ => hbmTy i
  | .local _ .vmem, ⟨0, _⟩ => ⟨S1x8192x64, .f32⟩
  | .local _ .vmem, ⟨1, _⟩ => ⟨S1x8192x64, .f32⟩
  | .local _ .vmem, ⟨2, _⟩ => ⟨S1x8192x64, .f32⟩
  | .local _ .vmem, ⟨3, _⟩ => ⟨S1x8192x64, .f32⟩
  | .local _ .vmem, ⟨4, _⟩ => ⟨S64x128, .f32⟩
  | .local _ .vmem, ⟨5, _⟩ => ⟨S1x128, .f32⟩
  | .local _ .vmem, ⟨6, _⟩ => ⟨S1x128, .f32⟩
  | .local _ .vmem, ⟨7, _⟩ => ⟨S128x128, .f32⟩
  | .local _ .vmem, ⟨8, _⟩ => ⟨S256x256, .f32⟩
  | .local _ .vmem, ⟨9, _⟩ => ⟨S1x8192x1, .i32⟩
  | .local _ .vmem, ⟨10, _⟩ => ⟨S1x8192x1, .i32⟩
  | .local _ .vmem, ⟨11, _⟩ => ⟨S1x8192x1, .i32⟩
  | .local _ .vmem, ⟨12, _⟩ => ⟨S1x8192x1, .i32⟩
  | .local _ .vmem, ⟨13, _⟩ => ⟨S8192x128, .f32⟩
  | .local _ .vmem, ⟨14, _⟩ => ⟨S32x128, .f32⟩
  | .local _ .vmem, ⟨15, _⟩ => ⟨S1x1x256x64, .f32⟩
  | .local _ .vmem, ⟨16, _⟩ => ⟨S1x1x256x64, .f32⟩
  | .local _ .vmem, ⟨17, _⟩ => ⟨S1x1x256x64, .f32⟩
  | .local _ .vmem, ⟨18, _⟩ => ⟨S1x1x256x64, .f32⟩
  | .local _ .vmem, ⟨19, _⟩ => ⟨S1x1x256x64, .f32⟩
  | .local _ .vmem, ⟨20, _⟩ => ⟨S1x1x256x64, .f32⟩
  | .local _ .vmem, ⟨21, _⟩ => ⟨S1x256x64, .f32⟩
  | .local _ .vmem, ⟨22, _⟩ => ⟨S1x256x64, .f32⟩
  | .local _ .vmem, ⟨23, _⟩ => ⟨S1x256x64, .f32⟩
  | .local _ .vmem, ⟨24, _⟩ => ⟨S1x256x64, .f32⟩
  | .local _ .vmem, ⟨25, _⟩ => ⟨S1x1x256, .i32⟩
  | .local _ .vmem, ⟨26, _⟩ => ⟨S1x1x256, .i32⟩
  | .local _ .vmem, ⟨27, _⟩ => ⟨S1x1x256x64, .f32⟩
  | .local _ .vmem, ⟨28, _⟩ => ⟨S1x1x256x64, .f32⟩
  | _, _ => ⟨S2x16x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_c_4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_5 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_6 : Ref sig .tc := ⟨.hbm, 30, rfl⟩
abbrev main_c_7 : Ref sig .tc := ⟨.hbm, 31, rfl⟩
abbrev main_call1_c : Ref sig .tc := ⟨.hbm, 32, rfl⟩
abbrev main_call1_c_0 : Ref sig .tc := ⟨.hbm, 33, rfl⟩
abbrev main_call1_c_1 : Ref sig .tc := ⟨.hbm, 34, rfl⟩
abbrev main_call1_call0_v0 : Ref sig .tc := ⟨.hbm, 35, rfl⟩
abbrev main_call1_v0 : Ref sig .tc := ⟨.hbm, 36, rfl⟩
abbrev main_call1_v1 : Ref sig .tc := ⟨.hbm, 37, rfl⟩
abbrev main_call1_c_2 : Ref sig .tc := ⟨.hbm, 38, rfl⟩
abbrev main_call1_c_3 : Ref sig .tc := ⟨.hbm, 39, rfl⟩
abbrev main_call1_call1_v0 : Ref sig .tc := ⟨.hbm, 40, rfl⟩
abbrev main_call1_v2 : Ref sig .tc := ⟨.hbm, 41, rfl⟩
abbrev main_call1_v3 : Ref sig .tc := ⟨.hbm, 42, rfl⟩
abbrev main_call1_c_4 : Ref sig .tc := ⟨.hbm, 43, rfl⟩
abbrev main_call1_c_5 : Ref sig .tc := ⟨.hbm, 44, rfl⟩
abbrev main_call1_call2_v0 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_call3_v0 : Ref sig .tc := ⟨.hbm, 50, rfl⟩
abbrev main_call1_call3_v1 : Ref sig .tc := ⟨.hbm, 51, rfl⟩
abbrev main_call1_call3_v2 : Ref sig .tc := ⟨.hbm, 52, rfl⟩
abbrev main_call1_call3_v3 : Ref sig .tc := ⟨.hbm, 53, rfl⟩
abbrev main_call1_call3_v4 : Ref sig .tc := ⟨.hbm, 54, rfl⟩
abbrev main_call1_call3_c : Ref sig .tc := ⟨.hbm, 55, rfl⟩
abbrev main_call1_call3_v5 : Ref sig .tc := ⟨.hbm, 56, rfl⟩
abbrev main_call1_call3_v6 : Ref sig .tc := ⟨.hbm, 57, rfl⟩
abbrev main_call1_call3_c_0 : Ref sig .tc := ⟨.hbm, 58, rfl⟩
abbrev main_call1_call3_v7 : Ref sig .tc := ⟨.hbm, 59, rfl⟩
abbrev main_call1_call3_v8 : Ref sig .tc := ⟨.hbm, 60, rfl⟩
abbrev main_call1_call3_v9 : Ref sig .tc := ⟨.hbm, 61, rfl⟩
abbrev main_call1_call3_v10 : Ref sig .tc := ⟨.hbm, 62, rfl⟩
abbrev main_call1_call3_call0_v0 : Ref sig .tc := ⟨.hbm, 63, rfl⟩
abbrev main_call1_call3_call0_c : Ref sig .tc := ⟨.hbm, 64, rfl⟩
abbrev main_call1_call3_call0_v1 : Ref sig .tc := ⟨.hbm, 65, rfl⟩
abbrev main_call1_call3_call0_v2 : Ref sig .tc := ⟨.hbm, 66, rfl⟩
abbrev main_call1_call3_call0_v3 : Ref sig .tc := ⟨.hbm, 67, rfl⟩
abbrev main_call1_call3_call0_v4 : Ref sig .tc := ⟨.hbm, 68, rfl⟩
abbrev main_call1_call3_call0_v5 : Ref sig .tc := ⟨.hbm, 69, rfl⟩
abbrev main_call1_call3_call0_v6 : Ref sig .tc := ⟨.hbm, 70, rfl⟩
abbrev main_call1_call3_call0_c_0 : Ref sig .tc := ⟨.hbm, 71, rfl⟩
abbrev main_call1_call3_call0_v7 : Ref sig .tc := ⟨.hbm, 72, rfl⟩
abbrev main_call1_call3_call0_v8 : Ref sig .tc := ⟨.hbm, 73, rfl⟩
abbrev main_call1_call3_call0_c_1 : Ref sig .tc := ⟨.hbm, 74, rfl⟩
abbrev main_call1_call3_call0_v9 : Ref sig .tc := ⟨.hbm, 75, rfl⟩
abbrev main_call1_call3_call0_v10 : Ref sig .tc := ⟨.hbm, 76, rfl⟩
abbrev main_call1_call3_call0_v11 : Ref sig .tc := ⟨.hbm, 77, rfl⟩
abbrev main_call1_call3_call0_v12 : Ref sig .tc := ⟨.hbm, 78, rfl⟩
abbrev main_call1_call3_call0_v13 : Ref sig .tc := ⟨.hbm, 79, rfl⟩
abbrev main_call1_call3_call0_c_2 : Ref sig .tc := ⟨.hbm, 80, rfl⟩
abbrev main_call1_call3_call0_v14 : Ref sig .tc := ⟨.hbm, 81, rfl⟩
abbrev main_call1_call3_call0_v15 : Ref sig .tc := ⟨.hbm, 82, rfl⟩
abbrev main_call1_call3_call0_c_3 : Ref sig .tc := ⟨.hbm, 83, rfl⟩
abbrev main_call1_call3_call0_v16 : Ref sig .tc := ⟨.hbm, 84, rfl⟩
abbrev main_call1_call3_call0_v17 : Ref sig .tc := ⟨.hbm, 85, rfl⟩
abbrev main_call1_call3_call0_v18 : Ref sig .tc := ⟨.hbm, 86, rfl⟩
abbrev main_call1_call3_call0_v19 : Ref sig .tc := ⟨.hbm, 87, rfl⟩
abbrev main_call1_call3_call0_v20 : Ref sig .tc := ⟨.hbm, 88, rfl⟩
abbrev main_call1_call3_call0_c_4 : Ref sig .tc := ⟨.hbm, 89, rfl⟩
abbrev main_call1_call3_call0_v21 : Ref sig .tc := ⟨.hbm, 90, rfl⟩
abbrev main_call1_call3_call0_v22 : Ref sig .tc := ⟨.hbm, 91, rfl⟩
abbrev main_call1_call3_call0_c_5 : Ref sig .tc := ⟨.hbm, 92, rfl⟩
abbrev main_call1_call3_call0_v23 : Ref sig .tc := ⟨.hbm, 93, rfl⟩
abbrev main_call1_call3_call0_v24 : Ref sig .tc := ⟨.hbm, 94, rfl⟩
abbrev main_call1_call3_call0_v25 : Ref sig .tc := ⟨.hbm, 95, rfl⟩
abbrev main_call1_call3_call0_v26 : Ref sig .tc := ⟨.hbm, 96, rfl⟩
abbrev main_call1_call3_call0_v27 : Ref sig .tc := ⟨.hbm, 97, rfl⟩
abbrev main_call1_call3_call0_c_6 : Ref sig .tc := ⟨.hbm, 98, rfl⟩
abbrev main_call1_call3_call0_v28 : Ref sig .tc := ⟨.hbm, 99, rfl⟩
abbrev main_call1_call3_call0_v29 : Ref sig .tc := ⟨.hbm, 100, rfl⟩
abbrev main_call1_call3_call0_c_7 : Ref sig .tc := ⟨.hbm, 101, rfl⟩
abbrev main_call1_call3_call0_v30 : Ref sig .tc := ⟨.hbm, 102, rfl⟩
abbrev main_call1_call3_call0_v31 : Ref sig .tc := ⟨.hbm, 103, rfl⟩
abbrev main_call1_call3_call0_v32 : Ref sig .tc := ⟨.hbm, 104, rfl⟩
abbrev main_call1_call3_call0_v33 : Ref sig .tc := ⟨.hbm, 105, rfl⟩
abbrev main_call1_call3_call0_v34 : Ref sig .tc := ⟨.hbm, 106, rfl⟩
abbrev main_call1_call3_call0_v35 : Ref sig .tc := ⟨.hbm, 107, rfl⟩
abbrev main_call1_call3_call0_v36 : Ref sig .tc := ⟨.hbm, 108, rfl⟩
abbrev main_call1_call3_call0_v37 : Ref sig .tc := ⟨.hbm, 109, rfl⟩
abbrev main_call1_call3_call0_c_8 : Ref sig .tc := ⟨.hbm, 110, rfl⟩
abbrev main_call1_call3_call0_v38 : Ref sig .tc := ⟨.hbm, 111, rfl⟩
abbrev main_call1_call3_call0_v39 : Ref sig .tc := ⟨.hbm, 112, rfl⟩
abbrev main_call1_call3_call0_v40 : Ref sig .tc := ⟨.hbm, 113, rfl⟩
abbrev main_call1_call3_call0_c_9 : Ref sig .tc := ⟨.hbm, 114, rfl⟩
abbrev main_call1_call3_call0_v41 : Ref sig .tc := ⟨.hbm, 115, rfl⟩
abbrev main_call1_call3_call0_v42 : Ref sig .tc := ⟨.hbm, 116, rfl⟩
abbrev main_call1_call3_call0_c_10 : Ref sig .tc := ⟨.hbm, 117, rfl⟩
abbrev main_call1_call3_call0_v43 : Ref sig .tc := ⟨.hbm, 118, rfl⟩
abbrev main_call1_call3_call0_v44 : Ref sig .tc := ⟨.hbm, 119, rfl⟩
abbrev main_call1_call3_call0_v45 : Ref sig .tc := ⟨.hbm, 120, rfl⟩
abbrev main_call1_call3_call0_v46 : Ref sig .tc := ⟨.hbm, 121, rfl⟩
abbrev main_call1_call3_call0_v47 : Ref sig .tc := ⟨.hbm, 122, rfl⟩
abbrev main_call1_call3_call0_c_11 : Ref sig .tc := ⟨.hbm, 123, rfl⟩
abbrev main_call1_call3_call0_v48 : Ref sig .tc := ⟨.hbm, 124, rfl⟩
abbrev main_call1_call3_call0_v49 : Ref sig .tc := ⟨.hbm, 125, rfl⟩
abbrev main_call1_call3_call0_c_12 : Ref sig .tc := ⟨.hbm, 126, rfl⟩
abbrev main_call1_call3_call0_v50 : Ref sig .tc := ⟨.hbm, 127, rfl⟩
abbrev main_call1_call3_call0_v51 : Ref sig .tc := ⟨.hbm, 128, rfl⟩
abbrev main_call1_call3_call0_v52 : Ref sig .tc := ⟨.hbm, 129, rfl⟩
abbrev main_call1_call3_call0_v53 : Ref sig .tc := ⟨.hbm, 130, rfl⟩
abbrev main_call1_call3_call0_v54 : Ref sig .tc := ⟨.hbm, 131, rfl⟩
abbrev main_call1_call3_call0_c_13 : Ref sig .tc := ⟨.hbm, 132, rfl⟩
abbrev main_call1_call3_call0_v55 : Ref sig .tc := ⟨.hbm, 133, rfl⟩
abbrev main_call1_call3_call0_v56 : Ref sig .tc := ⟨.hbm, 134, rfl⟩
abbrev main_call1_call3_call0_c_14 : Ref sig .tc := ⟨.hbm, 135, rfl⟩
abbrev main_call1_call3_call0_v57 : Ref sig .tc := ⟨.hbm, 136, rfl⟩
abbrev main_call1_call3_call0_v58 : Ref sig .tc := ⟨.hbm, 137, rfl⟩
abbrev main_call1_call3_call0_v59 : Ref sig .tc := ⟨.hbm, 138, rfl⟩
abbrev main_call1_call3_call0_v60 : Ref sig .tc := ⟨.hbm, 139, rfl⟩
abbrev main_call1_call3_call0_v61 : Ref sig .tc := ⟨.hbm, 140, rfl⟩
abbrev main_call1_call3_call0_c_15 : Ref sig .tc := ⟨.hbm, 141, rfl⟩
abbrev main_call1_call3_call0_v62 : Ref sig .tc := ⟨.hbm, 142, rfl⟩
abbrev main_call1_call3_call0_v63 : Ref sig .tc := ⟨.hbm, 143, rfl⟩
abbrev main_call1_call3_call0_c_16 : Ref sig .tc := ⟨.hbm, 144, rfl⟩
abbrev main_call1_call3_call0_v64 : Ref sig .tc := ⟨.hbm, 145, rfl⟩
abbrev main_call1_call3_call0_v65 : Ref sig .tc := ⟨.hbm, 146, rfl⟩
abbrev main_call1_call3_call0_v66 : Ref sig .tc := ⟨.hbm, 147, rfl⟩
abbrev main_call1_call3_call0_v67 : Ref sig .tc := ⟨.hbm, 148, rfl⟩
abbrev main_call1_call3_call0_v68 : Ref sig .tc := ⟨.hbm, 149, rfl⟩
abbrev main_call1_call3_call0_v69 : Ref sig .tc := ⟨.hbm, 150, rfl⟩
abbrev main_call1_call3_call0_v70 : Ref sig .tc := ⟨.hbm, 151, rfl⟩
abbrev main_call1_call3_call0_v71 : Ref sig .tc := ⟨.hbm, 152, rfl⟩
abbrev main_call1_call3_call0_c_17 : Ref sig .tc := ⟨.hbm, 153, rfl⟩
abbrev main_call1_call3_call0_v72 : Ref sig .tc := ⟨.hbm, 154, rfl⟩
abbrev main_call1_call3_call0_v73 : Ref sig .tc := ⟨.hbm, 155, rfl⟩
abbrev main_call1_call3_call0_v74 : Ref sig .tc := ⟨.hbm, 156, rfl⟩
abbrev main_call1_call3_call0_c_18 : Ref sig .tc := ⟨.hbm, 157, rfl⟩
abbrev main_call1_call3_call0_v75 : Ref sig .tc := ⟨.hbm, 158, rfl⟩
abbrev main_call1_call3_call0_v76 : Ref sig .tc := ⟨.hbm, 159, rfl⟩
abbrev main_call1_call3_call0_c_19 : Ref sig .tc := ⟨.hbm, 160, rfl⟩
abbrev main_call1_call3_call0_v77 : Ref sig .tc := ⟨.hbm, 161, rfl⟩
abbrev main_call1_call3_call0_v78 : Ref sig .tc := ⟨.hbm, 162, rfl⟩
abbrev main_call1_call3_call0_v79 : Ref sig .tc := ⟨.hbm, 163, rfl⟩
abbrev main_call1_call3_call0_v80 : Ref sig .tc := ⟨.hbm, 164, rfl⟩
abbrev main_call1_call3_call0_v81 : Ref sig .tc := ⟨.hbm, 165, rfl⟩
abbrev main_call1_call3_call0_c_20 : Ref sig .tc := ⟨.hbm, 166, rfl⟩
abbrev main_call1_call3_call0_v82 : Ref sig .tc := ⟨.hbm, 167, rfl⟩
abbrev main_call1_call3_call0_v83 : Ref sig .tc := ⟨.hbm, 168, rfl⟩
abbrev main_call1_call3_call0_c_21 : Ref sig .tc := ⟨.hbm, 169, rfl⟩
abbrev main_call1_call3_call0_v84 : Ref sig .tc := ⟨.hbm, 170, rfl⟩
abbrev main_call1_call3_call0_v85 : Ref sig .tc := ⟨.hbm, 171, rfl⟩
abbrev main_call1_call3_call0_v86 : Ref sig .tc := ⟨.hbm, 172, rfl⟩
abbrev main_call1_call3_call0_v87 : Ref sig .tc := ⟨.hbm, 173, rfl⟩
abbrev main_call1_call3_call0_v88 : Ref sig .tc := ⟨.hbm, 174, rfl⟩
abbrev main_call1_call3_call0_c_22 : Ref sig .tc := ⟨.hbm, 175, rfl⟩
abbrev main_call1_call3_call0_v89 : Ref sig .tc := ⟨.hbm, 176, rfl⟩
abbrev main_call1_call3_call0_v90 : Ref sig .tc := ⟨.hbm, 177, rfl⟩
abbrev main_call1_call3_call0_c_23 : Ref sig .tc := ⟨.hbm, 178, rfl⟩
abbrev main_call1_call3_call0_v91 : Ref sig .tc := ⟨.hbm, 179, rfl⟩
abbrev main_call1_call3_call0_v92 : Ref sig .tc := ⟨.hbm, 180, rfl⟩
abbrev main_call1_call3_call0_v93 : Ref sig .tc := ⟨.hbm, 181, rfl⟩
abbrev main_call1_call3_call0_v94 : Ref sig .tc := ⟨.hbm, 182, rfl⟩
abbrev main_call1_call3_call0_v95 : Ref sig .tc := ⟨.hbm, 183, rfl⟩
abbrev main_call1_call3_call0_c_24 : Ref sig .tc := ⟨.hbm, 184, rfl⟩
abbrev main_call1_call3_call0_v96 : Ref sig .tc := ⟨.hbm, 185, rfl⟩
abbrev main_call1_call3_call0_v97 : Ref sig .tc := ⟨.hbm, 186, rfl⟩
abbrev main_call1_call3_call0_c_25 : Ref sig .tc := ⟨.hbm, 187, rfl⟩
abbrev main_call1_call3_call0_v98 : Ref sig .tc := ⟨.hbm, 188, rfl⟩
abbrev main_call1_call3_call0_v99 : Ref sig .tc := ⟨.hbm, 189, rfl⟩
abbrev main_call1_call3_call0_v100 : Ref sig .tc := ⟨.hbm, 190, rfl⟩
abbrev main_call1_call3_call0_v101 : Ref sig .tc := ⟨.hbm, 191, rfl⟩
abbrev main_call1_call3_call0_v102 : Ref sig .tc := ⟨.hbm, 192, rfl⟩
abbrev main_call1_call3_call0_v103 : Ref sig .tc := ⟨.hbm, 193, rfl⟩
abbrev main_call1_call3_call0_v104 : Ref sig .tc := ⟨.hbm, 194, rfl⟩
abbrev main_call1_call3_call0_v105 : Ref sig .tc := ⟨.hbm, 195, rfl⟩
abbrev main_call1_call3_call0_c_26 : Ref sig .tc := ⟨.hbm, 196, rfl⟩
abbrev main_call1_call3_call0_v106 : Ref sig .tc := ⟨.hbm, 197, rfl⟩
abbrev main_call1_call3_call0_v107 : Ref sig .tc := ⟨.hbm, 198, rfl⟩
abbrev main_call1_call3_call0_v108 : Ref sig .tc := ⟨.hbm, 199, rfl⟩
abbrev main_call1_call3_call0_c_27 : Ref sig .tc := ⟨.hbm, 200, rfl⟩
abbrev main_call1_call3_call0_v109 : Ref sig .tc := ⟨.hbm, 201, rfl⟩
abbrev main_call1_call3_call0_v110 : Ref sig .tc := ⟨.hbm, 202, rfl⟩
abbrev main_call1_call3_call0_c_28 : Ref sig .tc := ⟨.hbm, 203, rfl⟩
abbrev main_call1_call3_call0_v111 : Ref sig .tc := ⟨.hbm, 204, rfl⟩
abbrev main_call1_call3_call0_v112 : Ref sig .tc := ⟨.hbm, 205, rfl⟩
abbrev main_call1_call3_call0_v113 : Ref sig .tc := ⟨.hbm, 206, rfl⟩
abbrev main_call1_call3_call0_v114 : Ref sig .tc := ⟨.hbm, 207, rfl⟩
abbrev main_call1_call3_call0_v115 : Ref sig .tc := ⟨.hbm, 208, rfl⟩
abbrev main_call1_call3_call0_c_29 : Ref sig .tc := ⟨.hbm, 209, rfl⟩
abbrev main_call1_call3_call0_v116 : Ref sig .tc := ⟨.hbm, 210, rfl⟩
abbrev main_call1_call3_call0_v117 : Ref sig .tc := ⟨.hbm, 211, rfl⟩
abbrev main_call1_call3_call0_c_30 : Ref sig .tc := ⟨.hbm, 212, rfl⟩
abbrev main_call1_call3_call0_v118 : Ref sig .tc := ⟨.hbm, 213, rfl⟩
abbrev main_call1_call3_call0_v119 : Ref sig .tc := ⟨.hbm, 214, rfl⟩
abbrev main_call1_call3_call0_v120 : Ref sig .tc := ⟨.hbm, 215, rfl⟩
abbrev main_call1_call3_call0_v121 : Ref sig .tc := ⟨.hbm, 216, rfl⟩
abbrev main_call1_call3_call0_v122 : Ref sig .tc := ⟨.hbm, 217, rfl⟩
abbrev main_call1_call3_call0_c_31 : Ref sig .tc := ⟨.hbm, 218, rfl⟩
abbrev main_call1_call3_call0_v123 : Ref sig .tc := ⟨.hbm, 219, rfl⟩
abbrev main_call1_call3_call0_v124 : Ref sig .tc := ⟨.hbm, 220, rfl⟩
abbrev main_call1_call3_call0_c_32 : Ref sig .tc := ⟨.hbm, 221, rfl⟩
abbrev main_call1_call3_call0_v125 : Ref sig .tc := ⟨.hbm, 222, rfl⟩
abbrev main_call1_call3_call0_v126 : Ref sig .tc := ⟨.hbm, 223, rfl⟩
abbrev main_call1_call3_call0_v127 : Ref sig .tc := ⟨.hbm, 224, rfl⟩
abbrev main_call1_call3_call0_v128 : Ref sig .tc := ⟨.hbm, 225, rfl⟩
abbrev main_call1_call3_call0_v129 : Ref sig .tc := ⟨.hbm, 226, rfl⟩
abbrev main_call1_call3_call0_c_33 : Ref sig .tc := ⟨.hbm, 227, rfl⟩
abbrev main_call1_call3_call0_v130 : Ref sig .tc := ⟨.hbm, 228, rfl⟩
abbrev main_call1_call3_call0_v131 : Ref sig .tc := ⟨.hbm, 229, rfl⟩
abbrev main_call1_call3_call0_c_34 : Ref sig .tc := ⟨.hbm, 230, rfl⟩
abbrev main_call1_call3_call0_v132 : Ref sig .tc := ⟨.hbm, 231, rfl⟩
abbrev main_call1_call3_call0_v133 : Ref sig .tc := ⟨.hbm, 232, rfl⟩
abbrev main_call1_call3_call0_v134 : Ref sig .tc := ⟨.hbm, 233, rfl⟩
abbrev main_call1_call3_call0_v135 : Ref sig .tc := ⟨.hbm, 234, rfl⟩
abbrev main_call1_call3_call0_v136 : Ref sig .tc := ⟨.hbm, 235, rfl⟩
abbrev main_call1_call3_call0_v137 : Ref sig .tc := ⟨.hbm, 236, rfl⟩
abbrev main_call1_call3_call0_v138 : Ref sig .tc := ⟨.hbm, 237, rfl⟩
abbrev main_call1_call3_call0_v139 : Ref sig .tc := ⟨.hbm, 238, rfl⟩
abbrev main_call1_call3_call0_c_35 : Ref sig .tc := ⟨.hbm, 239, rfl⟩
abbrev main_call1_call3_call0_v140 : Ref sig .tc := ⟨.hbm, 240, rfl⟩
abbrev main_call1_call3_call0_v141 : Ref sig .tc := ⟨.hbm, 241, rfl⟩
abbrev main_call1_call3_call0_v142 : Ref sig .tc := ⟨.hbm, 242, rfl⟩
abbrev main_call1_call3_call0_c_36 : Ref sig .tc := ⟨.hbm, 243, rfl⟩
abbrev main_call1_call3_call0_v143 : Ref sig .tc := ⟨.hbm, 244, rfl⟩
abbrev main_call1_call3_call0_v144 : Ref sig .tc := ⟨.hbm, 245, rfl⟩
abbrev main_call1_call3_call0_c_37 : Ref sig .tc := ⟨.hbm, 246, rfl⟩
abbrev main_call1_call3_call0_v145 : Ref sig .tc := ⟨.hbm, 247, rfl⟩
abbrev main_call1_call3_call0_v146 : Ref sig .tc := ⟨.hbm, 248, rfl⟩
abbrev main_call1_call3_call0_v147 : Ref sig .tc := ⟨.hbm, 249, rfl⟩
abbrev main_call1_call3_call0_v148 : Ref sig .tc := ⟨.hbm, 250, rfl⟩
abbrev main_call1_call3_call0_v149 : Ref sig .tc := ⟨.hbm, 251, rfl⟩
abbrev main_call1_call3_call0_c_38 : Ref sig .tc := ⟨.hbm, 252, rfl⟩
abbrev main_call1_call3_call0_v150 : Ref sig .tc := ⟨.hbm, 253, rfl⟩
abbrev main_call1_call3_call0_v151 : Ref sig .tc := ⟨.hbm, 254, rfl⟩
abbrev main_call1_call3_call0_c_39 : Ref sig .tc := ⟨.hbm, 255, rfl⟩
abbrev main_call1_call3_call0_v152 : Ref sig .tc := ⟨.hbm, 256, rfl⟩
abbrev main_call1_call3_call0_v153 : Ref sig .tc := ⟨.hbm, 257, rfl⟩
abbrev main_call1_call3_call0_v154 : Ref sig .tc := ⟨.hbm, 258, rfl⟩
abbrev main_call1_call3_call0_v155 : Ref sig .tc := ⟨.hbm, 259, rfl⟩
abbrev main_call1_call3_call0_v156 : Ref sig .tc := ⟨.hbm, 260, rfl⟩
abbrev main_call1_call3_call0_c_40 : Ref sig .tc := ⟨.hbm, 261, rfl⟩
abbrev main_call1_call3_call0_v157 : Ref sig .tc := ⟨.hbm, 262, rfl⟩
abbrev main_call1_call3_call0_v158 : Ref sig .tc := ⟨.hbm, 263, rfl⟩
abbrev main_call1_call3_call0_c_41 : Ref sig .tc := ⟨.hbm, 264, rfl⟩
abbrev main_call1_call3_call0_v159 : Ref sig .tc := ⟨.hbm, 265, rfl⟩
abbrev main_call1_call3_call0_v160 : Ref sig .tc := ⟨.hbm, 266, rfl⟩
abbrev main_call1_call3_call0_v161 : Ref sig .tc := ⟨.hbm, 267, rfl⟩
abbrev main_call1_call3_call0_v162 : Ref sig .tc := ⟨.hbm, 268, rfl⟩
abbrev main_call1_call3_call0_v163 : Ref sig .tc := ⟨.hbm, 269, rfl⟩
abbrev main_call1_call3_call0_c_42 : Ref sig .tc := ⟨.hbm, 270, rfl⟩
abbrev main_call1_call3_call0_v164 : Ref sig .tc := ⟨.hbm, 271, rfl⟩
abbrev main_call1_call3_call0_v165 : Ref sig .tc := ⟨.hbm, 272, rfl⟩
abbrev main_call1_call3_call0_c_43 : Ref sig .tc := ⟨.hbm, 273, rfl⟩
abbrev main_call1_call3_call0_v166 : Ref sig .tc := ⟨.hbm, 274, rfl⟩
abbrev main_call1_call3_call0_v167 : Ref sig .tc := ⟨.hbm, 275, rfl⟩
abbrev main_call1_call3_call0_v168 : Ref sig .tc := ⟨.hbm, 276, rfl⟩
abbrev main_call1_call3_call0_v169 : Ref sig .tc := ⟨.hbm, 277, rfl⟩
abbrev main_call1_call3_call0_v170 : Ref sig .tc := ⟨.hbm, 278, rfl⟩
abbrev main_call1_call3_v11_0 : Ref sig .tc := ⟨.hbm, 279, rfl⟩
abbrev main_call1_call3_call0_v172 : Ref sig .tc := ⟨.hbm, 280, rfl⟩
abbrev main_call1_call3_call0_v173 : Ref sig .tc := ⟨.hbm, 281, rfl⟩
abbrev main_call1_call3_call0_c_44 : Ref sig .tc := ⟨.hbm, 282, rfl⟩
abbrev main_call1_call3_call0_v174 : Ref sig .tc := ⟨.hbm, 283, rfl⟩
abbrev main_call1_call3_v11_1 : Ref sig .tc := ⟨.hbm, 284, rfl⟩
abbrev main_call1_call3_v12 : Ref sig .tc := ⟨.hbm, 285, rfl⟩
abbrev main_call1_call3_v13 : Ref sig .tc := ⟨.hbm, 286, rfl⟩
abbrev main_call1_v8 : Ref sig .tc := ⟨.hbm, 287, rfl⟩
abbrev main_call1_v9 : Ref sig .tc := ⟨.hbm, 288, rfl⟩
abbrev main_call1_v10 : Ref sig .tc := ⟨.hbm, 289, rfl⟩
abbrev main_call1_v11 : Ref sig .tc := ⟨.hbm, 290, rfl⟩
abbrev main_call1_v12 : Ref sig .tc := ⟨.hbm, 291, rfl⟩
abbrev main_call1_v13 : Ref sig .tc := ⟨.hbm, 292, rfl⟩
abbrev main_call1_v14 : Ref sig .tc := ⟨.hbm, 293, rfl⟩
abbrev main_call1_v15 : Ref sig .tc := ⟨.hbm, 294, rfl⟩
abbrev main_call1_v16 : Ref sig .tc := ⟨.hbm, 295, rfl⟩
abbrev main_call1_v17 : Ref sig .tc := ⟨.hbm, 296, rfl⟩
abbrev main_call1_v18 : Ref sig .tc := ⟨.hbm, 297, rfl⟩
abbrev main_call1_v19 : Ref sig .tc := ⟨.hbm, 298, rfl⟩
abbrev main_call1_c_6 : Ref sig .tc := ⟨.hbm, 299, rfl⟩
abbrev main_call1_v20 : Ref sig .tc := ⟨.hbm, 300, rfl⟩
abbrev main_call1_v21 : Ref sig .tc := ⟨.hbm, 301, rfl⟩
abbrev main_call1_c_7 : Ref sig .tc := ⟨.hbm, 302, rfl⟩
abbrev main_call1_v22 : Ref sig .tc := ⟨.hbm, 303, rfl⟩
abbrev main_call1_v23 : Ref sig .tc := ⟨.hbm, 304, rfl⟩
abbrev main_call1_c_8 : Ref sig .tc := ⟨.hbm, 305, rfl⟩
abbrev main_call1_v24 : Ref sig .tc := ⟨.hbm, 306, rfl⟩
abbrev main_call1_v25 : Ref sig .tc := ⟨.hbm, 307, rfl⟩
abbrev main_call1_v26 : Ref sig .tc := ⟨.hbm, 308, rfl⟩
abbrev main_call1_v27 : Ref sig .tc := ⟨.hbm, 309, rfl⟩
abbrev main_call1_c_9 : Ref sig .tc := ⟨.hbm, 310, rfl⟩
abbrev main_call1_v28 : Ref sig .tc := ⟨.hbm, 311, rfl⟩
abbrev main_call1_v29 : Ref sig .tc := ⟨.hbm, 312, rfl⟩
abbrev main_call1_v30 : Ref sig .tc := ⟨.hbm, 313, rfl⟩
abbrev main_call1_v31 : Ref sig .tc := ⟨.hbm, 314, rfl⟩
abbrev main_call1_call4_v0 : Ref sig .tc := ⟨.hbm, 315, rfl⟩
abbrev main_call1_call4_c : Ref sig .tc := ⟨.hbm, 316, rfl⟩
abbrev main_call1_call4_v1 : Ref sig .tc := ⟨.hbm, 317, rfl⟩
abbrev main_call1_call4_v2 : Ref sig .tc := ⟨.hbm, 318, rfl⟩
abbrev main_call1_call4_v3 : Ref sig .tc := ⟨.hbm, 319, rfl⟩
abbrev main_call1_call4_v4 : Ref sig .tc := ⟨.hbm, 320, rfl⟩
abbrev main_call1_call4_v5 : Ref sig .tc := ⟨.hbm, 321, rfl⟩
abbrev main_call1_call4_v6 : Ref sig .tc := ⟨.hbm, 322, rfl⟩
abbrev main_call1_call4_c_0 : Ref sig .tc := ⟨.hbm, 323, rfl⟩
abbrev main_call1_call4_v7 : Ref sig .tc := ⟨.hbm, 324, rfl⟩
abbrev main_call1_call4_v8 : Ref sig .tc := ⟨.hbm, 325, rfl⟩
abbrev main_call1_call4_c_1 : Ref sig .tc := ⟨.hbm, 326, rfl⟩
abbrev main_call1_call4_v9 : Ref sig .tc := ⟨.hbm, 327, rfl⟩
abbrev main_call1_call4_v10 : Ref sig .tc := ⟨.hbm, 328, rfl⟩
abbrev main_call1_call4_v11 : Ref sig .tc := ⟨.hbm, 329, rfl⟩
abbrev main_call1_call4_v12 : Ref sig .tc := ⟨.hbm, 330, rfl⟩
abbrev main_call1_call4_v13 : Ref sig .tc := ⟨.hbm, 331, rfl⟩
abbrev main_call1_call4_c_2 : Ref sig .tc := ⟨.hbm, 332, rfl⟩
abbrev main_call1_call4_v14 : Ref sig .tc := ⟨.hbm, 333, rfl⟩
abbrev main_call1_call4_v15 : Ref sig .tc := ⟨.hbm, 334, rfl⟩
abbrev main_call1_call4_c_3 : Ref sig .tc := ⟨.hbm, 335, rfl⟩
abbrev main_call1_call4_v16 : Ref sig .tc := ⟨.hbm, 336, rfl⟩
abbrev main_call1_call4_v17 : Ref sig .tc := ⟨.hbm, 337, rfl⟩
abbrev main_call1_call4_v18 : Ref sig .tc := ⟨.hbm, 338, rfl⟩
abbrev main_call1_call4_v19 : Ref sig .tc := ⟨.hbm, 339, rfl⟩
abbrev main_call1_call4_v20 : Ref sig .tc := ⟨.hbm, 340, rfl⟩
abbrev main_call1_call4_c_4 : Ref sig .tc := ⟨.hbm, 341, rfl⟩
abbrev main_call1_call4_v21 : Ref sig .tc := ⟨.hbm, 342, rfl⟩
abbrev main_call1_call4_v22 : Ref sig .tc := ⟨.hbm, 343, rfl⟩
abbrev main_call1_call4_c_5 : Ref sig .tc := ⟨.hbm, 344, rfl⟩
abbrev main_call1_call4_v23 : Ref sig .tc := ⟨.hbm, 345, rfl⟩
abbrev main_call1_call4_v24 : Ref sig .tc := ⟨.hbm, 346, rfl⟩
abbrev main_call1_call4_v25 : Ref sig .tc := ⟨.hbm, 347, rfl⟩
abbrev main_call1_call4_v26 : Ref sig .tc := ⟨.hbm, 348, rfl⟩
abbrev main_call1_call4_v27 : Ref sig .tc := ⟨.hbm, 349, rfl⟩
abbrev main_call1_call4_c_6 : Ref sig .tc := ⟨.hbm, 350, rfl⟩
abbrev main_call1_call4_v28 : Ref sig .tc := ⟨.hbm, 351, rfl⟩
abbrev main_call1_call4_v29 : Ref sig .tc := ⟨.hbm, 352, rfl⟩
abbrev main_call1_call4_c_7 : Ref sig .tc := ⟨.hbm, 353, rfl⟩
abbrev main_call1_call4_v30 : Ref sig .tc := ⟨.hbm, 354, rfl⟩
abbrev main_call1_call4_v31 : Ref sig .tc := ⟨.hbm, 355, rfl⟩
abbrev main_call1_call4_v32 : Ref sig .tc := ⟨.hbm, 356, rfl⟩
abbrev main_call1_call4_v33 : Ref sig .tc := ⟨.hbm, 357, rfl⟩
abbrev main_call1_call4_v34 : Ref sig .tc := ⟨.hbm, 358, rfl⟩
abbrev main_call1_call4_v35 : Ref sig .tc := ⟨.hbm, 359, rfl⟩
abbrev main_call1_call4_v36 : Ref sig .tc := ⟨.hbm, 360, rfl⟩
abbrev main_call1_call4_v37 : Ref sig .tc := ⟨.hbm, 361, rfl⟩
abbrev main_call1_call4_c_8 : Ref sig .tc := ⟨.hbm, 362, rfl⟩
abbrev main_call1_call4_v38 : Ref sig .tc := ⟨.hbm, 363, rfl⟩
abbrev main_call1_call4_v39 : Ref sig .tc := ⟨.hbm, 364, rfl⟩
abbrev main_call1_call4_v40 : Ref sig .tc := ⟨.hbm, 365, rfl⟩
abbrev main_call1_call4_c_9 : Ref sig .tc := ⟨.hbm, 366, rfl⟩
abbrev main_call1_call4_v41 : Ref sig .tc := ⟨.hbm, 367, rfl⟩
abbrev main_call1_call4_v42 : Ref sig .tc := ⟨.hbm, 368, rfl⟩
abbrev main_call1_call4_c_10 : Ref sig .tc := ⟨.hbm, 369, rfl⟩
abbrev main_call1_call4_v43 : Ref sig .tc := ⟨.hbm, 370, rfl⟩
abbrev main_call1_call4_v44 : Ref sig .tc := ⟨.hbm, 371, rfl⟩
abbrev main_call1_call4_v45 : Ref sig .tc := ⟨.hbm, 372, rfl⟩
abbrev main_call1_call4_v46 : Ref sig .tc := ⟨.hbm, 373, rfl⟩
abbrev main_call1_call4_v47 : Ref sig .tc := ⟨.hbm, 374, rfl⟩
abbrev main_call1_call4_c_11 : Ref sig .tc := ⟨.hbm, 375, rfl⟩
abbrev main_call1_call4_v48 : Ref sig .tc := ⟨.hbm, 376, rfl⟩
abbrev main_call1_call4_v49 : Ref sig .tc := ⟨.hbm, 377, rfl⟩
abbrev main_call1_call4_c_12 : Ref sig .tc := ⟨.hbm, 378, rfl⟩
abbrev main_call1_call4_v50 : Ref sig .tc := ⟨.hbm, 379, rfl⟩
abbrev main_call1_call4_v51 : Ref sig .tc := ⟨.hbm, 380, rfl⟩
abbrev main_call1_call4_v52 : Ref sig .tc := ⟨.hbm, 381, rfl⟩
abbrev main_call1_call4_v53 : Ref sig .tc := ⟨.hbm, 382, rfl⟩
abbrev main_call1_call4_v54 : Ref sig .tc := ⟨.hbm, 383, rfl⟩
abbrev main_call1_call4_c_13 : Ref sig .tc := ⟨.hbm, 384, rfl⟩
abbrev main_call1_call4_v55 : Ref sig .tc := ⟨.hbm, 385, rfl⟩
abbrev main_call1_call4_v56 : Ref sig .tc := ⟨.hbm, 386, rfl⟩
abbrev main_call1_call4_c_14 : Ref sig .tc := ⟨.hbm, 387, rfl⟩
abbrev main_call1_call4_v57 : Ref sig .tc := ⟨.hbm, 388, rfl⟩
abbrev main_call1_call4_v58 : Ref sig .tc := ⟨.hbm, 389, rfl⟩
abbrev main_call1_call4_v59 : Ref sig .tc := ⟨.hbm, 390, rfl⟩
abbrev main_call1_call4_v60 : Ref sig .tc := ⟨.hbm, 391, rfl⟩
abbrev main_call1_call4_v61 : Ref sig .tc := ⟨.hbm, 392, rfl⟩
abbrev main_call1_call4_c_15 : Ref sig .tc := ⟨.hbm, 393, rfl⟩
abbrev main_call1_call4_v62 : Ref sig .tc := ⟨.hbm, 394, rfl⟩
abbrev main_call1_call4_v63 : Ref sig .tc := ⟨.hbm, 395, rfl⟩
abbrev main_call1_call4_c_16 : Ref sig .tc := ⟨.hbm, 396, rfl⟩
abbrev main_call1_call4_v64 : Ref sig .tc := ⟨.hbm, 397, rfl⟩
abbrev main_call1_call4_v65 : Ref sig .tc := ⟨.hbm, 398, rfl⟩
abbrev main_call1_call4_v66 : Ref sig .tc := ⟨.hbm, 399, rfl⟩
abbrev main_call1_call4_v67 : Ref sig .tc := ⟨.hbm, 400, rfl⟩
abbrev main_call1_call4_v68 : Ref sig .tc := ⟨.hbm, 401, rfl⟩
abbrev main_call1_call4_v69 : Ref sig .tc := ⟨.hbm, 402, rfl⟩
abbrev main_call1_call4_v70 : Ref sig .tc := ⟨.hbm, 403, rfl⟩
abbrev main_call1_call4_v71 : Ref sig .tc := ⟨.hbm, 404, rfl⟩
abbrev main_call1_call4_c_17 : Ref sig .tc := ⟨.hbm, 405, rfl⟩
abbrev main_call1_call4_v72 : Ref sig .tc := ⟨.hbm, 406, rfl⟩
abbrev main_call1_call4_v73 : Ref sig .tc := ⟨.hbm, 407, rfl⟩
abbrev main_call1_call4_v74 : Ref sig .tc := ⟨.hbm, 408, rfl⟩
abbrev main_call1_call4_c_18 : Ref sig .tc := ⟨.hbm, 409, rfl⟩
abbrev main_call1_call4_v75 : Ref sig .tc := ⟨.hbm, 410, rfl⟩
abbrev main_call1_call4_v76 : Ref sig .tc := ⟨.hbm, 411, rfl⟩
abbrev main_call1_call4_c_19 : Ref sig .tc := ⟨.hbm, 412, rfl⟩
abbrev main_call1_call4_v77 : Ref sig .tc := ⟨.hbm, 413, rfl⟩
abbrev main_call1_call4_v78 : Ref sig .tc := ⟨.hbm, 414, rfl⟩
abbrev main_call1_call4_v79 : Ref sig .tc := ⟨.hbm, 415, rfl⟩
abbrev main_call1_call4_v80 : Ref sig .tc := ⟨.hbm, 416, rfl⟩
abbrev main_call1_call4_v81 : Ref sig .tc := ⟨.hbm, 417, rfl⟩
abbrev main_call1_call4_c_20 : Ref sig .tc := ⟨.hbm, 418, rfl⟩
abbrev main_call1_call4_v82 : Ref sig .tc := ⟨.hbm, 419, rfl⟩
abbrev main_call1_call4_v83 : Ref sig .tc := ⟨.hbm, 420, rfl⟩
abbrev main_call1_call4_c_21 : Ref sig .tc := ⟨.hbm, 421, rfl⟩
abbrev main_call1_call4_v84 : Ref sig .tc := ⟨.hbm, 422, rfl⟩
abbrev main_call1_call4_v85 : Ref sig .tc := ⟨.hbm, 423, rfl⟩
abbrev main_call1_call4_v86 : Ref sig .tc := ⟨.hbm, 424, rfl⟩
abbrev main_call1_call4_v87 : Ref sig .tc := ⟨.hbm, 425, rfl⟩
abbrev main_call1_call4_v88 : Ref sig .tc := ⟨.hbm, 426, rfl⟩
abbrev main_call1_call4_c_22 : Ref sig .tc := ⟨.hbm, 427, rfl⟩
abbrev main_call1_call4_v89 : Ref sig .tc := ⟨.hbm, 428, rfl⟩
abbrev main_call1_call4_v90 : Ref sig .tc := ⟨.hbm, 429, rfl⟩
abbrev main_call1_call4_c_23 : Ref sig .tc := ⟨.hbm, 430, rfl⟩
abbrev main_call1_call4_v91 : Ref sig .tc := ⟨.hbm, 431, rfl⟩
abbrev main_call1_call4_v92 : Ref sig .tc := ⟨.hbm, 432, rfl⟩
abbrev main_call1_call4_v93 : Ref sig .tc := ⟨.hbm, 433, rfl⟩
abbrev main_call1_call4_v94 : Ref sig .tc := ⟨.hbm, 434, rfl⟩
abbrev main_call1_call4_v95 : Ref sig .tc := ⟨.hbm, 435, rfl⟩
abbrev main_call1_call4_c_24 : Ref sig .tc := ⟨.hbm, 436, rfl⟩
abbrev main_call1_call4_v96 : Ref sig .tc := ⟨.hbm, 437, rfl⟩
abbrev main_call1_call4_v97 : Ref sig .tc := ⟨.hbm, 438, rfl⟩
abbrev main_call1_call4_c_25 : Ref sig .tc := ⟨.hbm, 439, rfl⟩
abbrev main_call1_call4_v98 : Ref sig .tc := ⟨.hbm, 440, rfl⟩
abbrev main_call1_call4_v99 : Ref sig .tc := ⟨.hbm, 441, rfl⟩
abbrev main_call1_call4_v100 : Ref sig .tc := ⟨.hbm, 442, rfl⟩
abbrev main_call1_call4_v101 : Ref sig .tc := ⟨.hbm, 443, rfl⟩
abbrev main_call1_call4_v102 : Ref sig .tc := ⟨.hbm, 444, rfl⟩
abbrev main_call1_call4_v103 : Ref sig .tc := ⟨.hbm, 445, rfl⟩
abbrev main_call1_call4_v104 : Ref sig .tc := ⟨.hbm, 446, rfl⟩
abbrev main_call1_call4_v105 : Ref sig .tc := ⟨.hbm, 447, rfl⟩
abbrev main_call1_call4_c_26 : Ref sig .tc := ⟨.hbm, 448, rfl⟩
abbrev main_call1_call4_v106 : Ref sig .tc := ⟨.hbm, 449, rfl⟩
abbrev main_call1_call4_v107 : Ref sig .tc := ⟨.hbm, 450, rfl⟩
abbrev main_call1_call4_v108 : Ref sig .tc := ⟨.hbm, 451, rfl⟩
abbrev main_call1_call4_c_27 : Ref sig .tc := ⟨.hbm, 452, rfl⟩
abbrev main_call1_call4_v109 : Ref sig .tc := ⟨.hbm, 453, rfl⟩
abbrev main_call1_call4_v110 : Ref sig .tc := ⟨.hbm, 454, rfl⟩
abbrev main_call1_call4_c_28 : Ref sig .tc := ⟨.hbm, 455, rfl⟩
abbrev main_call1_call4_v111 : Ref sig .tc := ⟨.hbm, 456, rfl⟩
abbrev main_call1_call4_v112 : Ref sig .tc := ⟨.hbm, 457, rfl⟩
abbrev main_call1_call4_v113 : Ref sig .tc := ⟨.hbm, 458, rfl⟩
abbrev main_call1_call4_v114 : Ref sig .tc := ⟨.hbm, 459, rfl⟩
abbrev main_call1_call4_v115 : Ref sig .tc := ⟨.hbm, 460, rfl⟩
abbrev main_call1_call4_c_29 : Ref sig .tc := ⟨.hbm, 461, rfl⟩
abbrev main_call1_call4_v116 : Ref sig .tc := ⟨.hbm, 462, rfl⟩
abbrev main_call1_call4_v117 : Ref sig .tc := ⟨.hbm, 463, rfl⟩
abbrev main_call1_call4_c_30 : Ref sig .tc := ⟨.hbm, 464, rfl⟩
abbrev main_call1_call4_v118 : Ref sig .tc := ⟨.hbm, 465, rfl⟩
abbrev main_call1_call4_v119 : Ref sig .tc := ⟨.hbm, 466, rfl⟩
abbrev main_call1_call4_v120 : Ref sig .tc := ⟨.hbm, 467, rfl⟩
abbrev main_call1_call4_v121 : Ref sig .tc := ⟨.hbm, 468, rfl⟩
abbrev main_call1_call4_v122 : Ref sig .tc := ⟨.hbm, 469, rfl⟩
abbrev main_call1_call4_c_31 : Ref sig .tc := ⟨.hbm, 470, rfl⟩
abbrev main_call1_call4_v123 : Ref sig .tc := ⟨.hbm, 471, rfl⟩
abbrev main_call1_call4_v124 : Ref sig .tc := ⟨.hbm, 472, rfl⟩
abbrev main_call1_call4_c_32 : Ref sig .tc := ⟨.hbm, 473, rfl⟩
abbrev main_call1_call4_v125 : Ref sig .tc := ⟨.hbm, 474, rfl⟩
abbrev main_call1_call4_v126 : Ref sig .tc := ⟨.hbm, 475, rfl⟩
abbrev main_call1_call4_v127 : Ref sig .tc := ⟨.hbm, 476, rfl⟩
abbrev main_call1_call4_v128 : Ref sig .tc := ⟨.hbm, 477, rfl⟩
abbrev main_call1_call4_v129 : Ref sig .tc := ⟨.hbm, 478, rfl⟩
abbrev main_call1_call4_c_33 : Ref sig .tc := ⟨.hbm, 479, rfl⟩
abbrev main_call1_call4_v130 : Ref sig .tc := ⟨.hbm, 480, rfl⟩
abbrev main_call1_call4_v131 : Ref sig .tc := ⟨.hbm, 481, rfl⟩
abbrev main_call1_call4_c_34 : Ref sig .tc := ⟨.hbm, 482, rfl⟩
abbrev main_call1_call4_v132 : Ref sig .tc := ⟨.hbm, 483, rfl⟩
abbrev main_call1_call4_v133 : Ref sig .tc := ⟨.hbm, 484, rfl⟩
abbrev main_call1_call4_v134 : Ref sig .tc := ⟨.hbm, 485, rfl⟩
abbrev main_call1_call4_v135 : Ref sig .tc := ⟨.hbm, 486, rfl⟩
abbrev main_call1_call4_v136 : Ref sig .tc := ⟨.hbm, 487, rfl⟩
abbrev main_call1_call4_v137 : Ref sig .tc := ⟨.hbm, 488, rfl⟩
abbrev main_call1_call4_v138 : Ref sig .tc := ⟨.hbm, 489, rfl⟩
abbrev main_call1_call4_v139 : Ref sig .tc := ⟨.hbm, 490, rfl⟩
abbrev main_call1_call4_c_35 : Ref sig .tc := ⟨.hbm, 491, rfl⟩
abbrev main_call1_call4_v140 : Ref sig .tc := ⟨.hbm, 492, rfl⟩
abbrev main_call1_call4_v141 : Ref sig .tc := ⟨.hbm, 493, rfl⟩
abbrev main_call1_call4_v142 : Ref sig .tc := ⟨.hbm, 494, rfl⟩
abbrev main_call1_call4_c_36 : Ref sig .tc := ⟨.hbm, 495, rfl⟩
abbrev main_call1_call4_v143 : Ref sig .tc := ⟨.hbm, 496, rfl⟩
abbrev main_call1_call4_v144 : Ref sig .tc := ⟨.hbm, 497, rfl⟩
abbrev main_call1_call4_c_37 : Ref sig .tc := ⟨.hbm, 498, rfl⟩
abbrev main_call1_call4_v145 : Ref sig .tc := ⟨.hbm, 499, rfl⟩
abbrev main_call1_call4_v146 : Ref sig .tc := ⟨.hbm, 500, rfl⟩
abbrev main_call1_call4_v147 : Ref sig .tc := ⟨.hbm, 501, rfl⟩
abbrev main_call1_call4_v148 : Ref sig .tc := ⟨.hbm, 502, rfl⟩
abbrev main_call1_call4_v149 : Ref sig .tc := ⟨.hbm, 503, rfl⟩
abbrev main_call1_call4_c_38 : Ref sig .tc := ⟨.hbm, 504, rfl⟩
abbrev main_call1_call4_v150 : Ref sig .tc := ⟨.hbm, 505, rfl⟩
abbrev main_call1_call4_v151 : Ref sig .tc := ⟨.hbm, 506, rfl⟩
abbrev main_call1_call4_c_39 : Ref sig .tc := ⟨.hbm, 507, rfl⟩
abbrev main_call1_call4_v152 : Ref sig .tc := ⟨.hbm, 508, rfl⟩
abbrev main_call1_call4_v153 : Ref sig .tc := ⟨.hbm, 509, rfl⟩
abbrev main_call1_call4_v154 : Ref sig .tc := ⟨.hbm, 510, rfl⟩
abbrev main_call1_call4_v155 : Ref sig .tc := ⟨.hbm, 511, rfl⟩
abbrev main_call1_call4_v156 : Ref sig .tc := ⟨.hbm, 512, rfl⟩
abbrev main_call1_call4_c_40 : Ref sig .tc := ⟨.hbm, 513, rfl⟩
abbrev main_call1_call4_v157 : Ref sig .tc := ⟨.hbm, 514, rfl⟩
abbrev main_call1_call4_v158 : Ref sig .tc := ⟨.hbm, 515, rfl⟩
abbrev main_call1_call4_c_41 : Ref sig .tc := ⟨.hbm, 516, rfl⟩
abbrev main_call1_call4_v159 : Ref sig .tc := ⟨.hbm, 517, rfl⟩
abbrev main_call1_call4_v160 : Ref sig .tc := ⟨.hbm, 518, rfl⟩
abbrev main_call1_call4_v161 : Ref sig .tc := ⟨.hbm, 519, rfl⟩
abbrev main_call1_call4_v162 : Ref sig .tc := ⟨.hbm, 520, rfl⟩
abbrev main_call1_call4_v163 : Ref sig .tc := ⟨.hbm, 521, rfl⟩
abbrev main_call1_call4_c_42 : Ref sig .tc := ⟨.hbm, 522, rfl⟩
abbrev main_call1_call4_v164 : Ref sig .tc := ⟨.hbm, 523, rfl⟩
abbrev main_call1_call4_v165 : Ref sig .tc := ⟨.hbm, 524, rfl⟩
abbrev main_call1_call4_c_43 : Ref sig .tc := ⟨.hbm, 525, rfl⟩
abbrev main_call1_call4_v166 : Ref sig .tc := ⟨.hbm, 526, rfl⟩
abbrev main_call1_call4_v167 : Ref sig .tc := ⟨.hbm, 527, rfl⟩
abbrev main_call1_call4_v168 : Ref sig .tc := ⟨.hbm, 528, rfl⟩
abbrev main_call1_call4_v169 : Ref sig .tc := ⟨.hbm, 529, rfl⟩
abbrev main_call1_call4_v170 : Ref sig .tc := ⟨.hbm, 530, rfl⟩
abbrev main_call1_v32_0 : Ref sig .tc := ⟨.hbm, 531, rfl⟩
abbrev main_call1_call4_v172 : Ref sig .tc := ⟨.hbm, 532, rfl⟩
abbrev main_call1_call4_v173 : Ref sig .tc := ⟨.hbm, 533, rfl⟩
abbrev main_call1_call4_c_44 : Ref sig .tc := ⟨.hbm, 534, rfl⟩
abbrev main_call1_call4_v174 : Ref sig .tc := ⟨.hbm, 535, rfl⟩
abbrev main_call1_v32_1 : Ref sig .tc := ⟨.hbm, 536, rfl⟩
abbrev main_call1_v33 : Ref sig .tc := ⟨.hbm, 537, rfl⟩
abbrev main_call1_v34 : Ref sig .tc := ⟨.hbm, 538, rfl⟩
abbrev main_call1_v35 : Ref sig .tc := ⟨.hbm, 539, rfl⟩
abbrev main_call1_v36 : Ref sig .tc := ⟨.hbm, 540, rfl⟩
abbrev main_call1_v37 : Ref sig .tc := ⟨.hbm, 541, rfl⟩
abbrev main_call1_v38 : Ref sig .tc := ⟨.hbm, 542, rfl⟩
abbrev main_call1_v39 : Ref sig .tc := ⟨.hbm, 543, rfl⟩
abbrev main_call1_v40 : Ref sig .tc := ⟨.hbm, 544, rfl⟩
abbrev main_call1_c_10 : Ref sig .tc := ⟨.hbm, 545, rfl⟩
abbrev main_call1_v41 : Ref sig .tc := ⟨.hbm, 546, rfl⟩
abbrev main_call1_v42 : Ref sig .tc := ⟨.hbm, 547, rfl⟩
abbrev main_call1_c_11 : Ref sig .tc := ⟨.hbm, 548, rfl⟩
abbrev main_call1_v43 : Ref sig .tc := ⟨.hbm, 549, rfl⟩
abbrev main_call1_v44 : Ref sig .tc := ⟨.hbm, 550, rfl⟩
abbrev main_call1_c_12 : Ref sig .tc := ⟨.hbm, 551, rfl⟩
abbrev main_call1_v45 : Ref sig .tc := ⟨.hbm, 552, rfl⟩
abbrev main_call1_v46 : Ref sig .tc := ⟨.hbm, 553, rfl⟩
abbrev main_call1_v47 : Ref sig .tc := ⟨.hbm, 554, rfl⟩
abbrev main_call1_v48 : Ref sig .tc := ⟨.hbm, 555, rfl⟩
abbrev main_call1_c_13 : Ref sig .tc := ⟨.hbm, 556, rfl⟩
abbrev main_call1_v49 : Ref sig .tc := ⟨.hbm, 557, rfl⟩
abbrev main_call1_v50 : Ref sig .tc := ⟨.hbm, 558, rfl⟩
abbrev main_call1_v51 : Ref sig .tc := ⟨.hbm, 559, rfl⟩
abbrev main_call1_v52 : Ref sig .tc := ⟨.hbm, 560, rfl⟩
abbrev main_call1_call5_v0 : Ref sig .tc := ⟨.hbm, 561, rfl⟩
abbrev main_call1_call5_c : Ref sig .tc := ⟨.hbm, 562, rfl⟩
abbrev main_call1_call5_v1 : Ref sig .tc := ⟨.hbm, 563, rfl⟩
abbrev main_call1_call5_v2 : Ref sig .tc := ⟨.hbm, 564, rfl⟩
abbrev main_call1_call5_v3 : Ref sig .tc := ⟨.hbm, 565, rfl⟩
abbrev main_call1_call5_v4 : Ref sig .tc := ⟨.hbm, 566, rfl⟩
abbrev main_call1_call5_v5 : Ref sig .tc := ⟨.hbm, 567, rfl⟩
abbrev main_call1_call5_v6 : Ref sig .tc := ⟨.hbm, 568, rfl⟩
abbrev main_call1_call5_c_0 : Ref sig .tc := ⟨.hbm, 569, rfl⟩
abbrev main_call1_call5_v7 : Ref sig .tc := ⟨.hbm, 570, rfl⟩
abbrev main_call1_call5_v8 : Ref sig .tc := ⟨.hbm, 571, rfl⟩
abbrev main_call1_call5_c_1 : Ref sig .tc := ⟨.hbm, 572, rfl⟩
abbrev main_call1_call5_v9 : Ref sig .tc := ⟨.hbm, 573, rfl⟩
abbrev main_call1_call5_v10 : Ref sig .tc := ⟨.hbm, 574, rfl⟩
abbrev main_call1_call5_v11 : Ref sig .tc := ⟨.hbm, 575, rfl⟩
abbrev main_call1_call5_v12 : Ref sig .tc := ⟨.hbm, 576, rfl⟩
abbrev main_call1_call5_v13 : Ref sig .tc := ⟨.hbm, 577, rfl⟩
abbrev main_call1_call5_c_2 : Ref sig .tc := ⟨.hbm, 578, rfl⟩
abbrev main_call1_call5_v14 : Ref sig .tc := ⟨.hbm, 579, rfl⟩
abbrev main_call1_call5_v15 : Ref sig .tc := ⟨.hbm, 580, rfl⟩
abbrev main_call1_call5_c_3 : Ref sig .tc := ⟨.hbm, 581, rfl⟩
abbrev main_call1_call5_v16 : Ref sig .tc := ⟨.hbm, 582, rfl⟩
abbrev main_call1_call5_v17 : Ref sig .tc := ⟨.hbm, 583, rfl⟩
abbrev main_call1_call5_v18 : Ref sig .tc := ⟨.hbm, 584, rfl⟩
abbrev main_call1_call5_v19 : Ref sig .tc := ⟨.hbm, 585, rfl⟩
abbrev main_call1_call5_v20 : Ref sig .tc := ⟨.hbm, 586, rfl⟩
abbrev main_call1_call5_c_4 : Ref sig .tc := ⟨.hbm, 587, rfl⟩
abbrev main_call1_call5_v21 : Ref sig .tc := ⟨.hbm, 588, rfl⟩
abbrev main_call1_call5_v22 : Ref sig .tc := ⟨.hbm, 589, rfl⟩
abbrev main_call1_call5_c_5 : Ref sig .tc := ⟨.hbm, 590, rfl⟩
abbrev main_call1_call5_v23 : Ref sig .tc := ⟨.hbm, 591, rfl⟩
abbrev main_call1_call5_v24 : Ref sig .tc := ⟨.hbm, 592, rfl⟩
abbrev main_call1_call5_v25 : Ref sig .tc := ⟨.hbm, 593, rfl⟩
abbrev main_call1_call5_v26 : Ref sig .tc := ⟨.hbm, 594, rfl⟩
abbrev main_call1_call5_v27 : Ref sig .tc := ⟨.hbm, 595, rfl⟩
abbrev main_call1_call5_c_6 : Ref sig .tc := ⟨.hbm, 596, rfl⟩
abbrev main_call1_call5_v28 : Ref sig .tc := ⟨.hbm, 597, rfl⟩
abbrev main_call1_call5_v29 : Ref sig .tc := ⟨.hbm, 598, rfl⟩
abbrev main_call1_call5_c_7 : Ref sig .tc := ⟨.hbm, 599, rfl⟩
abbrev main_call1_call5_v30 : Ref sig .tc := ⟨.hbm, 600, rfl⟩
abbrev main_call1_call5_v31 : Ref sig .tc := ⟨.hbm, 601, rfl⟩
abbrev main_call1_call5_v32 : Ref sig .tc := ⟨.hbm, 602, rfl⟩
abbrev main_call1_call5_v33 : Ref sig .tc := ⟨.hbm, 603, rfl⟩
abbrev main_call1_call5_v34 : Ref sig .tc := ⟨.hbm, 604, rfl⟩
abbrev main_call1_call5_v35 : Ref sig .tc := ⟨.hbm, 605, rfl⟩
abbrev main_call1_call5_v36 : Ref sig .tc := ⟨.hbm, 606, rfl⟩
abbrev main_call1_call5_v37 : Ref sig .tc := ⟨.hbm, 607, rfl⟩
abbrev main_call1_call5_c_8 : Ref sig .tc := ⟨.hbm, 608, rfl⟩
abbrev main_call1_call5_v38 : Ref sig .tc := ⟨.hbm, 609, rfl⟩
abbrev main_call1_call5_v39 : Ref sig .tc := ⟨.hbm, 610, rfl⟩
abbrev main_call1_call5_v40 : Ref sig .tc := ⟨.hbm, 611, rfl⟩
abbrev main_call1_call5_c_9 : Ref sig .tc := ⟨.hbm, 612, rfl⟩
abbrev main_call1_call5_v41 : Ref sig .tc := ⟨.hbm, 613, rfl⟩
abbrev main_call1_call5_v42 : Ref sig .tc := ⟨.hbm, 614, rfl⟩
abbrev main_call1_call5_c_10 : Ref sig .tc := ⟨.hbm, 615, rfl⟩
abbrev main_call1_call5_v43 : Ref sig .tc := ⟨.hbm, 616, rfl⟩
abbrev main_call1_call5_v44 : Ref sig .tc := ⟨.hbm, 617, rfl⟩
abbrev main_call1_call5_v45 : Ref sig .tc := ⟨.hbm, 618, rfl⟩
abbrev main_call1_call5_v46 : Ref sig .tc := ⟨.hbm, 619, rfl⟩
abbrev main_call1_call5_v47 : Ref sig .tc := ⟨.hbm, 620, rfl⟩
abbrev main_call1_call5_c_11 : Ref sig .tc := ⟨.hbm, 621, rfl⟩
abbrev main_call1_call5_v48 : Ref sig .tc := ⟨.hbm, 622, rfl⟩
abbrev main_call1_call5_v49 : Ref sig .tc := ⟨.hbm, 623, rfl⟩
abbrev main_call1_call5_c_12 : Ref sig .tc := ⟨.hbm, 624, rfl⟩
abbrev main_call1_call5_v50 : Ref sig .tc := ⟨.hbm, 625, rfl⟩
abbrev main_call1_call5_v51 : Ref sig .tc := ⟨.hbm, 626, rfl⟩
abbrev main_call1_call5_v52 : Ref sig .tc := ⟨.hbm, 627, rfl⟩
abbrev main_call1_call5_v53 : Ref sig .tc := ⟨.hbm, 628, rfl⟩
abbrev main_call1_call5_v54 : Ref sig .tc := ⟨.hbm, 629, rfl⟩
abbrev main_call1_call5_c_13 : Ref sig .tc := ⟨.hbm, 630, rfl⟩
abbrev main_call1_call5_v55 : Ref sig .tc := ⟨.hbm, 631, rfl⟩
abbrev main_call1_call5_v56 : Ref sig .tc := ⟨.hbm, 632, rfl⟩
abbrev main_call1_call5_c_14 : Ref sig .tc := ⟨.hbm, 633, rfl⟩
abbrev main_call1_call5_v57 : Ref sig .tc := ⟨.hbm, 634, rfl⟩
abbrev main_call1_call5_v58 : Ref sig .tc := ⟨.hbm, 635, rfl⟩
abbrev main_call1_call5_v59 : Ref sig .tc := ⟨.hbm, 636, rfl⟩
abbrev main_call1_call5_v60 : Ref sig .tc := ⟨.hbm, 637, rfl⟩
abbrev main_call1_call5_v61 : Ref sig .tc := ⟨.hbm, 638, rfl⟩
abbrev main_call1_call5_c_15 : Ref sig .tc := ⟨.hbm, 639, rfl⟩
abbrev main_call1_call5_v62 : Ref sig .tc := ⟨.hbm, 640, rfl⟩
abbrev main_call1_call5_v63 : Ref sig .tc := ⟨.hbm, 641, rfl⟩
abbrev main_call1_call5_c_16 : Ref sig .tc := ⟨.hbm, 642, rfl⟩
abbrev main_call1_call5_v64 : Ref sig .tc := ⟨.hbm, 643, rfl⟩
abbrev main_call1_call5_v65 : Ref sig .tc := ⟨.hbm, 644, rfl⟩
abbrev main_call1_call5_v66 : Ref sig .tc := ⟨.hbm, 645, rfl⟩
abbrev main_call1_call5_v67 : Ref sig .tc := ⟨.hbm, 646, rfl⟩
abbrev main_call1_call5_v68 : Ref sig .tc := ⟨.hbm, 647, rfl⟩
abbrev main_call1_call5_v69 : Ref sig .tc := ⟨.hbm, 648, rfl⟩
abbrev main_call1_call5_v70 : Ref sig .tc := ⟨.hbm, 649, rfl⟩
abbrev main_call1_call5_v71 : Ref sig .tc := ⟨.hbm, 650, rfl⟩
abbrev main_call1_call5_c_17 : Ref sig .tc := ⟨.hbm, 651, rfl⟩
abbrev main_call1_call5_v72 : Ref sig .tc := ⟨.hbm, 652, rfl⟩
abbrev main_call1_call5_v73 : Ref sig .tc := ⟨.hbm, 653, rfl⟩
abbrev main_call1_call5_v74 : Ref sig .tc := ⟨.hbm, 654, rfl⟩
abbrev main_call1_call5_c_18 : Ref sig .tc := ⟨.hbm, 655, rfl⟩
abbrev main_call1_call5_v75 : Ref sig .tc := ⟨.hbm, 656, rfl⟩
abbrev main_call1_call5_v76 : Ref sig .tc := ⟨.hbm, 657, rfl⟩
abbrev main_call1_call5_c_19 : Ref sig .tc := ⟨.hbm, 658, rfl⟩
abbrev main_call1_call5_v77 : Ref sig .tc := ⟨.hbm, 659, rfl⟩
abbrev main_call1_call5_v78 : Ref sig .tc := ⟨.hbm, 660, rfl⟩
abbrev main_call1_call5_v79 : Ref sig .tc := ⟨.hbm, 661, rfl⟩
abbrev main_call1_call5_v80 : Ref sig .tc := ⟨.hbm, 662, rfl⟩
abbrev main_call1_call5_v81 : Ref sig .tc := ⟨.hbm, 663, rfl⟩
abbrev main_call1_call5_c_20 : Ref sig .tc := ⟨.hbm, 664, rfl⟩
abbrev main_call1_call5_v82 : Ref sig .tc := ⟨.hbm, 665, rfl⟩
abbrev main_call1_call5_v83 : Ref sig .tc := ⟨.hbm, 666, rfl⟩
abbrev main_call1_call5_c_21 : Ref sig .tc := ⟨.hbm, 667, rfl⟩
abbrev main_call1_call5_v84 : Ref sig .tc := ⟨.hbm, 668, rfl⟩
abbrev main_call1_call5_v85 : Ref sig .tc := ⟨.hbm, 669, rfl⟩
abbrev main_call1_call5_v86 : Ref sig .tc := ⟨.hbm, 670, rfl⟩
abbrev main_call1_call5_v87 : Ref sig .tc := ⟨.hbm, 671, rfl⟩
abbrev main_call1_call5_v88 : Ref sig .tc := ⟨.hbm, 672, rfl⟩
abbrev main_call1_call5_c_22 : Ref sig .tc := ⟨.hbm, 673, rfl⟩
abbrev main_call1_call5_v89 : Ref sig .tc := ⟨.hbm, 674, rfl⟩
abbrev main_call1_call5_v90 : Ref sig .tc := ⟨.hbm, 675, rfl⟩
abbrev main_call1_call5_c_23 : Ref sig .tc := ⟨.hbm, 676, rfl⟩
abbrev main_call1_call5_v91 : Ref sig .tc := ⟨.hbm, 677, rfl⟩
abbrev main_call1_call5_v92 : Ref sig .tc := ⟨.hbm, 678, rfl⟩
abbrev main_call1_call5_v93 : Ref sig .tc := ⟨.hbm, 679, rfl⟩
abbrev main_call1_call5_v94 : Ref sig .tc := ⟨.hbm, 680, rfl⟩
abbrev main_call1_call5_v95 : Ref sig .tc := ⟨.hbm, 681, rfl⟩
abbrev main_call1_call5_c_24 : Ref sig .tc := ⟨.hbm, 682, rfl⟩
abbrev main_call1_call5_v96 : Ref sig .tc := ⟨.hbm, 683, rfl⟩
abbrev main_call1_call5_v97 : Ref sig .tc := ⟨.hbm, 684, rfl⟩
abbrev main_call1_call5_c_25 : Ref sig .tc := ⟨.hbm, 685, rfl⟩
abbrev main_call1_call5_v98 : Ref sig .tc := ⟨.hbm, 686, rfl⟩
abbrev main_call1_call5_v99 : Ref sig .tc := ⟨.hbm, 687, rfl⟩
abbrev main_call1_call5_v100 : Ref sig .tc := ⟨.hbm, 688, rfl⟩
abbrev main_call1_call5_v101 : Ref sig .tc := ⟨.hbm, 689, rfl⟩
abbrev main_call1_call5_v102 : Ref sig .tc := ⟨.hbm, 690, rfl⟩
abbrev main_call1_call5_v103 : Ref sig .tc := ⟨.hbm, 691, rfl⟩
abbrev main_call1_call5_v104 : Ref sig .tc := ⟨.hbm, 692, rfl⟩
abbrev main_call1_call5_v105 : Ref sig .tc := ⟨.hbm, 693, rfl⟩
abbrev main_call1_call5_c_26 : Ref sig .tc := ⟨.hbm, 694, rfl⟩
abbrev main_call1_call5_v106 : Ref sig .tc := ⟨.hbm, 695, rfl⟩
abbrev main_call1_call5_v107 : Ref sig .tc := ⟨.hbm, 696, rfl⟩
abbrev main_call1_call5_v108 : Ref sig .tc := ⟨.hbm, 697, rfl⟩
abbrev main_call1_call5_c_27 : Ref sig .tc := ⟨.hbm, 698, rfl⟩
abbrev main_call1_call5_v109 : Ref sig .tc := ⟨.hbm, 699, rfl⟩
abbrev main_call1_call5_v110 : Ref sig .tc := ⟨.hbm, 700, rfl⟩
abbrev main_call1_call5_c_28 : Ref sig .tc := ⟨.hbm, 701, rfl⟩
abbrev main_call1_call5_v111 : Ref sig .tc := ⟨.hbm, 702, rfl⟩
abbrev main_call1_call5_v112 : Ref sig .tc := ⟨.hbm, 703, rfl⟩
abbrev main_call1_call5_v113 : Ref sig .tc := ⟨.hbm, 704, rfl⟩
abbrev main_call1_call5_v114 : Ref sig .tc := ⟨.hbm, 705, rfl⟩
abbrev main_call1_call5_v115 : Ref sig .tc := ⟨.hbm, 706, rfl⟩
abbrev main_call1_call5_c_29 : Ref sig .tc := ⟨.hbm, 707, rfl⟩
abbrev main_call1_call5_v116 : Ref sig .tc := ⟨.hbm, 708, rfl⟩
abbrev main_call1_call5_v117 : Ref sig .tc := ⟨.hbm, 709, rfl⟩
abbrev main_call1_call5_c_30 : Ref sig .tc := ⟨.hbm, 710, rfl⟩
abbrev main_call1_call5_v118 : Ref sig .tc := ⟨.hbm, 711, rfl⟩
abbrev main_call1_call5_v119 : Ref sig .tc := ⟨.hbm, 712, rfl⟩
abbrev main_call1_call5_v120 : Ref sig .tc := ⟨.hbm, 713, rfl⟩
abbrev main_call1_call5_v121 : Ref sig .tc := ⟨.hbm, 714, rfl⟩
abbrev main_call1_call5_v122 : Ref sig .tc := ⟨.hbm, 715, rfl⟩
abbrev main_call1_call5_c_31 : Ref sig .tc := ⟨.hbm, 716, rfl⟩
abbrev main_call1_call5_v123 : Ref sig .tc := ⟨.hbm, 717, rfl⟩
abbrev main_call1_call5_v124 : Ref sig .tc := ⟨.hbm, 718, rfl⟩
abbrev main_call1_call5_c_32 : Ref sig .tc := ⟨.hbm, 719, rfl⟩
abbrev main_call1_call5_v125 : Ref sig .tc := ⟨.hbm, 720, rfl⟩
abbrev main_call1_call5_v126 : Ref sig .tc := ⟨.hbm, 721, rfl⟩
abbrev main_call1_call5_v127 : Ref sig .tc := ⟨.hbm, 722, rfl⟩
abbrev main_call1_call5_v128 : Ref sig .tc := ⟨.hbm, 723, rfl⟩
abbrev main_call1_call5_v129 : Ref sig .tc := ⟨.hbm, 724, rfl⟩
abbrev main_call1_call5_c_33 : Ref sig .tc := ⟨.hbm, 725, rfl⟩
abbrev main_call1_call5_v130 : Ref sig .tc := ⟨.hbm, 726, rfl⟩
abbrev main_call1_call5_v131 : Ref sig .tc := ⟨.hbm, 727, rfl⟩
abbrev main_call1_call5_c_34 : Ref sig .tc := ⟨.hbm, 728, rfl⟩
abbrev main_call1_call5_v132 : Ref sig .tc := ⟨.hbm, 729, rfl⟩
abbrev main_call1_call5_v133 : Ref sig .tc := ⟨.hbm, 730, rfl⟩
abbrev main_call1_call5_v134 : Ref sig .tc := ⟨.hbm, 731, rfl⟩
abbrev main_call1_call5_v135 : Ref sig .tc := ⟨.hbm, 732, rfl⟩
abbrev main_call1_call5_v136 : Ref sig .tc := ⟨.hbm, 733, rfl⟩
abbrev main_call1_call5_v137 : Ref sig .tc := ⟨.hbm, 734, rfl⟩
abbrev main_call1_call5_v138 : Ref sig .tc := ⟨.hbm, 735, rfl⟩
abbrev main_call1_call5_v139 : Ref sig .tc := ⟨.hbm, 736, rfl⟩
abbrev main_call1_call5_c_35 : Ref sig .tc := ⟨.hbm, 737, rfl⟩
abbrev main_call1_call5_v140 : Ref sig .tc := ⟨.hbm, 738, rfl⟩
abbrev main_call1_call5_v141 : Ref sig .tc := ⟨.hbm, 739, rfl⟩
abbrev main_call1_call5_v142 : Ref sig .tc := ⟨.hbm, 740, rfl⟩
abbrev main_call1_call5_c_36 : Ref sig .tc := ⟨.hbm, 741, rfl⟩
abbrev main_call1_call5_v143 : Ref sig .tc := ⟨.hbm, 742, rfl⟩
abbrev main_call1_call5_v144 : Ref sig .tc := ⟨.hbm, 743, rfl⟩
abbrev main_call1_call5_c_37 : Ref sig .tc := ⟨.hbm, 744, rfl⟩
abbrev main_call1_call5_v145 : Ref sig .tc := ⟨.hbm, 745, rfl⟩
abbrev main_call1_call5_v146 : Ref sig .tc := ⟨.hbm, 746, rfl⟩
abbrev main_call1_call5_v147 : Ref sig .tc := ⟨.hbm, 747, rfl⟩
abbrev main_call1_call5_v148 : Ref sig .tc := ⟨.hbm, 748, rfl⟩
abbrev main_call1_call5_v149 : Ref sig .tc := ⟨.hbm, 749, rfl⟩
abbrev main_call1_call5_c_38 : Ref sig .tc := ⟨.hbm, 750, rfl⟩
abbrev main_call1_call5_v150 : Ref sig .tc := ⟨.hbm, 751, rfl⟩
abbrev main_call1_call5_v151 : Ref sig .tc := ⟨.hbm, 752, rfl⟩
abbrev main_call1_call5_c_39 : Ref sig .tc := ⟨.hbm, 753, rfl⟩
abbrev main_call1_call5_v152 : Ref sig .tc := ⟨.hbm, 754, rfl⟩
abbrev main_call1_call5_v153 : Ref sig .tc := ⟨.hbm, 755, rfl⟩
abbrev main_call1_call5_v154 : Ref sig .tc := ⟨.hbm, 756, rfl⟩
abbrev main_call1_call5_v155 : Ref sig .tc := ⟨.hbm, 757, rfl⟩
abbrev main_call1_call5_v156 : Ref sig .tc := ⟨.hbm, 758, rfl⟩
abbrev main_call1_call5_c_40 : Ref sig .tc := ⟨.hbm, 759, rfl⟩
abbrev main_call1_call5_v157 : Ref sig .tc := ⟨.hbm, 760, rfl⟩
abbrev main_call1_call5_v158 : Ref sig .tc := ⟨.hbm, 761, rfl⟩
abbrev main_call1_call5_c_41 : Ref sig .tc := ⟨.hbm, 762, rfl⟩
abbrev main_call1_call5_v159 : Ref sig .tc := ⟨.hbm, 763, rfl⟩
abbrev main_call1_call5_v160 : Ref sig .tc := ⟨.hbm, 764, rfl⟩
abbrev main_call1_call5_v161 : Ref sig .tc := ⟨.hbm, 765, rfl⟩
abbrev main_call1_call5_v162 : Ref sig .tc := ⟨.hbm, 766, rfl⟩
abbrev main_call1_call5_v163 : Ref sig .tc := ⟨.hbm, 767, rfl⟩
abbrev main_call1_call5_c_42 : Ref sig .tc := ⟨.hbm, 768, rfl⟩
abbrev main_call1_call5_v164 : Ref sig .tc := ⟨.hbm, 769, rfl⟩
abbrev main_call1_call5_v165 : Ref sig .tc := ⟨.hbm, 770, rfl⟩
abbrev main_call1_call5_c_43 : Ref sig .tc := ⟨.hbm, 771, rfl⟩
abbrev main_call1_call5_v166 : Ref sig .tc := ⟨.hbm, 772, rfl⟩
abbrev main_call1_call5_v167 : Ref sig .tc := ⟨.hbm, 773, rfl⟩
abbrev main_call1_call5_v168 : Ref sig .tc := ⟨.hbm, 774, rfl⟩
abbrev main_call1_call5_v169 : Ref sig .tc := ⟨.hbm, 775, rfl⟩
abbrev main_call1_call5_v170 : Ref sig .tc := ⟨.hbm, 776, rfl⟩
abbrev main_call1_v53_0 : Ref sig .tc := ⟨.hbm, 777, rfl⟩
abbrev main_call1_call5_v172 : Ref sig .tc := ⟨.hbm, 778, rfl⟩
abbrev main_call1_call5_v173 : Ref sig .tc := ⟨.hbm, 779, rfl⟩
abbrev main_call1_call5_c_44 : Ref sig .tc := ⟨.hbm, 780, rfl⟩
abbrev main_call1_call5_v174 : Ref sig .tc := ⟨.hbm, 781, rfl⟩
abbrev main_call1_v53_1 : Ref sig .tc := ⟨.hbm, 782, rfl⟩
abbrev main_call1_v54 : Ref sig .tc := ⟨.hbm, 783, rfl⟩
abbrev main_call1_v55 : Ref sig .tc := ⟨.hbm, 784, rfl⟩
abbrev main_call1_v56 : Ref sig .tc := ⟨.hbm, 785, rfl⟩
abbrev main_call1_v57 : Ref sig .tc := ⟨.hbm, 786, rfl⟩
abbrev main_call1_c_14 : Ref sig .tc := ⟨.hbm, 787, rfl⟩
abbrev main_call1_v58 : Ref sig .tc := ⟨.hbm, 788, rfl⟩
abbrev main_call1_v59 : Ref sig .tc := ⟨.hbm, 789, rfl⟩
abbrev main_call1_v60 : Ref sig .tc := ⟨.hbm, 790, rfl⟩
abbrev main_call1_v61 : Ref sig .tc := ⟨.hbm, 791, rfl⟩
abbrev main_call1_v62 : Ref sig .tc := ⟨.hbm, 792, rfl⟩
abbrev main_call1_c_15 : Ref sig .tc := ⟨.hbm, 793, rfl⟩
abbrev main_call1_v63 : Ref sig .tc := ⟨.hbm, 794, rfl⟩
abbrev main_call1_v64 : Ref sig .tc := ⟨.hbm, 795, rfl⟩
abbrev main_call1_v65 : Ref sig .tc := ⟨.hbm, 796, rfl⟩
abbrev main_call1_c_16 : Ref sig .tc := ⟨.hbm, 797, rfl⟩
abbrev main_call1_v66 : Ref sig .tc := ⟨.hbm, 798, rfl⟩
abbrev main_call1_v67 : Ref sig .tc := ⟨.hbm, 799, rfl⟩
abbrev main_call1_v68 : Ref sig .tc := ⟨.hbm, 800, rfl⟩
abbrev main_call1_v69 : Ref sig .tc := ⟨.hbm, 801, rfl⟩
abbrev main_call1_v70 : Ref sig .tc := ⟨.hbm, 802, rfl⟩
abbrev main_call1_v71 : Ref sig .tc := ⟨.hbm, 803, rfl⟩
abbrev main_call1_v72 : Ref sig .tc := ⟨.hbm, 804, rfl⟩
abbrev main_call1_v73 : Ref sig .tc := ⟨.hbm, 805, rfl⟩
abbrev main_call1_v74 : Ref sig .tc := ⟨.hbm, 806, rfl⟩
abbrev main_call1_v75 : Ref sig .tc := ⟨.hbm, 807, rfl⟩
abbrev main_call1_v76 : Ref sig .tc := ⟨.hbm, 808, rfl⟩
abbrev main_call1_v77 : Ref sig .tc := ⟨.hbm, 809, rfl⟩
abbrev main_call1_v78 : Ref sig .tc := ⟨.hbm, 810, rfl⟩
abbrev main_call1_v79 : Ref sig .tc := ⟨.hbm, 811, rfl⟩
abbrev main_call1_v80 : Ref sig .tc := ⟨.hbm, 812, rfl⟩
abbrev main_v16 : Ref sig .tc := ⟨.hbm, 813, rfl⟩
abbrev main_c_8 : Ref sig .tc := ⟨.hbm, 814, rfl⟩
abbrev main_call2_v0 : Ref sig .tc := ⟨.hbm, 815, rfl⟩
abbrev main_call2_v1 : Ref sig .tc := ⟨.hbm, 816, rfl⟩
abbrev main_call2_v2 : Ref sig .tc := ⟨.hbm, 817, rfl⟩
abbrev main_call2_v3 : Ref sig .tc := ⟨.hbm, 818, rfl⟩
abbrev main_call2_v4 : Ref sig .tc := ⟨.hbm, 819, rfl⟩
abbrev main_call2_v5 : Ref sig .tc := ⟨.hbm, 820, rfl⟩
abbrev main_call2_v6 : Ref sig .tc := ⟨.hbm, 821, rfl⟩
abbrev main_call2_v7 : Ref sig .tc := ⟨.hbm, 822, rfl⟩
abbrev main_call2_v8 : Ref sig .tc := ⟨.hbm, 823, rfl⟩
abbrev main_call2_c : Ref sig .tc := ⟨.hbm, 824, rfl⟩
abbrev main_call2_v9 : Ref sig .tc := ⟨.hbm, 825, rfl⟩
abbrev main_call2_v10 : Ref sig .tc := ⟨.hbm, 826, rfl⟩
abbrev main_call2_v11 : Ref sig .tc := ⟨.hbm, 827, rfl⟩
abbrev main_call2_c_0 : Ref sig .tc := ⟨.hbm, 828, rfl⟩
abbrev main_call2_v12 : Ref sig .tc := ⟨.hbm, 829, rfl⟩
abbrev main_call2_v13 : Ref sig .tc := ⟨.hbm, 830, rfl⟩
abbrev main_v17 : Ref sig .tc := ⟨.hbm, 831, rfl⟩
abbrev main_v18 : Ref sig .tc := ⟨.hbm, 832, rfl⟩
abbrev main_v19 : Ref sig .tc := ⟨.hbm, 833, rfl⟩
abbrev main_v20 : Ref sig .tc := ⟨.hbm, 834, rfl⟩
abbrev main_v21 : Ref sig .tc := ⟨.hbm, 835, rfl⟩
abbrev main_c_9 : Ref sig .tc := ⟨.hbm, 836, rfl⟩
abbrev main_v22 : Ref sig .tc := ⟨.hbm, 837, rfl⟩
abbrev main_v23 : Ref sig .tc := ⟨.hbm, 838, rfl⟩
abbrev main_v24 : Ref sig .tc := ⟨.hbm, 839, rfl⟩
abbrev main_v25 : Ref sig .tc := ⟨.hbm, 840, rfl⟩
abbrev main_v26 : Ref sig .tc := ⟨.hbm, 841, rfl⟩
abbrev main_v27 : Ref sig .tc := ⟨.hbm, 842, rfl⟩
abbrev main_v28 : Ref sig .tc := ⟨.hbm, 843, rfl⟩
abbrev main_v29 : Ref sig .tc := ⟨.hbm, 844, rfl⟩
abbrev main_cst_10 : Ref sig .tc := ⟨.hbm, 845, rfl⟩
abbrev main_v30 : Ref sig .tc := ⟨.hbm, 846, rfl⟩
abbrev main_c_11 : Ref sig .tc := ⟨.hbm, 847, rfl⟩
abbrev main_v31 : Ref sig .tc := ⟨.hbm, 848, rfl⟩
abbrev main_v32 : Ref sig .tc := ⟨.hbm, 849, rfl⟩
abbrev main_c_12 : Ref sig .tc := ⟨.hbm, 850, rfl⟩
abbrev main_v33 : Ref sig .tc := ⟨.hbm, 851, rfl⟩
abbrev main_v34 : Ref sig .tc := ⟨.hbm, 852, rfl⟩
abbrev main_v35 : Ref sig .tc := ⟨.hbm, 853, rfl⟩
abbrev main_v36 : Ref sig .tc := ⟨.hbm, 854, rfl⟩
abbrev main_v37 : Ref sig .tc := ⟨.hbm, 855, rfl⟩
abbrev main_cst_13 : Ref sig .tc := ⟨.hbm, 856, rfl⟩
abbrev main_v38 : Ref sig .tc := ⟨.hbm, 857, rfl⟩
abbrev main_c_14 : Ref sig .tc := ⟨.hbm, 858, rfl⟩
abbrev main_v39 : Ref sig .tc := ⟨.hbm, 859, rfl⟩
abbrev main_v40 : Ref sig .tc := ⟨.hbm, 860, rfl⟩
abbrev main_c_15 : Ref sig .tc := ⟨.hbm, 861, rfl⟩
abbrev main_v41 : Ref sig .tc := ⟨.hbm, 862, rfl⟩
abbrev main_v42 : Ref sig .tc := ⟨.hbm, 863, rfl⟩
abbrev main_v43 : Ref sig .tc := ⟨.hbm, 864, rfl⟩
abbrev main_v44 : Ref sig .tc := ⟨.hbm, 865, rfl⟩
abbrev main_v45 : Ref sig .tc := ⟨.hbm, 866, rfl⟩
abbrev main_cst_16 : Ref sig .tc := ⟨.hbm, 867, rfl⟩
abbrev main_v46 : Ref sig .tc := ⟨.hbm, 868, rfl⟩
abbrev main_c_17 : Ref sig .tc := ⟨.hbm, 869, rfl⟩
abbrev main_v47 : Ref sig .tc := ⟨.hbm, 870, rfl⟩
abbrev main_v48 : Ref sig .tc := ⟨.hbm, 871, rfl⟩
abbrev main_c_18 : Ref sig .tc := ⟨.hbm, 872, rfl⟩
abbrev main_v49 : Ref sig .tc := ⟨.hbm, 873, rfl⟩
abbrev main_v50 : Ref sig .tc := ⟨.hbm, 874, rfl⟩
abbrev main_v51 : Ref sig .tc := ⟨.hbm, 875, rfl⟩
abbrev main_v52 : Ref sig .tc := ⟨.hbm, 876, rfl⟩
abbrev main_v53 : Ref sig .tc := ⟨.hbm, 877, rfl⟩
abbrev main_c_19 : Ref sig .tc := ⟨.hbm, 878, rfl⟩
abbrev main_v54 : Ref sig .tc := ⟨.hbm, 879, rfl⟩
abbrev main_v55 : Ref sig .tc := ⟨.hbm, 880, rfl⟩
abbrev main_c_20 : Ref sig .tc := ⟨.hbm, 881, rfl⟩
abbrev main_v56 : Ref sig .tc := ⟨.hbm, 882, rfl⟩
abbrev main_v57 : Ref sig .tc := ⟨.hbm, 883, rfl⟩
abbrev main_v58 : Ref sig .tc := ⟨.hbm, 884, rfl⟩
abbrev main_v59 : Ref sig .tc := ⟨.hbm, 885, rfl⟩
abbrev main_v60 : Ref sig .tc := ⟨.hbm, 886, rfl⟩
abbrev main_v61 : Ref sig .tc := ⟨.hbm, 887, rfl⟩
abbrev main_c_21 : Ref sig .tc := ⟨.hbm, 888, rfl⟩
abbrev main_v62 : Ref sig .tc := ⟨.hbm, 889, rfl⟩
abbrev main_v63 : Ref sig .tc := ⟨.hbm, 890, rfl⟩
abbrev main_c_22 : Ref sig .tc := ⟨.hbm, 891, rfl⟩
abbrev main_v64 : Ref sig .tc := ⟨.hbm, 892, rfl⟩
abbrev main_v65 : Ref sig .tc := ⟨.hbm, 893, rfl⟩
abbrev main_v66 : Ref sig .tc := ⟨.hbm, 894, rfl⟩
abbrev main_v67 : Ref sig .tc := ⟨.hbm, 895, rfl⟩
abbrev main_v68 : Ref sig .tc := ⟨.hbm, 896, rfl⟩
abbrev main_v69 : Ref sig .tc := ⟨.hbm, 897, rfl⟩
abbrev main_v70 : Ref sig .tc := ⟨.hbm, 898, rfl⟩
abbrev main_v71 : Ref sig .tc := ⟨.hbm, 899, rfl⟩
abbrev main_v72 : Ref sig .tc := ⟨.hbm, 900, rfl⟩
abbrev main_v73 : Ref sig .tc := ⟨.hbm, 901, rfl⟩
abbrev main_v74 : Ref sig .tc := ⟨.hbm, 902, rfl⟩
abbrev main_c_23 : Ref sig .tc := ⟨.hbm, 903, rfl⟩
abbrev main_v75 : Ref sig .tc := ⟨.hbm, 904, rfl⟩
abbrev main_v76 : Ref sig .tc := ⟨.hbm, 905, rfl⟩
abbrev main_c_24 : Ref sig .tc := ⟨.hbm, 906, rfl⟩
abbrev main_v77 : Ref sig .tc := ⟨.hbm, 907, rfl⟩
abbrev main_v78 : Ref sig .tc := ⟨.hbm, 908, rfl⟩
abbrev main_v79 : Ref sig .tc := ⟨.hbm, 909, rfl⟩
abbrev main_v80 : Ref sig .tc := ⟨.hbm, 910, rfl⟩
abbrev main_v81 : Ref sig .tc := ⟨.hbm, 911, rfl⟩
abbrev main_v82 : Ref sig .tc := ⟨.hbm, 912, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k0_off1 (k0_t1 : Fin k0_t1_loop.trips) : Fin 3 → Nat :=
  let c0_19 : Index := 0#32
  let c0_i32 : BitVec 32 := 0#32
  let c1_i32 : BitVec 32 := 1#32
  let arg12 : BitVec 32 := Scf.iv c0_i32 c1_i32 k0_t1
  let c256_i32 : BitVec 32 := 256#32
  let v14 : BitVec 32 := Scalar.muli arg12 c256_i32
  let v15 : Index := Scalar.indexCast v14
  let c0_20 : Index := 0#32
  ![0, v15.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let v38 : Index := Scalar.indexCast arg12
  let c0_31 : Index := 0#32
  ![v38.toNat, 0]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c256_i32_32 : BitVec 32 := 256#32
  let v42 : BitVec 32 := Scalar.muli arg12 c256_i32_32
  let v43 : Index := Scalar.indexCast v42
  let c0_33 : Index := 0#32
  ![v43.toNat, 0]
@[reducible] def k0_t2_loop : Scf.Loop 32 :=
  let c0_i32_3 : BitVec 32 := 0#32
  let c32_i32_4 : BitVec 32 := 32#32
  let v7 : BitVec 32 := Scalar.addi c0_i32_3 c32_i32_4
  let c1_i32_5 : BitVec 32 := 1#32
  ⟨c0_i32_3, v7, c1_i32_5⟩
def k0_off4 (k0_t2 : Fin k0_t2_loop.trips) : Fin 2 → Nat :=
  let c0_i32_3 : BitVec 32 := 0#32
  let c1_i32_5 : BitVec 32 := 1#32
  let arg12 : BitVec 32 := Scf.iv c0_i32_3 c1_i32_5 k0_t2
  let c256_i32 : BitVec 32 := 256#32
  let v14 : BitVec 32 := Scalar.muli arg12 c256_i32
  let v15 : Index := Scalar.indexCast v14
  let c0_19 : Index := 0#32
  ![v15.toNat, 0]
def k0_off5 (k0_t2 : Fin k0_t2_loop.trips) : Fin 2 → Nat :=
  let c0_i32_3 : BitVec 32 := 0#32
  let c1_i32_5 : BitVec 32 := 1#32
  let arg12 : BitVec 32 := Scf.iv c0_i32_3 c1_i32_5 k0_t2
  let v19 : Index := Scalar.indexCast arg12
  let c0_23 : Index := 0#32
  ![v19.toNat, 0]
def k0_off6 (k0_t2 : Fin k0_t2_loop.trips) : Fin 3 → Nat :=
  let c0_26 : Index := 0#32
  let c0_i32_3 : BitVec 32 := 0#32
  let c1_i32_5 : BitVec 32 := 1#32
  let arg12 : BitVec 32 := Scf.iv c0_i32_3 c1_i32_5 k0_t2
  let c256_i32_25 : BitVec 32 := 256#32
  let v31 : BitVec 32 := Scalar.muli arg12 c256_i32_25
  let v32 : Index := Scalar.indexCast v31
  let c0_27 : Index := 0#32
  ![0, v32.toNat, 0]
@[reducible] def k0_t3_loop : Scf.Loop 32 :=
  let c0_i32_8 : BitVec 32 := 0#32
  let c32_i32_9 : BitVec 32 := 32#32
  let v9 : BitVec 32 := Scalar.addi c0_i32_8 c32_i32_9
  let c1_i32_10 : BitVec 32 := 1#32
  ⟨c0_i32_8, v9, c1_i32_10⟩
def k0_off7 (k0_t3 : Fin k0_t3_loop.trips) : Fin 3 → Nat :=
  let c0_19 : Index := 0#32
  let c0_i32_8 : BitVec 32 := 0#32
  let c1_i32_10 : BitVec 32 := 1#32
  let arg12 : BitVec 32 := Scf.iv c0_i32_8 c1_i32_10 k0_t3
  let c256_i32 : BitVec 32 := 256#32
  let v14 : BitVec 32 := Scalar.muli arg12 c256_i32
  let v15 : Index := Scalar.indexCast v14
  let c0_20 : Index := 0#32
  ![0, v15.toNat, 0]
def k0_off8 (k0_t3 : Fin k0_t3_loop.trips) : Fin 2 → Nat :=
  let c0_i32_8 : BitVec 32 := 0#32
  let c1_i32_10 : BitVec 32 := 1#32
  let arg12 : BitVec 32 := Scf.iv c0_i32_8 c1_i32_10 k0_t3
  let v38 : Index := Scalar.indexCast arg12
  let c0_31 : Index := 0#32
  ![v38.toNat, 0]
def k0_off9 (k0_t3 : Fin k0_t3_loop.trips) : Fin 2 → Nat :=
  let c0_i32_8 : BitVec 32 := 0#32
  let c1_i32_10 : BitVec 32 := 1#32
  let arg12 : BitVec 32 := Scf.iv c0_i32_8 c1_i32_10 k0_t3
  let c256_i32_32 : BitVec 32 := 256#32
  let v42 : BitVec 32 := Scalar.muli arg12 c256_i32_32
  let v43 : Index := Scalar.indexCast v42
  let c0_33 : Index := 0#32
  ![v43.toNat, 0]
@[reducible] def k0_t4_loop : Scf.Loop 32 :=
  let c0_i32_15 : BitVec 32 := 0#32
  let c32_i32_16 : BitVec 32 := 32#32
  let v13 : BitVec 32 := Scalar.addi c0_i32_15 c32_i32_16
  let c1_i32_17 : BitVec 32 := 1#32
  ⟨c0_i32_15, v13, c1_i32_17⟩
def k0_off10 (k0_t4 : Fin k0_t4_loop.trips) : Fin 2 → Nat :=
  let c0_i32_15 : BitVec 32 := 0#32
  let c1_i32_17 : BitVec 32 := 1#32
  let arg12 : BitVec 32 := Scf.iv c0_i32_15 c1_i32_17 k0_t4
  let c256_i32 : BitVec 32 := 256#32
  let v14 : BitVec 32 := Scalar.muli arg12 c256_i32
  let v15 : Index := Scalar.indexCast v14
  let c0_19 : Index := 0#32
  ![v15.toNat, 0]
def k0_off11 (k0_t4 : Fin k0_t4_loop.trips) : Fin 2 → Nat :=
  let c0_i32_15 : BitVec 32 := 0#32
  let c1_i32_17 : BitVec 32 := 1#32
  let arg12 : BitVec 32 := Scf.iv c0_i32_15 c1_i32_17 k0_t4
  let v19 : Index := Scalar.indexCast arg12
  let c0_23 : Index := 0#32
  ![v19.toNat, 0]
def k0_off12 (k0_t4 : Fin k0_t4_loop.trips) : Fin 3 → Nat :=
  let c0_26 : Index := 0#32
  let c0_i32_15 : BitVec 32 := 0#32
  let c1_i32_17 : BitVec 32 := 1#32
  let arg12 : BitVec 32 := Scf.iv c0_i32_15 c1_i32_17 k0_t4
  let c256_i32_25 : BitVec 32 := 256#32
  let v31 : BitVec 32 := Scalar.muli arg12 c256_i32_25
  let v32 : Index := Scalar.indexCast v31
  let c0_27 : Index := 0#32
  ![0, v32.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8192x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8192x1 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![32, 32], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x256 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1x256x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== KernelIdeal.lean ====
variable {F : FTy → Type} [FloatOps F] [Named F]
def κ : String → Option EReal := fun
  | "mask" => some ⊤
  | _ => none
-- ==== ReferenceIdeal.lean ====
abbrev S2x16x8192x64 : Shape := ⟨4, ![2, 16, 8192, 64]⟩
abbrev S64x7 : Shape := ⟨2, ![64, 7]⟩
abbrev S1x1x1x7 : Shape := ⟨4, ![1, 1, 1, 7]⟩
abbrev S128 : Shape := ⟨1, ![128]⟩
abbrev S2x16x256 : Shape := ⟨3, ![2, 16, 256]⟩
abbrev S2x16x8192x7 : Shape := ⟨4, ![2, 16, 8192, 7]⟩
abbrev S_ : Shape := ⟨0, ![]⟩
abbrev S2x16x8192 : Shape := ⟨3, ![2, 16, 8192]⟩
abbrev S2x16x8192x1 : Shape := ⟨4, ![2, 16, 8192, 1]⟩
abbrev S1 : Shape := ⟨1, ![1]⟩
abbrev S1x1x1x1 : Shape := ⟨4, ![1, 1, 1, 1]⟩
abbrev S2x16x32x256x64 : Shape := ⟨5, ![2, 16, 32, 256, 64]⟩
abbrev S2x16x32x256x256 : Shape := ⟨5, ![2, 16, 32, 256, 256]⟩
abbrev S2x16x32x256 : Shape := ⟨4, ![2, 16, 32, 256]⟩
abbrev S2x16x32x256x1 : Shape := ⟨5, ![2, 16, 32, 256, 1]⟩
abbrev S2x16x256x1 : Shape := ⟨4, ![2, 16, 256, 1]⟩
abbrev S2x16x256x64 : Shape := ⟨4, ![2, 16, 256, 64]⟩
abbrev S8192 : Shape := ⟨1, ![8192]⟩
abbrev S1x1x8192x1 : Shape := ⟨4, ![1, 1, 8192, 1]⟩
abbrev S2x16x1x256 : Shape := ⟨4, ![2, 16, 1, 256]⟩
abbrev S2x16x8192x256 : Shape := ⟨4, ![2, 16, 8192, 256]⟩

abbrev nBuf : Space → Nat
  | .hbm => 315
  | .vmem => 0
  | .smem => 0
  | _ => 0

abbrev hbmTy0_0 (i : Nat) : BufTy := match i % 128 with
  | 0 => ⟨S2x16x8192x64, .f32⟩
  | 1 => ⟨S2x16x8192x64, .f32⟩
  | 2 => ⟨S2x16x8192x64, .f32⟩
  | 3 => ⟨S64x7, .f32⟩
  | 4 => ⟨S1x1x1x7, .i32⟩
  | 5 => ⟨S128, .i32⟩
  | 6 => ⟨S2x16x256, .i32⟩
  | 7 => ⟨S2x16x8192x7, .f32⟩
  | 8 => ⟨S_, .f32⟩
  | 9 => ⟨S2x16x8192x7, .f32⟩
  | 10 => ⟨S2x16x8192x7, .i1⟩
  | 11 => ⟨S2x16x8192x7, .i32⟩
  | 12 => ⟨S2x16x8192x7, .i32⟩
  | 13 => ⟨S2x16x8192x7, .i32⟩
  | 14 => ⟨S_, .i32⟩
  | 15 => ⟨S2x16x8192, .i32⟩
  | 16 => ⟨S_, .i32⟩
  | 17 => ⟨S2x16x8192, .i32⟩
  | 18 => ⟨S2x16x8192, .i1⟩
  | 19 => ⟨S_, .i32⟩
  | 20 => ⟨S2x16x8192, .i32⟩
  | 21 => ⟨S2x16x8192, .i32⟩
  | 22 => ⟨S2x16x8192, .i32⟩
  | 23 => ⟨S2x16x8192x1, .i32⟩
  | 24 => ⟨S2x16x8192, .i32⟩
  | 25 => ⟨S2x16x8192x7, .f32⟩
  | 26 => ⟨S_, .f32⟩
  | 27 => ⟨S2x16x8192x7, .f32⟩
  | 28 => ⟨S2x16x8192x7, .i1⟩
  | 29 => ⟨S2x16x8192x7, .i32⟩
  | 30 => ⟨S2x16x8192x7, .i32⟩
  | 31 => ⟨S2x16x8192x7, .i32⟩
  | 32 => ⟨S_, .i32⟩
  | 33 => ⟨S2x16x8192, .i32⟩
  | 34 => ⟨S_, .i32⟩
  | 35 => ⟨S2x16x8192, .i32⟩
  | 36 => ⟨S2x16x8192, .i1⟩
  | 37 => ⟨S_, .i32⟩
  | 38 => ⟨S2x16x8192, .i32⟩
  | 39 => ⟨S2x16x8192, .i32⟩
  | 40 => ⟨S2x16x8192, .i32⟩
  | 41 => ⟨S2x16x8192x1, .i32⟩
  | 42 => ⟨S2x16x8192, .i32⟩
  | 43 => ⟨S2x16x8192, .i32⟩
  | 44 => ⟨S2x16x8192, .i32⟩
  | 45 => ⟨S2x16x8192, .i32⟩
  | 46 => ⟨S2x16x8192, .i32⟩
  | 47 => ⟨S2x16x8192, .i32⟩
  | 48 => ⟨S2x16x8192, .i32⟩
  | 49 => ⟨S2x16x8192, .i32⟩
  | 50 => ⟨S2x16x8192, .i32⟩
  | 51 => ⟨S2x16x8192, .i32⟩
  | 52 => ⟨S2x16x8192x1, .i32⟩
  | 53 => ⟨S_, .i32⟩
  | 54 => ⟨S2x16x8192x1, .i32⟩
  | 55 => ⟨S2x16x8192x1, .i1⟩
  | 56 => ⟨S_, .i32⟩
  | 57 => ⟨S2x16x8192x1, .i32⟩
  | 58 => ⟨S2x16x8192x1, .i32⟩
  | 59 => ⟨S2x16x8192x1, .i32⟩
  | 60 => ⟨S1, .i32⟩
  | 61 => ⟨S_, .i32⟩
  | 62 => ⟨S2x16x8192x1, .i32⟩
  | 63 => ⟨S2x16x8192x1, .i1⟩
  | 64 => ⟨S1x1x1x1, .i32⟩
  | 65 => ⟨S2x16x8192x1, .i32⟩
  | 66 => ⟨S2x16x8192x1, .i1⟩
  | 67 => ⟨S2x16x8192x1, .i1⟩
  | 68 => ⟨S_, .i1⟩
  | 69 => ⟨S2x16x8192, .i1⟩
  | 70 => ⟨S2x16x8192x64, .f32⟩
  | 71 => ⟨S2x16x8192x64, .i1⟩
  | 72 => ⟨S_, .f32⟩
  | 73 => ⟨S2x16x8192x64, .f32⟩
  | 74 => ⟨S2x16x8192x64, .f32⟩
  | 75 => ⟨S2x16x8192x1, .i32⟩
  | 76 => ⟨S_, .i32⟩
  | 77 => ⟨S2x16x8192x1, .i32⟩
  | 78 => ⟨S2x16x8192x1, .i1⟩
  | 79 => ⟨S_, .i32⟩
  | 80 => ⟨S2x16x8192x1, .i32⟩
  | 81 => ⟨S2x16x8192x1, .i32⟩
  | 82 => ⟨S2x16x8192x1, .i32⟩
  | 83 => ⟨S1, .i32⟩
  | 84 => ⟨S_, .i32⟩
  | 85 => ⟨S2x16x8192x1, .i32⟩
  | 86 => ⟨S2x16x8192x1, .i1⟩
  | 87 => ⟨S1x1x1x1, .i32⟩
  | 88 => ⟨S2x16x8192x1, .i32⟩
  | 89 => ⟨S2x16x8192x1, .i1⟩
  | 90 => ⟨S2x16x8192x1, .i1⟩
  | 91 => ⟨S_, .i1⟩
  | 92 => ⟨S2x16x8192, .i1⟩
  | 93 => ⟨S2x16x8192x64, .f32⟩
  | 94 => ⟨S2x16x8192x64, .i1⟩
  | 95 => ⟨S_, .f32⟩
  | 96 => ⟨S2x16x8192x64, .f32⟩
  | 97 => ⟨S2x16x8192x64, .f32⟩
  | 98 => ⟨S2x16x8192x1, .i32⟩
  | 99 => ⟨S_, .i32⟩
  | 100 => ⟨S2x16x8192x1, .i32⟩
  | 101 => ⟨S2x16x8192x1, .i1⟩
  | 102 => ⟨S_, .i32⟩
  | 103 => ⟨S2x16x8192x1, .i32⟩
  | 104 => ⟨S2x16x8192x1, .i32⟩
  | 105 => ⟨S2x16x8192x1, .i32⟩
  | 106 => ⟨S1, .i32⟩
  | 107 => ⟨S_, .i32⟩
  | 108 => ⟨S2x16x8192x1, .i32⟩
  | 109 => ⟨S2x16x8192x1, .i1⟩
  | 110 => ⟨S1x1x1x1, .i32⟩
  | 111 => ⟨S2x16x8192x1, .i32⟩
  | 112 => ⟨S2x16x8192x1, .i1⟩
  | 113 => ⟨S2x16x8192x1, .i1⟩
  | 114 => ⟨S_, .i1⟩
  | 115 => ⟨S2x16x8192, .i1⟩
  | 116 => ⟨S2x16x8192x64, .f32⟩
  | 117 => ⟨S2x16x8192x64, .i1⟩
  | 118 => ⟨S_, .f32⟩
  | 119 => ⟨S2x16x8192x64, .f32⟩
  | 120 => ⟨S2x16x8192x64, .f32⟩
  | 121 => ⟨S2x16x32x256x64, .f32⟩
  | 122 => ⟨S2x16x32x256x64, .f32⟩
  | 123 => ⟨S2x16x32x256x64, .f32⟩
  | 124 => ⟨S2x16x32x256x256, .f32⟩
  | 125 => ⟨S_, .f32⟩
  | 126 => ⟨S2x16x32x256x256, .f32⟩
  | 127 => ⟨S2x16x32x256x256, .f32⟩
  | _ => ⟨S2x16x8192x64, .f32⟩

abbrev hbmTy0_1 (i : Nat) : BufTy := match i % 128 with
  | 0 => ⟨S_, .f32⟩
  | 1 => ⟨S2x16x32x256, .f32⟩
  | 2 => ⟨S2x16x32x256x1, .f32⟩
  | 3 => ⟨S_, .f32⟩
  | 4 => ⟨S2x16x32x256x1, .f32⟩
  | 5 => ⟨S2x16x32x256x1, .i1⟩
  | 6 => ⟨S_, .f32⟩
  | 7 => ⟨S_, .f32⟩
  | 8 => ⟨S2x16x32x256x1, .f32⟩
  | 9 => ⟨S2x16x32x256x1, .f32⟩
  | 10 => ⟨S2x16x32x256x256, .f32⟩
  | 11 => ⟨S2x16x32x256x256, .f32⟩
  | 12 => ⟨S2x16x32x256x256, .f32⟩
  | 13 => ⟨S_, .f32⟩
  | 14 => ⟨S2x16x32x256, .f32⟩
  | 15 => ⟨S2x16x32x256x1, .f32⟩
  | 16 => ⟨S2x16x32x256x1, .f32⟩
  | 17 => ⟨S2x16x32x256x1, .f32⟩
  | 18 => ⟨S2x16x32x256x256, .f32⟩
  | 19 => ⟨S2x16x32x256x256, .f32⟩
  | 20 => ⟨S2x16x32x256x256, .f32⟩
  | 21 => ⟨S2x16x32x256x64, .f32⟩
  | 22 => ⟨S2x16x8192x64, .f32⟩
  | 23 => ⟨S2x16x8192x1, .f32⟩
  | 24 => ⟨S2x16x256x1, .i32⟩
  | 25 => ⟨S_, .i32⟩
  | 26 => ⟨S2x16x256x1, .i32⟩
  | 27 => ⟨S2x16x256x1, .i1⟩
  | 28 => ⟨S_, .i32⟩
  | 29 => ⟨S2x16x256x1, .i32⟩
  | 30 => ⟨S2x16x256x1, .i32⟩
  | 31 => ⟨S2x16x256x1, .i32⟩
  | 32 => ⟨S1, .i32⟩
  | 33 => ⟨S_, .i32⟩
  | 34 => ⟨S2x16x256x1, .i32⟩
  | 35 => ⟨S2x16x256x1, .i1⟩
  | 36 => ⟨S1x1x1x1, .i32⟩
  | 37 => ⟨S2x16x256x1, .i32⟩
  | 38 => ⟨S2x16x256x1, .i1⟩
  | 39 => ⟨S2x16x256x1, .i1⟩
  | 40 => ⟨S_, .i1⟩
  | 41 => ⟨S2x16x256, .i1⟩
  | 42 => ⟨S2x16x256x64, .f32⟩
  | 43 => ⟨S2x16x256x64, .i1⟩
  | 44 => ⟨S_, .f32⟩
  | 45 => ⟨S2x16x256x64, .f32⟩
  | 46 => ⟨S2x16x256x64, .f32⟩
  | 47 => ⟨S2x16x256x1, .i32⟩
  | 48 => ⟨S_, .i32⟩
  | 49 => ⟨S2x16x256x1, .i32⟩
  | 50 => ⟨S2x16x256x1, .i1⟩
  | 51 => ⟨S_, .i32⟩
  | 52 => ⟨S2x16x256x1, .i32⟩
  | 53 => ⟨S2x16x256x1, .i32⟩
  | 54 => ⟨S2x16x256x1, .i32⟩
  | 55 => ⟨S1, .i32⟩
  | 56 => ⟨S_, .i32⟩
  | 57 => ⟨S2x16x256x1, .i32⟩
  | 58 => ⟨S2x16x256x1, .i1⟩
  | 59 => ⟨S1x1x1x1, .i32⟩
  | 60 => ⟨S2x16x256x1, .i32⟩
  | 61 => ⟨S2x16x256x1, .i1⟩
  | 62 => ⟨S2x16x256x1, .i1⟩
  | 63 => ⟨S_, .i1⟩
  | 64 => ⟨S2x16x256, .i1⟩
  | 65 => ⟨S2x16x256x64, .f32⟩
  | 66 => ⟨S2x16x256x64, .i1⟩
  | 67 => ⟨S_, .f32⟩
  | 68 => ⟨S2x16x256x64, .f32⟩
  | 69 => ⟨S2x16x256x64, .f32⟩
  | 70 => ⟨S8192, .i32⟩
  | 71 => ⟨S1x1x8192x1, .i32⟩
  | 72 => ⟨S_, .i32⟩
  | 73 => ⟨S_, .i32⟩
  | 74 => ⟨S1x1x8192x1, .i32⟩
  | 75 => ⟨S1x1x8192x1, .i32⟩
  | 76 => ⟨S1x1x8192x1, .i32⟩
  | 77 => ⟨S_, .i32⟩
  | 78 => ⟨S1x1x8192x1, .i32⟩
  | 79 => ⟨S1x1x8192x1, .i1⟩
  | 80 => ⟨S1x1x8192x1, .i32⟩
  | 81 => ⟨S1x1x8192x1, .i32⟩
  | 82 => ⟨S_, .i32⟩
  | 83 => ⟨S1x1x8192x1, .i32⟩
  | 84 => ⟨S1x1x8192x1, .i1⟩
  | 85 => ⟨S1x1x8192x1, .i1⟩
  | 86 => ⟨S_, .i32⟩
  | 87 => ⟨S1x1x8192x1, .i32⟩
  | 88 => ⟨S1x1x8192x1, .i32⟩
  | 89 => ⟨S1x1x8192x1, .i32⟩
  | 90 => ⟨S2x16x1x256, .i32⟩
  | 91 => ⟨S_, .i32⟩
  | 92 => ⟨S_, .i32⟩
  | 93 => ⟨S2x16x1x256, .i32⟩
  | 94 => ⟨S2x16x1x256, .i32⟩
  | 95 => ⟨S2x16x1x256, .i32⟩
  | 96 => ⟨S_, .i32⟩
  | 97 => ⟨S2x16x1x256, .i32⟩
  | 98 => ⟨S2x16x1x256, .i1⟩
  | 99 => ⟨S2x16x1x256, .i32⟩
  | 100 => ⟨S2x16x1x256, .i32⟩
  | 101 => ⟨S_, .i32⟩
  | 102 => ⟨S2x16x1x256, .i32⟩
  | 103 => ⟨S2x16x1x256, .i1⟩
  | 104 => ⟨S2x16x1x256, .i1⟩
  | 105 => ⟨S_, .i32⟩
  | 106 => ⟨S2x16x1x256, .i32⟩
  | 107 => ⟨S2x16x1x256, .i32⟩
  | 108 => ⟨S2x16x1x256, .i32⟩
  | 109 => ⟨S2x16x8192x256, .i32⟩
  | 110 => ⟨S2x16x8192x256, .i32⟩
  | 111 => ⟨S2x16x8192x256, .i1⟩
  | 112 => ⟨S_, .f32⟩
  | 113 => ⟨S_, .f32⟩
  | 114 => ⟨S2x16x8192x256, .f32⟩
  | 115 => ⟨S2x16x8192x256, .f32⟩
  | 116 => ⟨S2x16x8192x256, .f32⟩
  | 117 => ⟨S2x16x8192x256, .f32⟩
  | 118 => ⟨S2x16x8192x256, .f32⟩
  | 119 => ⟨S_, .f32⟩
  | 120 => ⟨S2x16x8192x256, .f32⟩
  | 121 => ⟨S2x16x8192x256, .f32⟩
  | 122 => ⟨S2x16x8192x256, .f32⟩
  | 123 => ⟨S_, .f32⟩
  | 124 => ⟨S2x16x8192, .f32⟩
  | 125 => ⟨S2x16x8192x1, .f32⟩
  | 126 => ⟨S_, .f32⟩
  | 127 => ⟨S2x16x8192x1, .f32⟩
  | _ => ⟨S2x16x8192x64, .f32⟩

abbrev hbmTy0_2 (i : Nat) : BufTy := match i % 128 with
  | 0 => ⟨S2x16x8192x1, .i1⟩
  | 1 => ⟨S_, .f32⟩
  | 2 => ⟨S_, .f32⟩
  | 3 => ⟨S2x16x8192x1, .f32⟩
  | 4 => ⟨S2x16x8192x1, .f32⟩
  | 5 => ⟨S2x16x8192x256, .f32⟩
  | 6 => ⟨S2x16x8192x256, .f32⟩
  | 7 => ⟨S2x16x8192x256, .f32⟩
  | 8 => ⟨S_, .f32⟩
  | 9 => ⟨S2x16x8192, .f32⟩
  | 10 => ⟨S2x16x8192x1, .f32⟩
  | 11 => ⟨S2x16x8192x1, .f32⟩
  | 12 => ⟨S2x16x8192x1, .f32⟩
  | 13 => ⟨S2x16x8192x256, .f32⟩
  | 14 => ⟨S2x16x8192x256, .f32⟩
  | 15 => ⟨S2x16x8192x256, .f32⟩
  | 16 => ⟨S2x16x8192x64, .f32⟩
  | 17 => ⟨S_, .f32⟩
  | 18 => ⟨S2x16x8192x1, .f32⟩
  | 19 => ⟨S2x16x8192x1, .f32⟩
  | 20 => ⟨S2x16x8192x1, .f32⟩
  | 21 => ⟨S2x16x8192x1, .f32⟩
  | 22 => ⟨S_, .f32⟩
  | 23 => ⟨S2x16x8192x1, .f32⟩
  | 24 => ⟨S2x16x8192x1, .f32⟩
  | 25 => ⟨S_, .f32⟩
  | 26 => ⟨S2x16x8192x1, .f32⟩
  | 27 => ⟨S2x16x8192x1, .f32⟩
  | 28 => ⟨S2x16x8192x64, .f32⟩
  | 29 => ⟨S2x16x8192x64, .f32⟩
  | 30 => ⟨S_, .f32⟩
  | 31 => ⟨S2x16x8192x1, .f32⟩
  | 32 => ⟨S2x16x8192x1, .f32⟩
  | 33 => ⟨S2x16x8192x64, .f32⟩
  | 34 => ⟨S2x16x8192x64, .f32⟩
  | 35 => ⟨S2x16x8192x64, .f32⟩
  | 36 => ⟨S2x16x8192x1, .i32⟩
  | 37 => ⟨S_, .i32⟩
  | 38 => ⟨S2x16x8192x1, .i32⟩
  | 39 => ⟨S2x16x8192x1, .i1⟩
  | 40 => ⟨S_, .i32⟩
  | 41 => ⟨S2x16x8192x1, .i32⟩
  | 42 => ⟨S2x16x8192x1, .i32⟩
  | 43 => ⟨S2x16x8192x1, .i32⟩
  | 44 => ⟨S1, .i32⟩
  | 45 => ⟨S_, .i32⟩
  | 46 => ⟨S2x16x8192x1, .i32⟩
  | 47 => ⟨S2x16x8192x1, .i1⟩
  | 48 => ⟨S1x1x1x1, .i32⟩
  | 49 => ⟨S2x16x8192x1, .i32⟩
  | 50 => ⟨S2x16x8192x1, .i1⟩
  | 51 => ⟨S2x16x8192x1, .i1⟩
  | 52 => ⟨S_, .i1⟩
  | 53 => ⟨S2x16x8192, .i1⟩
  | 54 => ⟨S2x16x8192x64, .f32⟩
  | 55 => ⟨S2x16x8192x64, .i1⟩
  | 56 => ⟨S_, .f32⟩
  | 57 => ⟨S2x16x8192x64, .f32⟩
  | 58 => ⟨S2x16x8192x64, .f32⟩
  | _ => ⟨S2x16x8192x64, .f32⟩

abbrev hbmTy (i : Nat) : BufTy := match i / 128 with
  | 0 => hbmTy0_0 i
  | 1 => hbmTy0_1 i
  | 2 => hbmTy0_2 i
  | _ => ⟨S2x16x8192x64, .f32⟩

abbrev bufTy : (tb : Table) → Fin (tcTables nBuf tb) → BufTy
  | .hbm, ⟨i, _⟩ => hbmTy i
  | _, _ => ⟨S2x16x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_c_3 : Ref sig .tc := ⟨.hbm, 16, rfl⟩
abbrev main_v7 : Ref sig .tc := ⟨.hbm, 17, rfl⟩
abbrev main_v8 : Ref sig .tc := ⟨.hbm, 18, rfl⟩
abbrev main_c_4 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_6 : Ref sig .tc := ⟨.hbm, 32, rfl⟩
abbrev main_v20 : Ref sig .tc := ⟨.hbm, 33, rfl⟩
abbrev main_c_7 : Ref sig .tc := ⟨.hbm, 34, rfl⟩
abbrev main_v21 : Ref sig .tc := ⟨.hbm, 35, rfl⟩
abbrev main_v22 : Ref sig .tc := ⟨.hbm, 36, rfl⟩
abbrev main_c_8 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_v0 : Ref sig .tc := ⟨.hbm, 43, rfl⟩
abbrev main_call0_v1_0 : Ref sig .tc := ⟨.hbm, 44, rfl⟩
abbrev main_v28 : Ref sig .tc := ⟨.hbm, 45, rfl⟩
abbrev main_call1_v0 : Ref sig .tc := ⟨.hbm, 46, rfl⟩
abbrev main_call1_v1_0 : Ref sig .tc := ⟨.hbm, 47, rfl⟩
abbrev main_v29 : Ref sig .tc := ⟨.hbm, 48, rfl⟩
abbrev main_call2_v0 : Ref sig .tc := ⟨.hbm, 49, rfl⟩
abbrev main_call2_v1_0 : Ref sig .tc := ⟨.hbm, 50, rfl⟩
abbrev main_v30 : Ref sig .tc := ⟨.hbm, 51, rfl⟩
abbrev main_v31 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_c_0 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_c_1 : Ref sig .tc := ⟨.hbm, 60, rfl⟩
abbrev main_call3_c_2 : Ref sig .tc := ⟨.hbm, 61, rfl⟩
abbrev main_call3_v5 : Ref sig .tc := ⟨.hbm, 62, rfl⟩
abbrev main_call3_v6 : Ref sig .tc := ⟨.hbm, 63, rfl⟩
abbrev main_call3_v7 : Ref sig .tc := ⟨.hbm, 64, rfl⟩
abbrev main_call3_v8 : Ref sig .tc := ⟨.hbm, 65, rfl⟩
abbrev main_call3_v9 : Ref sig .tc := ⟨.hbm, 66, rfl⟩
abbrev main_call3_v10 : Ref sig .tc := ⟨.hbm, 67, rfl⟩
abbrev main_call3_c_3 : Ref sig .tc := ⟨.hbm, 68, rfl⟩
abbrev main_call3_v11 : Ref sig .tc := ⟨.hbm, 69, rfl⟩
abbrev main_call3_v12 : Ref sig .tc := ⟨.hbm, 70, rfl⟩
abbrev main_call3_v13 : Ref sig .tc := ⟨.hbm, 71, rfl⟩
abbrev main_call3_cst : Ref sig .tc := ⟨.hbm, 72, rfl⟩
abbrev main_call3_v14 : Ref sig .tc := ⟨.hbm, 73, rfl⟩
abbrev main_v32 : Ref sig .tc := ⟨.hbm, 74, rfl⟩
abbrev main_v33 : Ref sig .tc := ⟨.hbm, 75, rfl⟩
abbrev main_call4_c : Ref sig .tc := ⟨.hbm, 76, rfl⟩
abbrev main_call4_v0 : Ref sig .tc := ⟨.hbm, 77, rfl⟩
abbrev main_call4_v1 : Ref sig .tc := ⟨.hbm, 78, rfl⟩
abbrev main_call4_c_0 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_c_1 : Ref sig .tc := ⟨.hbm, 83, rfl⟩
abbrev main_call4_c_2 : Ref sig .tc := ⟨.hbm, 84, rfl⟩
abbrev main_call4_v5 : Ref sig .tc := ⟨.hbm, 85, rfl⟩
abbrev main_call4_v6 : Ref sig .tc := ⟨.hbm, 86, rfl⟩
abbrev main_call4_v7 : Ref sig .tc := ⟨.hbm, 87, rfl⟩
abbrev main_call4_v8 : Ref sig .tc := ⟨.hbm, 88, rfl⟩
abbrev main_call4_v9 : Ref sig .tc := ⟨.hbm, 89, rfl⟩
abbrev main_call4_v10 : Ref sig .tc := ⟨.hbm, 90, rfl⟩
abbrev main_call4_c_3 : Ref sig .tc := ⟨.hbm, 91, rfl⟩
abbrev main_call4_v11 : Ref sig .tc := ⟨.hbm, 92, rfl⟩
abbrev main_call4_v12 : Ref sig .tc := ⟨.hbm, 93, rfl⟩
abbrev main_call4_v13 : Ref sig .tc := ⟨.hbm, 94, rfl⟩
abbrev main_call4_cst : Ref sig .tc := ⟨.hbm, 95, rfl⟩
abbrev main_call4_v14 : Ref sig .tc := ⟨.hbm, 96, rfl⟩
abbrev main_v34 : Ref sig .tc := ⟨.hbm, 97, rfl⟩
abbrev main_v35 : Ref sig .tc := ⟨.hbm, 98, rfl⟩
abbrev main_call5_c : Ref sig .tc := ⟨.hbm, 99, rfl⟩
abbrev main_call5_v0 : Ref sig .tc := ⟨.hbm, 100, rfl⟩
abbrev main_call5_v1 : Ref sig .tc := ⟨.hbm, 101, rfl⟩
abbrev main_call5_c_0 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_call5_c_1 : Ref sig .tc := ⟨.hbm, 106, rfl⟩
abbrev main_call5_c_2 : Ref sig .tc := ⟨.hbm, 107, rfl⟩
abbrev main_call5_v5 : Ref sig .tc := ⟨.hbm, 108, rfl⟩
abbrev main_call5_v6 : Ref sig .tc := ⟨.hbm, 109, rfl⟩
abbrev main_call5_v7 : Ref sig .tc := ⟨.hbm, 110, rfl⟩
abbrev main_call5_v8 : Ref sig .tc := ⟨.hbm, 111, rfl⟩
abbrev main_call5_v9 : Ref sig .tc := ⟨.hbm, 112, rfl⟩
abbrev main_call5_v10 : Ref sig .tc := ⟨.hbm, 113, rfl⟩
abbrev main_call5_c_3 : Ref sig .tc := ⟨.hbm, 114, rfl⟩
abbrev main_call5_v11 : Ref sig .tc := ⟨.hbm, 115, rfl⟩
abbrev main_call5_v12 : Ref sig .tc := ⟨.hbm, 116, rfl⟩
abbrev main_call5_v13 : Ref sig .tc := ⟨.hbm, 117, rfl⟩
abbrev main_call5_cst : Ref sig .tc := ⟨.hbm, 118, rfl⟩
abbrev main_call5_v14 : Ref sig .tc := ⟨.hbm, 119, rfl⟩
abbrev main_v36 : Ref sig .tc := ⟨.hbm, 120, rfl⟩
abbrev main_v37 : Ref sig .tc := ⟨.hbm, 121, rfl⟩
abbrev main_v38 : Ref sig .tc := ⟨.hbm, 122, rfl⟩
abbrev main_v39 : Ref sig .tc := ⟨.hbm, 123, rfl⟩
abbrev main_v40 : Ref sig .tc := ⟨.hbm, 124, rfl⟩
abbrev main_cst_9 : Ref sig .tc := ⟨.hbm, 125, rfl⟩
abbrev main_v41 : Ref sig .tc := ⟨.hbm, 126, rfl⟩
abbrev main_v42 : Ref sig .tc := ⟨.hbm, 127, rfl⟩
abbrev main_cst_10 : Ref sig .tc := ⟨.hbm, 128, rfl⟩
abbrev main_v43 : Ref sig .tc := ⟨.hbm, 129, rfl⟩
abbrev main_v44 : Ref sig .tc := ⟨.hbm, 130, rfl⟩
abbrev main_cst_11 : Ref sig .tc := ⟨.hbm, 131, rfl⟩
abbrev main_v45 : Ref sig .tc := ⟨.hbm, 132, rfl⟩
abbrev main_v46 : Ref sig .tc := ⟨.hbm, 133, rfl⟩
abbrev main_cst_12 : Ref sig .tc := ⟨.hbm, 134, rfl⟩
abbrev main_call6_v0 : Ref sig .tc := ⟨.hbm, 135, rfl⟩
abbrev main_call6_v1 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_cst_13 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_v58 : Ref sig .tc := ⟨.hbm, 149, rfl⟩
abbrev main_v59 : Ref sig .tc := ⟨.hbm, 150, rfl⟩
abbrev main_v60 : Ref sig .tc := ⟨.hbm, 151, rfl⟩
abbrev main_v61 : Ref sig .tc := ⟨.hbm, 152, rfl⟩
abbrev main_call7_c : Ref sig .tc := ⟨.hbm, 153, rfl⟩
abbrev main_call7_v0 : Ref sig .tc := ⟨.hbm, 154, rfl⟩
abbrev main_call7_v1 : Ref sig .tc := ⟨.hbm, 155, rfl⟩
abbrev main_call7_c_0 : Ref sig .tc := ⟨.hbm, 156, rfl⟩
abbrev main_call7_v2 : Ref sig .tc := ⟨.hbm, 157, rfl⟩
abbrev main_call7_v3 : Ref sig .tc := ⟨.hbm, 158, rfl⟩
abbrev main_call7_v4 : Ref sig .tc := ⟨.hbm, 159, rfl⟩
abbrev main_call7_c_1 : Ref sig .tc := ⟨.hbm, 160, rfl⟩
abbrev main_call7_c_2 : Ref sig .tc := ⟨.hbm, 161, rfl⟩
abbrev main_call7_v5 : Ref sig .tc := ⟨.hbm, 162, rfl⟩
abbrev main_call7_v6 : Ref sig .tc := ⟨.hbm, 163, rfl⟩
abbrev main_call7_v7 : Ref sig .tc := ⟨.hbm, 164, rfl⟩
abbrev main_call7_v8 : Ref sig .tc := ⟨.hbm, 165, rfl⟩
abbrev main_call7_v9 : Ref sig .tc := ⟨.hbm, 166, rfl⟩
abbrev main_call7_v10 : Ref sig .tc := ⟨.hbm, 167, rfl⟩
abbrev main_call7_c_3 : Ref sig .tc := ⟨.hbm, 168, rfl⟩
abbrev main_call7_v11 : Ref sig .tc := ⟨.hbm, 169, rfl⟩
abbrev main_call7_v12 : Ref sig .tc := ⟨.hbm, 170, rfl⟩
abbrev main_call7_v13 : Ref sig .tc := ⟨.hbm, 171, rfl⟩
abbrev main_call7_cst : Ref sig .tc := ⟨.hbm, 172, rfl⟩
abbrev main_call7_v14 : Ref sig .tc := ⟨.hbm, 173, rfl⟩
abbrev main_v62 : Ref sig .tc := ⟨.hbm, 174, rfl⟩
abbrev main_v63 : Ref sig .tc := ⟨.hbm, 175, rfl⟩
abbrev main_call8_c : Ref sig .tc := ⟨.hbm, 176, rfl⟩
abbrev main_call8_v0 : Ref sig .tc := ⟨.hbm, 177, rfl⟩
abbrev main_call8_v1 : Ref sig .tc := ⟨.hbm, 178, rfl⟩
abbrev main_call8_c_0 : Ref sig .tc := ⟨.hbm, 179, rfl⟩
abbrev main_call8_v2 : Ref sig .tc := ⟨.hbm, 180, rfl⟩
abbrev main_call8_v3 : Ref sig .tc := ⟨.hbm, 181, rfl⟩
abbrev main_call8_v4 : Ref sig .tc := ⟨.hbm, 182, rfl⟩
abbrev main_call8_c_1 : Ref sig .tc := ⟨.hbm, 183, rfl⟩
abbrev main_call8_c_2 : Ref sig .tc := ⟨.hbm, 184, rfl⟩
abbrev main_call8_v5 : Ref sig .tc := ⟨.hbm, 185, rfl⟩
abbrev main_call8_v6 : Ref sig .tc := ⟨.hbm, 186, rfl⟩
abbrev main_call8_v7 : Ref sig .tc := ⟨.hbm, 187, rfl⟩
abbrev main_call8_v8 : Ref sig .tc := ⟨.hbm, 188, rfl⟩
abbrev main_call8_v9 : Ref sig .tc := ⟨.hbm, 189, rfl⟩
abbrev main_call8_v10 : Ref sig .tc := ⟨.hbm, 190, rfl⟩
abbrev main_call8_c_3 : Ref sig .tc := ⟨.hbm, 191, rfl⟩
abbrev main_call8_v11 : Ref sig .tc := ⟨.hbm, 192, rfl⟩
abbrev main_call8_v12 : Ref sig .tc := ⟨.hbm, 193, rfl⟩
abbrev main_call8_v13 : Ref sig .tc := ⟨.hbm, 194, rfl⟩
abbrev main_call8_cst : Ref sig .tc := ⟨.hbm, 195, rfl⟩
abbrev main_call8_v14 : Ref sig .tc := ⟨.hbm, 196, rfl⟩
abbrev main_v64 : Ref sig .tc := ⟨.hbm, 197, rfl⟩
abbrev main_v65 : Ref sig .tc := ⟨.hbm, 198, rfl⟩
abbrev main_v66 : Ref sig .tc := ⟨.hbm, 199, rfl⟩
abbrev main_c_14 : Ref sig .tc := ⟨.hbm, 200, rfl⟩
abbrev main_call9_v0 : Ref sig .tc := ⟨.hbm, 201, rfl⟩
abbrev main_call9_v1 : Ref sig .tc := ⟨.hbm, 202, rfl⟩
abbrev main_call9_v2 : Ref sig .tc := ⟨.hbm, 203, rfl⟩
abbrev main_call9_v3 : Ref sig .tc := ⟨.hbm, 204, rfl⟩
abbrev main_call9_v4 : Ref sig .tc := ⟨.hbm, 205, rfl⟩
abbrev main_call9_v5 : Ref sig .tc := ⟨.hbm, 206, rfl⟩
abbrev main_call9_v6 : Ref sig .tc := ⟨.hbm, 207, rfl⟩
abbrev main_call9_v7 : Ref sig .tc := ⟨.hbm, 208, rfl⟩
abbrev main_call9_v8 : Ref sig .tc := ⟨.hbm, 209, rfl⟩
abbrev main_call9_c : Ref sig .tc := ⟨.hbm, 210, rfl⟩
abbrev main_call9_v9 : Ref sig .tc := ⟨.hbm, 211, rfl⟩
abbrev main_call9_v10 : Ref sig .tc := ⟨.hbm, 212, rfl⟩
abbrev main_call9_v11 : Ref sig .tc := ⟨.hbm, 213, rfl⟩
abbrev main_call9_c_0 : Ref sig .tc := ⟨.hbm, 214, rfl⟩
abbrev main_call9_v12 : Ref sig .tc := ⟨.hbm, 215, rfl⟩
abbrev main_call9_v13 : Ref sig .tc := ⟨.hbm, 216, rfl⟩
abbrev main_v67 : Ref sig .tc := ⟨.hbm, 217, rfl⟩
abbrev main_v68 : Ref sig .tc := ⟨.hbm, 218, rfl⟩
abbrev main_c_15 : Ref sig .tc := ⟨.hbm, 219, rfl⟩
abbrev main_call10_v0 : Ref sig .tc := ⟨.hbm, 220, rfl⟩
abbrev main_call10_v1 : Ref sig .tc := ⟨.hbm, 221, rfl⟩
abbrev main_call10_v2 : Ref sig .tc := ⟨.hbm, 222, rfl⟩
abbrev main_call10_v3 : Ref sig .tc := ⟨.hbm, 223, rfl⟩
abbrev main_call10_v4 : Ref sig .tc := ⟨.hbm, 224, rfl⟩
abbrev main_call10_v5 : Ref sig .tc := ⟨.hbm, 225, rfl⟩
abbrev main_call10_v6 : Ref sig .tc := ⟨.hbm, 226, rfl⟩
abbrev main_call10_v7 : Ref sig .tc := ⟨.hbm, 227, rfl⟩
abbrev main_call10_v8 : Ref sig .tc := ⟨.hbm, 228, rfl⟩
abbrev main_call10_c : Ref sig .tc := ⟨.hbm, 229, rfl⟩
abbrev main_call10_v9 : Ref sig .tc := ⟨.hbm, 230, rfl⟩
abbrev main_call10_v10 : Ref sig .tc := ⟨.hbm, 231, rfl⟩
abbrev main_call10_v11 : Ref sig .tc := ⟨.hbm, 232, rfl⟩
abbrev main_call10_c_0 : Ref sig .tc := ⟨.hbm, 233, rfl⟩
abbrev main_call10_v12 : Ref sig .tc := ⟨.hbm, 234, rfl⟩
abbrev main_call10_v13 : Ref sig .tc := ⟨.hbm, 235, rfl⟩
abbrev main_v69 : Ref sig .tc := ⟨.hbm, 236, rfl⟩
abbrev main_v70 : Ref sig .tc := ⟨.hbm, 237, rfl⟩
abbrev main_v71 : Ref sig .tc := ⟨.hbm, 238, rfl⟩
abbrev main_v72 : Ref sig .tc := ⟨.hbm, 239, rfl⟩
abbrev main_cst_16 : Ref sig .tc := ⟨.hbm, 240, rfl⟩
abbrev main_cst_17 : Ref sig .tc := ⟨.hbm, 241, rfl⟩
abbrev main_call11_v0 : Ref sig .tc := ⟨.hbm, 242, rfl⟩
abbrev main_call11_v1 : Ref sig .tc := ⟨.hbm, 243, rfl⟩
abbrev main_v73 : Ref sig .tc := ⟨.hbm, 244, rfl⟩
abbrev main_v74 : Ref sig .tc := ⟨.hbm, 245, rfl⟩
abbrev main_v75 : Ref sig .tc := ⟨.hbm, 246, rfl⟩
abbrev main_cst_18 : Ref sig .tc := ⟨.hbm, 247, rfl⟩
abbrev main_v76 : Ref sig .tc := ⟨.hbm, 248, rfl⟩
abbrev main_v77 : Ref sig .tc := ⟨.hbm, 249, rfl⟩
abbrev main_v78 : Ref sig .tc := ⟨.hbm, 250, rfl⟩
abbrev main_cst_19 : Ref sig .tc := ⟨.hbm, 251, rfl⟩
abbrev main_v79 : Ref sig .tc := ⟨.hbm, 252, rfl⟩
abbrev main_v80 : Ref sig .tc := ⟨.hbm, 253, rfl⟩
abbrev main_cst_20 : Ref sig .tc := ⟨.hbm, 254, rfl⟩
abbrev main_v81 : Ref sig .tc := ⟨.hbm, 255, rfl⟩
abbrev main_v82 : Ref sig .tc := ⟨.hbm, 256, rfl⟩
abbrev main_cst_21 : Ref sig .tc := ⟨.hbm, 257, rfl⟩
abbrev main_call12_v0 : Ref sig .tc := ⟨.hbm, 258, rfl⟩
abbrev main_call12_v1 : Ref sig .tc := ⟨.hbm, 259, rfl⟩
abbrev main_v83 : Ref sig .tc := ⟨.hbm, 260, rfl⟩
abbrev main_v84 : Ref sig .tc := ⟨.hbm, 261, rfl⟩
abbrev main_v85 : Ref sig .tc := ⟨.hbm, 262, rfl⟩
abbrev main_v86 : Ref sig .tc := ⟨.hbm, 263, rfl⟩
abbrev main_cst_22 : Ref sig .tc := ⟨.hbm, 264, rfl⟩
abbrev main_v87 : Ref sig .tc := ⟨.hbm, 265, rfl⟩
abbrev main_v88 : Ref sig .tc := ⟨.hbm, 266, rfl⟩
abbrev main_v89 : Ref sig .tc := ⟨.hbm, 267, rfl⟩
abbrev main_v90 : Ref sig .tc := ⟨.hbm, 268, rfl⟩
abbrev main_v91 : Ref sig .tc := ⟨.hbm, 269, rfl⟩
abbrev main_v92 : Ref sig .tc := ⟨.hbm, 270, rfl⟩
abbrev main_v93 : Ref sig .tc := ⟨.hbm, 271, rfl⟩
abbrev main_v94 : Ref sig .tc := ⟨.hbm, 272, rfl⟩
abbrev main_cst_23 : Ref sig .tc := ⟨.hbm, 273, rfl⟩
abbrev main_v95 : Ref sig .tc := ⟨.hbm, 274, rfl⟩
abbrev main_v96 : Ref sig .tc := ⟨.hbm, 275, rfl⟩
abbrev main_v97 : Ref sig .tc := ⟨.hbm, 276, rfl⟩
abbrev main_v98 : Ref sig .tc := ⟨.hbm, 277, rfl⟩
abbrev main_cst_24 : Ref sig .tc := ⟨.hbm, 278, rfl⟩
abbrev main_v99 : Ref sig .tc := ⟨.hbm, 279, rfl⟩
abbrev main_v100 : Ref sig .tc := ⟨.hbm, 280, rfl⟩
abbrev main_cst_25 : Ref sig .tc := ⟨.hbm, 281, rfl⟩
abbrev main_v101 : Ref sig .tc := ⟨.hbm, 282, rfl⟩
abbrev main_v102 : Ref sig .tc := ⟨.hbm, 283, rfl⟩
abbrev main_v103 : Ref sig .tc := ⟨.hbm, 284, rfl⟩
abbrev main_v104 : Ref sig .tc := ⟨.hbm, 285, rfl⟩
abbrev main_cst_26 : Ref sig .tc := ⟨.hbm, 286, rfl⟩
abbrev main_v105 : Ref sig .tc := ⟨.hbm, 287, rfl⟩
abbrev main_v106 : Ref sig .tc := ⟨.hbm, 288, rfl⟩
abbrev main_v107 : Ref sig .tc := ⟨.hbm, 289, rfl⟩
abbrev main_v108 : Ref sig .tc := ⟨.hbm, 290, rfl⟩
abbrev main_v109 : Ref sig .tc := ⟨.hbm, 291, rfl⟩
abbrev main_v110 : Ref sig .tc := ⟨.hbm, 292, rfl⟩
abbrev main_call13_c : Ref sig .tc := ⟨.hbm, 293, rfl⟩
abbrev main_call13_v0 : Ref sig .tc := ⟨.hbm, 294, rfl⟩
abbrev main_call13_v1 : Ref sig .tc := ⟨.hbm, 295, rfl⟩
abbrev main_call13_c_0 : Ref sig .tc := ⟨.hbm, 296, rfl⟩
abbrev main_call13_v2 : Ref sig .tc := ⟨.hbm, 297, rfl⟩
abbrev main_call13_v3 : Ref sig .tc := ⟨.hbm, 298, rfl⟩
abbrev main_call13_v4 : Ref sig .tc := ⟨.hbm, 299, rfl⟩
abbrev main_call13_c_1 : Ref sig .tc := ⟨.hbm, 300, rfl⟩
abbrev main_call13_c_2 : Ref sig .tc := ⟨.hbm, 301, rfl⟩
abbrev main_call13_v5 : Ref sig .tc := ⟨.hbm, 302, rfl⟩
abbrev main_call13_v6 : Ref sig .tc := ⟨.hbm, 303, rfl⟩
abbrev main_call13_v7 : Ref sig .tc := ⟨.hbm, 304, rfl⟩
abbrev main_call13_v8 : Ref sig .tc := ⟨.hbm, 305, rfl⟩
abbrev main_call13_v9 : Ref sig .tc := ⟨.hbm, 306, rfl⟩
abbrev main_call13_v10 : Ref sig .tc := ⟨.hbm, 307, rfl⟩
abbrev main_call13_c_3 : Ref sig .tc := ⟨.hbm, 308, rfl⟩
abbrev main_call13_v11 : Ref sig .tc := ⟨.hbm, 309, rfl⟩
abbrev main_call13_v12 : Ref sig .tc := ⟨.hbm, 310, rfl⟩
abbrev main_call13_v13 : Ref sig .tc := ⟨.hbm, 311, rfl⟩
abbrev main_call13_cst : Ref sig .tc := ⟨.hbm, 312, rfl⟩
abbrev main_call13_v14 : Ref sig .tc := ⟨.hbm, 313, rfl⟩
abbrev main_v111 : Ref sig .tc := ⟨.hbm, 314, rfl⟩

abbrev nD : Nat := 1
abbrev τ : Topo := Topo.v7x

variable {F : FTy → Type} [FloatOps F]
-- ==== Proof.Scratch.lean ====
/- What a list of stores that covers a whole buffer leaves in it: the same contents whatever the buffer held. -/
module

public import Idealize.ShloMosaic.Lib.Pipeline.FrameBody

@[expose] public section

noncomputable section

namespace Cert.Proof.Scratch

open Idealize.ShloMosaic

variable {sig : RefSig} {κ : Kind} {sp : Space} {s : Shape} {e : EltTy} {Val : EltTy → Type} [∀ e, Nonempty (Val e)]

/-- Every index lies in some store's rectangle. -/
abbrev Covers (L : List (View.Piece Val s e)) : Prop := ∀ y, ∃ p ∈ L, y ∈ p.1.set

theorem canon_append_apply (L' : List (View.Piece Val s e)) (y : s.Idx) :
    ∀ L : List (View.Piece Val s e), (∃ p ∈ L, y ∈ p.1.set) → View.canon (L ++ L') y = View.canon L y
  | [], h => by obtain ⟨_, hm, _⟩ := h; exact absurd hm List.not_mem_nil
  | p :: L, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · obtain ⟨q, hm, hq⟩ := h
      have hL : ∃ p' ∈ L, y ∈ p'.1.set := by
        rcases List.mem_cons.mp hm with rfl | hm
        · exact absurd hq hy
        · exact ⟨q, hm, hq⟩
      rw [List.cons_append, View.canon_cons_of_not_mem _ _ hy, View.canon_cons_of_not_mem _ _ hy, canon_append_apply L' y L hL]

/-- Stores before a covering list are forgotten. -/
theorem writes_append (M : Memref sig κ sp s e) (h : M.IsWhole) (f : M.view.ty.Contents Val) (L L' : List (View.Piece Val s e)) (hL : Covers L) :
    M.view.writes Val f (L ++ L') = h.unread (View.canon L) := by
  refine h.eq_unread ?_
  rw [View.read_writes_eq_canon _ _ _ fun y => (hL y).imp fun p hp => ⟨List.mem_append_left _ hp.1, hp.2⟩]
  exact funext fun y => canon_append_apply L' y L (hL y)

theorem writes_covers (M : Memref sig κ sp s e) (h : M.IsWhole) (f : M.view.ty.Contents Val) (L : List (View.Piece Val s e)) (hL : Covers L) :
    M.view.writes Val f L = h.unread (View.canon L) :=
  h.eq_unread (View.read_writes_eq_canon _ _ _ hL)

end Cert.Proof.Scratch

end
-- ==== Proof.IdealRun.lean ====
/- The positions body of KernelIdeal run once: what its four loops store. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Scratch

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__positions_body` (pipeline 0), at the entry contents `V` — class R -/

/-- The state after the first array's counting pass: the carried counts, the stores into the first scratch buffer and
    those into the second. -/
def endQ (c : Dev nD) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x256 .f32) (harg7 : arg7.IsWhole) (arg8 : Memref sig .tc .vmem S1x8192x1 .i32) (harg8 : arg8.IsWhole) (arg9 : Memref sig .tc .vmem S1x8192x1 .i32) (harg9 : arg9.IsWhole) (arg10 : Memref sig .tc .vmem S8192x128 .f32) (harg10 : arg10.IsWhole) (arg11 : Memref sig .tc .vmem S32x128 .f32) (harg11 : arg11.IsWhole)
    (x0 : Vec F S1x8192x64 .f32) (x1 : Vec F S1x8192x64 .f32) (x2 : Vec F S64x128 .f32) (x3 : Vec F S1x128 .f32) (x4 : Vec F S1x128 .f32) (x5 : Vec F S128x128 .f32) (x6 : Vec F S256x256 .f32) : FVec F S1x128 .f32 × List (View.Piece (Elt F) S8192x128 .f32) × List (View.Piece (Elt F) S32x128 .f32) :=
  st_k0_t1 Variants.none c none i arg1 harg1 arg2 harg2 arg3 harg3 arg4 harg4 arg5 harg5 arg6 harg6 arg7 harg7 arg8 harg8 arg9 harg9 arg10 harg10 arg11 harg11 (harg1.unread x0) (harg3.unread x2) (harg4.unread x3) (harg5.unread x4) k0_pay2 (Scf.trips k0_t1_loop.lb k0_t1_loop.ub k0_t1_loop.st)

/-- The state after the second array's counting pass. -/
def endK (c : Dev nD) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x256 .f32) (harg7 : arg7.IsWhole) (arg8 : Memref sig .tc .vmem S1x8192x1 .i32) (harg8 : arg8.IsWhole) (arg9 : Memref sig .tc .vmem S1x8192x1 .i32) (harg9 : arg9.IsWhole) (arg10 : Memref sig .tc .vmem S8192x128 .f32) (harg10 : arg10.IsWhole) (arg11 : Memref sig .tc .vmem S32x128 .f32) (harg11 : arg11.IsWhole)
    (x0 : Vec F S1x8192x64 .f32) (x1 : Vec F S1x8192x64 .f32) (x2 : Vec F S64x128 .f32) (x3 : Vec F S1x128 .f32) (x4 : Vec F S1x128 .f32) (x5 : Vec F S128x128 .f32) (x6 : Vec F S256x256 .f32) : FVec F S1x128 .f32 × List (View.Piece (Elt F) S8192x128 .f32) × List (View.Piece (Elt F) S32x128 .f32) :=
  st_k0_t3 Variants.none c none i arg1 harg1 arg2 harg2 arg3 harg3 arg4 harg4 arg5 harg5 arg6 harg6 arg7 harg7 arg8 harg8 arg9 harg9 arg10 harg10 arg11 harg11 (harg2.unread x1) (harg3.unread x2) (harg4.unread x3) (harg5.unread x4) k0_pay8 (Scf.trips k0_t3_loop.lb k0_t3_loop.ub k0_t3_loop.st)

/-- The pass's stores cover the first scratch buffer. -/
theorem endQ_covers_a (c : Dev nD) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x256 .f32) (harg7 : arg7.IsWhole) (arg8 : Memref sig .tc .vmem S1x8192x1 .i32) (harg8 : arg8.IsWhole) (arg9 : Memref sig .tc .vmem S1x8192x1 .i32) (harg9 : arg9.IsWhole) (arg10 : Memref sig .tc .vmem S8192x128 .f32) (harg10 : arg10.IsWhole) (arg11 : Memref sig .tc .vmem S32x128 .f32) (harg11 : arg11.IsWhole)
    (x0 : Vec F S1x8192x64 .f32) (x1 : Vec F S1x8192x64 .f32) (x2 : Vec F S64x128 .f32) (x3 : Vec F S1x128 .f32) (x4 : Vec F S1x128 .f32) (x5 : Vec F S128x128 .f32) (x6 : Vec F S256x256 .f32) : Cert.Proof.Scratch.Covers (endQ c i arg1 harg1 arg2 harg2 arg3 harg3 arg4 harg4 arg5 harg5 arg6 harg6 arg7 harg7 arg8 harg8 arg9 harg9 arg10 harg10 arg11 harg11 x0 x1 x2 x3 x4 x5 x6).2.1 := fun y =>
  View.cover_of_tiledL (endQ c i arg1 harg1 arg2 harg2 arg3 harg3 arg4 harg4 arg5 harg5 arg6 harg6 arg7 harg7 arg8 harg8 arg9 harg9 arg10 harg10 arg11 harg11 x0 x1 x2 x3 x4 x5 x6).2.1 S256x128.size (by sl_kernel_rfl) y

/-- The pass's stores cover the second scratch buffer. -/
theorem endQ_covers_b (c : Dev nD) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x256 .f32) (harg7 : arg7.IsWhole) (arg8 : Memref sig .tc .vmem S1x8192x1 .i32) (harg8 : arg8.IsWhole) (arg9 : Memref sig .tc .vmem S1x8192x1 .i32) (harg9 : arg9.IsWhole) (arg10 : Memref sig .tc .vmem S8192x128 .f32) (harg10 : arg10.IsWhole) (arg11 : Memref sig .tc .vmem S32x128 .f32) (harg11 : arg11.IsWhole)
    (x0 : Vec F S1x8192x64 .f32) (x1 : Vec F S1x8192x64 .f32) (x2 : Vec F S64x128 .f32) (x3 : Vec F S1x128 .f32) (x4 : Vec F S1x128 .f32) (x5 : Vec F S128x128 .f32) (x6 : Vec F S256x256 .f32) : Cert.Proof.Scratch.Covers (endQ c i arg1 harg1 arg2 harg2 arg3 harg3 arg4 harg4 arg5 harg5 arg6 harg6 arg7 harg7 arg8 harg8 arg9 harg9 arg10 harg10 arg11 harg11 x0 x1 x2 x3 x4 x5 x6).2.2 := fun y =>
  View.cover_of_tiledL (endQ c i arg1 harg1 arg2 harg2 arg3 harg3 arg4 harg4 arg5 harg5 arg6 harg6 arg7 harg7 arg8 harg8 arg9 harg9 arg10 harg10 arg11 harg11 x0 x1 x2 x3 x4 x5 x6).2.2 S1x128.size (by sl_kernel_rfl) y

/-- The pass's stores cover the first scratch buffer. -/
theorem endK_covers_a (c : Dev nD) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x256 .f32) (harg7 : arg7.IsWhole) (arg8 : Memref sig .tc .vmem S1x8192x1 .i32) (harg8 : arg8.IsWhole) (arg9 : Memref sig .tc .vmem S1x8192x1 .i32) (harg9 : arg9.IsWhole) (arg10 : Memref sig .tc .vmem S8192x128 .f32) (harg10 : arg10.IsWhole) (arg11 : Memref sig .tc .vmem S32x128 .f32) (harg11 : arg11.IsWhole)
    (x0 : Vec F S1x8192x64 .f32) (x1 : Vec F S1x8192x64 .f32) (x2 : Vec F S64x128 .f32) (x3 : Vec F S1x128 .f32) (x4 : Vec F S1x128 .f32) (x5 : Vec F S128x128 .f32) (x6 : Vec F S256x256 .f32) : Cert.Proof.Scratch.Covers (endK c i arg1 harg1 arg2 harg2 arg3 harg3 arg4 harg4 arg5 harg5 arg6 harg6 arg7 harg7 arg8 harg8 arg9 harg9 arg10 harg10 arg11 harg11 x0 x1 x2 x3 x4 x5 x6).2.1 := fun y =>
  View.cover_of_tiledL (endK c i arg1 harg1 arg2 harg2 arg3 harg3 arg4 harg4 arg5 harg5 arg6 harg6 arg7 harg7 arg8 harg8 arg9 harg9 arg10 harg10 arg11 harg11 x0 x1 x2 x3 x4 x5 x6).2.1 S256x128.size (by sl_kernel_rfl) y

/-- The pass's stores cover the second scratch buffer. -/
theorem endK_covers_b (c : Dev nD) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x256 .f32) (harg7 : arg7.IsWhole) (arg8 : Memref sig .tc .vmem S1x8192x1 .i32) (harg8 : arg8.IsWhole) (arg9 : Memref sig .tc .vmem S1x8192x1 .i32) (harg9 : arg9.IsWhole) (arg10 : Memref sig .tc .vmem S8192x128 .f32) (harg10 : arg10.IsWhole) (arg11 : Memref sig .tc .vmem S32x128 .f32) (harg11 : arg11.IsWhole)
    (x0 : Vec F S1x8192x64 .f32) (x1 : Vec F S1x8192x64 .f32) (x2 : Vec F S64x128 .f32) (x3 : Vec F S1x128 .f32) (x4 : Vec F S1x128 .f32) (x5 : Vec F S128x128 .f32) (x6 : Vec F S256x256 .f32) : Cert.Proof.Scratch.Covers (endK c i arg1 harg1 arg2 harg2 arg3 harg3 arg4 harg4 arg5 harg5 arg6 harg6 arg7 harg7 arg8 harg8 arg9 harg9 arg10 harg10 arg11 harg11 x0 x1 x2 x3 x4 x5 x6).2.2 := fun y =>
  View.cover_of_tiledL (endK c i arg1 harg1 arg2 harg2 arg3 harg3 arg4 harg4 arg5 harg5 arg6 harg6 arg7 harg7 arg8 harg8 arg9 harg9 arg10 harg10 arg11 harg11 x0 x1 x2 x3 x4 x5 x6).2.2 S1x128.size (by sl_kernel_rfl) y

/-- The stores into the first output. -/
def posQ (c : Dev nD) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x256 .f32) (harg7 : arg7.IsWhole) (arg8 : Memref sig .tc .vmem S1x8192x1 .i32) (harg8 : arg8.IsWhole) (arg9 : Memref sig .tc .vmem S1x8192x1 .i32) (harg9 : arg9.IsWhole) (arg10 : Memref sig .tc .vmem S8192x128 .f32) (harg10 : arg10.IsWhole) (arg11 : Memref sig .tc .vmem S32x128 .f32) (harg11 : arg11.IsWhole)
    (x0 : Vec F S1x8192x64 .f32) (x1 : Vec F S1x8192x64 .f32) (x2 : Vec F S64x128 .f32) (x3 : Vec F S1x128 .f32) (x4 : Vec F S1x128 .f32) (x5 : Vec F S128x128 .f32) (x6 : Vec F S256x256 .f32) : List (View.Piece (Elt F) S1x8192x1 .i32) :=
  pb_k0_t2 Variants.none c none i arg1 harg1 arg2 harg2 arg3 harg3 arg4 harg4 arg5 harg5 arg6 harg6 arg7 harg7 arg8 harg8 arg9 harg9 arg10 harg10 arg11 harg11 (endQ c i arg1 harg1 arg2 harg2 arg3 harg3 arg4 harg4 arg5 harg5 arg6 harg6 arg7 harg7 arg8 harg8 arg9 harg9 arg10 harg10 arg11 harg11 x0 x1 x2 x3 x4 x5 x6).1 (View.readAt (Elt F) arg6.view (Rect.unit (s := S128x128) ![0, 0] S128x128.size inb_S128x128_S128x128_0_0).toLoadRect (harg6.unread x5)) (harg7.unread x6) (harg10.unread (View.canon (endQ c i arg1 harg1 arg2 harg2 arg3 harg3 arg4 harg4 arg5 harg5 arg6 harg6 arg7 harg7 arg8 harg8 arg9 harg9 arg10 harg10 arg11 harg11 x0 x1 x2 x3 x4 x5 x6).2.1)) (harg11.unread (View.canon (endQ c i arg1 harg1 arg2 harg2 arg3 harg3 arg4 harg4 arg5 harg5 arg6 harg6 arg7 harg7 arg8 harg8 arg9 harg9 arg10 harg10 arg11 harg11 x0 x1 x2 x3 x4 x5 x6).2.2)) (Scf.trips k0_t2_loop.lb k0_t2_loop.ub k0_t2_loop.st)

/-- The stores into the second output. -/
def posK (c : Dev nD) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x256 .f32) (harg7 : arg7.IsWhole) (arg8 : Memref sig .tc .vmem S1x8192x1 .i32) (harg8 : arg8.IsWhole) (arg9 : Memref sig .tc .vmem S1x8192x1 .i32) (harg9 : arg9.IsWhole) (arg10 : Memref sig .tc .vmem S8192x128 .f32) (harg10 : arg10.IsWhole) (arg11 : Memref sig .tc .vmem S32x128 .f32) (harg11 : arg11.IsWhole)
    (x0 : Vec F S1x8192x64 .f32) (x1 : Vec F S1x8192x64 .f32) (x2 : Vec F S64x128 .f32) (x3 : Vec F S1x128 .f32) (x4 : Vec F S1x128 .f32) (x5 : Vec F S128x128 .f32) (x6 : Vec F S256x256 .f32) : List (View.Piece (Elt F) S1x8192x1 .i32) :=
  pb_k0_t4 Variants.none c none i arg1 harg1 arg2 harg2 arg3 harg3 arg4 harg4 arg5 harg5 arg6 harg6 arg7 harg7 arg8 harg8 arg9 harg9 arg10 harg10 arg11 harg11 (endK c i arg1 harg1 arg2 harg2 arg3 harg3 arg4 harg4 arg5 harg5 arg6 harg6 arg7 harg7 arg8 harg8 arg9 harg9 arg10 harg10 arg11 harg11 x0 x1 x2 x3 x4 x5 x6).1 (View.readAt (Elt F) arg6.view (Rect.unit (s := S128x128) ![0, 0] S128x128.size inb_S128x128_S128x128_0_0).toLoadRect (harg6.unread x5)) (harg7.unread x6) (harg10.unread (View.canon (endK c i arg1 harg1 arg2 harg2 arg3 harg3 arg4 harg4 arg5 harg5 arg6 harg6 arg7 harg7 arg8 harg8 arg9 harg9 arg10 harg10 arg11 harg11 x0 x1 x2 x3 x4 x5 x6).2.1)) (harg11.unread (View.canon (endK c i arg1 harg1 arg2 harg2 arg3 harg3 arg4 harg4 arg5 harg5 arg6 harg6 arg7 harg7 arg8 harg8 arg9 harg9 arg10 harg10 arg11 harg11 x0 x1 x2 x3 x4 x5 x6).2.2)) (Scf.trips k0_t4_loop.lb k0_t4_loop.ub k0_t4_loop.st)

set_option maxHeartbeats 4000000 in
/-- The body, from its inputs at their contents and everything else at any, leaves the inputs as they were, each output
    with its stores written and the scratch buffers at some contents. -/
theorem run0 (c : Dev nD) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x256 .f32) (harg7 : arg7.IsWhole) (arg8 : Memref sig .tc .vmem S1x8192x1 .i32) (harg8 : arg8.IsWhole) (arg9 : Memref sig .tc .vmem S1x8192x1 .i32) (harg9 : arg9.IsWhole) (arg10 : Memref sig .tc .vmem S8192x128 .f32) (harg10 : arg10.IsWhole) (arg11 : Memref sig .tc .vmem S32x128 .f32) (harg11 : arg11.IsWhole)
    (x0 : Vec F S1x8192x64 .f32) (x1 : Vec F S1x8192x64 .f32) (x2 : Vec F S64x128 .f32) (x3 : Vec F S1x128 .f32) (x4 : Vec F S1x128 .f32) (x5 : Vec F S128x128 .f32) (x6 : Vec F S256x256 .f32) :
        ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f (posQ c i arg1 harg1 arg2 harg2 arg3 harg3 arg4 harg4 arg5 harg5 arg6 harg6 arg7 harg7 arg8 harg8 arg9 harg9 arg10 harg10 arg11 harg11 x0 x1 x2 x3 x4 x5 x6)) ∗ (∃ f, arg9.view.loc (c : Thread nD τ) ↦[arg9.view.set]{fullShare} arg9.view.writes (Elt F) f (posK c i arg1 harg1 arg2 harg2 arg3 harg3 arg4 harg4 arg5 harg5 arg6 harg6 arg7 harg7 arg8 harg8 arg9 harg9 arg10 harg10 arg11 harg11 x0 x1 x2 x3 x4 x5 x6)) ∗ (∃ d, owns (c : Thread nD τ) arg10 fullShare d) ∗ (∃ d, owns (c : Thread nD τ) arg11 fullShare d)) -∗ K ⟨⟩))
          ⊢ wp frame (wpE (defs₀ (F := F)) Variants.none c none) E (cc0__positions_body i arg1 harg1 arg2 harg2 arg3 harg3 arg4 harg4 arg5 harg5 arg6 harg6 arg7 harg7 arg8 harg8 arg9 harg9 arg10 harg10 arg11 harg11) K := by
  intro E K
  have hQa := endQ_covers_a c i arg1 harg1 arg2 harg2 arg3 harg3 arg4 harg4 arg5 harg5 arg6 harg6 arg7 harg7 arg8 harg8 arg9 harg9 arg10 harg10 arg11 harg11 x0 x1 x2 x3 x4 x5 x6
  have hQb := endQ_covers_b c i arg1 harg1 arg2 harg2 arg3 harg3 arg4 harg4 arg5 harg5 arg6 harg6 arg7 harg7 arg8 harg8 arg9 harg9 arg10 harg10 arg11 harg11 x0 x1 x2 x3 x4 x5 x6
  have hKa := endK_covers_a c i arg1 harg1 arg2 harg2 arg3 harg3 arg4 harg4 arg5 harg5 arg6 harg6 arg7 harg7 arg8 harg8 arg9 harg9 arg10 harg10 arg11 harg11 x0 x1 x2 x3 x4 x5 x6
  have hKb := endK_covers_b c i arg1 harg1 arg2 harg2 arg3 harg3 arg4 harg4 arg5 harg5 arg6 harg6 arg7 harg7 arg8 harg8 arg9 harg9 arg10 harg10 arg11 harg11 x0 x1 x2 x3 x4 x5 x6
  unfold posQ posK
  unfold endQ at hQa hQb ⊢
  unfold endK at hKa hKb ⊢
  · skip
    simp only [cc0__positions_body_eq_skeleton]; unfold cc0__positions_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    rw [Cert.Proof.Scratch.writes_covers arg10 harg10 fs0 _ hQa, Cert.Proof.Scratch.writes_covers arg11 harg11 fs1 _ hQb,
      Cert.Proof.Scratch.writes_append arg10 harg10 fs0 _ _ hKa, Cert.Proof.Scratch.writes_append arg11 harg11 fs1 _ _ hKb]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [HS0]
    · iexists _, _; isplitr; swap; · iexact HS0
      ipureintro; rfl
    iexists _, _; isplitr; swap; · iexact HS1
    ipureintro; rfl

/-- The two outputs' stores, with the run. -/
def kernelRun0_A (c : Dev nD) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x256 .f32) (harg7 : arg7.IsWhole) (arg8 : Memref sig .tc .vmem S1x8192x1 .i32) (harg8 : arg8.IsWhole) (arg9 : Memref sig .tc .vmem S1x8192x1 .i32) (harg9 : arg9.IsWhole) (arg10 : Memref sig .tc .vmem S8192x128 .f32) (harg10 : arg10.IsWhole) (arg11 : Memref sig .tc .vmem S32x128 .f32) (harg11 : arg11.IsWhole)
    (x0 : Vec F S1x8192x64 .f32) (x1 : Vec F S1x8192x64 .f32) (x2 : Vec F S64x128 .f32) (x3 : Vec F S1x128 .f32) (x4 : Vec F S1x128 .f32) (x5 : Vec F S128x128 .f32) (x6 : Vec F S256x256 .f32) :
    Σ' (L7 : List (View.Piece (Elt F) S1x8192x1 .i32)), { L8 : List (View.Piece (Elt F) S1x8192x1 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ d, owns (c : Thread nD τ) arg10 fullShare d) ∗ (∃ d, owns (c : Thread nD τ) arg11 fullShare d)) -∗ K ⟨⟩))
          ⊢ wp frame (wpE (defs₀ (F := F)) Variants.none c none) E (cc0__positions_body i arg1 harg1 arg2 harg2 arg3 harg3 arg4 harg4 arg5 harg5 arg6 harg6 arg7 harg7 arg8 harg8 arg9 harg9 arg10 harg10 arg11 harg11) K } :=
  ⟨posQ c i arg1 harg1 arg2 harg2 arg3 harg3 arg4 harg4 arg5 harg5 arg6 harg6 arg7 harg7 arg8 harg8 arg9 harg9 arg10 harg10 arg11 harg11 x0 x1 x2 x3 x4 x5 x6, posK c i arg1 harg1 arg2 harg2 arg3 harg3 arg4 harg4 arg5 harg5 arg6 harg6 arg7 harg7 arg8 harg8 arg9 harg9 arg10 harg10 arg11 harg11 x0 x1 x2 x3 x4 x5 x6, run0 c i arg1 harg1 arg2 harg2 arg3 harg3 arg4 harg4 arg5 harg5 arg6 harg6 arg7 harg7 arg8 harg8 arg9 harg9 arg10 harg10 arg11 harg11 x0 x1 x2 x3 x4 x5 x6⟩

end Regions

end Cert.KernelIdeal.Gen

end
-- ==== Proof.IdealFrame.lean ====
/- The frame of KernelIdeal: the two regions' bodies run, their outputs at every point, the contents at every
   boundary between the regions and the host stretches, and the frame claim. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.IdealRun

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__positions_body` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 7, through which its contents are stated (`View.read_writes_of_cover`: the
    choice does not matter). -/
abbrev VO0_7 : View sig .tc .vmem S1x8192x1 .i32 := (Memref.whole cc0_stg7_0 : Memref sig .tc .vmem S1x8192x1 .i32).view
/-- One staging buffer of output window 8, through which its contents are stated (`View.read_writes_of_cover`: the
    choice does not matter). -/
abbrev VO0_8 : View sig .tc .vmem S1x8192x1 .i32 := (Memref.whole cc0_stg8_0 : Memref sig .tc .vmem S1x8192x1 .i32).view
/-- Each window's current staging memref at point `t`, spelled as the pipeline passes it (`bodyAt0`), and its wholeness. -/
abbrev ms0_0 (t : Fin cfg0.N) : Memref sig .tc .vmem S1x8192x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x8192x1 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x8192x1 .i32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S8192x128 .f32 := Memref.whole cc0_scratch0
abbrev scM0_1 : Memref sig .tc .vmem S32x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f)) ∗ (∃ r, prngReg c r)) := by
  unfold Pipeline.ΦA; rw [scopedRest0_eq]; simp only [scM0_0, scM0_1, owns_whole]; try rfl

/-- The run's pieces for output 7 tile its block (32 stores of `S1x256x1`, checked by the kernel's evaluation: Lib/Ring.lean `Piece.tiledL`, linear in the pieces, through a loop's `@[irreducible]` trip theorem too), so they cover it. -/
theorem cover0_A_7 (c : Dev nD) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x256 .f32) (harg7 : arg7.IsWhole) (arg8 : Memref sig .tc .vmem S1x8192x1 .i32) (harg8 : arg8.IsWhole) (arg9 : Memref sig .tc .vmem S1x8192x1 .i32) (harg9 : arg9.IsWhole) (arg10 : Memref sig .tc .vmem S8192x128 .f32) (harg10 : arg10.IsWhole) (arg11 : Memref sig .tc .vmem S32x128 .f32) (harg11 : arg11.IsWhole)
    (x0 : Vec F S1x8192x64 .f32) (x1 : Vec F S1x8192x64 .f32) (x2 : Vec F S64x128 .f32) (x3 : Vec F S1x128 .f32) (x4 : Vec F S1x128 .f32) (x5 : Vec F S128x128 .f32) (x6 : Vec F S256x256 .f32) (y : S1x8192x1.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5 x6).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5 x6).1 S1x256x1.size (by sl_kernel_rfl) y

/-- What the run leaves in output 7's staging buffer: its pieces read back over junk. -/
def out0_A_7 (c : Dev nD) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x256 .f32) (harg7 : arg7.IsWhole) (arg8 : Memref sig .tc .vmem S1x8192x1 .i32) (harg8 : arg8.IsWhole) (arg9 : Memref sig .tc .vmem S1x8192x1 .i32) (harg9 : arg9.IsWhole) (arg10 : Memref sig .tc .vmem S8192x128 .f32) (harg10 : arg10.IsWhole) (arg11 : Memref sig .tc .vmem S32x128 .f32) (harg11 : arg11.IsWhole)
    (x0 : Vec F S1x8192x64 .f32) (x1 : Vec F S1x8192x64 .f32) (x2 : Vec F S64x128 .f32) (x3 : Vec F S1x128 .f32) (x4 : Vec F S1x128 .f32) (x5 : Vec F S128x128 .f32) (x6 : Vec F S256x256 .f32) : Vec F S1x8192x1 .i32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 x0 x1 x2 x3 x4 x5 x6).1)

/-- The run's pieces for output 8 tile its block (32 stores of `S1x256x1`, checked by the kernel's evaluation: Lib/Ring.lean `Piece.tiledL`, linear in the pieces, through a loop's `@[irreducible]` trip theorem too), so they cover it. -/
theorem cover0_A_8 (c : Dev nD) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x256 .f32) (harg7 : arg7.IsWhole) (arg8 : Memref sig .tc .vmem S1x8192x1 .i32) (harg8 : arg8.IsWhole) (arg9 : Memref sig .tc .vmem S1x8192x1 .i32) (harg9 : arg9.IsWhole) (arg10 : Memref sig .tc .vmem S8192x128 .f32) (harg10 : arg10.IsWhole) (arg11 : Memref sig .tc .vmem S32x128 .f32) (harg11 : arg11.IsWhole)
    (x0 : Vec F S1x8192x64 .f32) (x1 : Vec F S1x8192x64 .f32) (x2 : Vec F S64x128 .f32) (x3 : Vec F S1x128 .f32) (x4 : Vec F S1x128 .f32) (x5 : Vec F S128x128 .f32) (x6 : Vec F S256x256 .f32) (y : S1x8192x1.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5 x6).2.1 S1x256x1.size (by sl_kernel_rfl) y

/-- What the run leaves in output 8's staging buffer: its pieces read back over junk. -/
def out0_A_8 (c : Dev nD) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x256 .f32) (harg7 : arg7.IsWhole) (arg8 : Memref sig .tc .vmem S1x8192x1 .i32) (harg8 : arg8.IsWhole) (arg9 : Memref sig .tc .vmem S1x8192x1 .i32) (harg9 : arg9.IsWhole) (arg10 : Memref sig .tc .vmem S8192x128 .f32) (harg10 : arg10.IsWhole) (arg11 : Memref sig .tc .vmem S32x128 .f32) (harg11 : arg11.IsWhole)
    (x0 : Vec F S1x8192x64 .f32) (x1 : Vec F S1x8192x64 .f32) (x2 : Vec F S64x128 .f32) (x3 : Vec F S1x128 .f32) (x4 : Vec F S1x128 .f32) (x5 : Vec F S128x128 .f32) (x6 : Vec F S256x256 .f32) : Vec F S1x8192x1 .i32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 x0 x1 x2 x3 x4 x5 x6).2.1)

/-! ## What the outputs hold after each point -/

/-- What the outputs' staging buffers hold after the body at point `t` (as a tuple, in window order): the run's contents at
    the point's memrefs and input blocks. -/
def outsAt0 (c : Dev nD) (t : Fin cfg0.N) : Vec F S1x8192x1 .i32 × Vec F S1x8192x1 .i32 :=
  (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk0 V c 0 t) (iblk0 V c 1 t) (iblk0 V c 2 t) (iblk0 V c 3 t) (iblk0 V c 4 t) (iblk0 V c 5 t) (iblk0 V c 6 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t).1
    | ⟨8, _⟩ => (outsAt0 V c t).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t).1 := by dsimp only [dat0]
theorem after0_8 (c : Dev nD) (t : Fin cfg0.N) : (dat0 V c).after 8 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  rw [show (dat0 V c).Φ t.castSucc = Pipeline.ΦA spec0 c from rfl, PhiA0_eq]
  unfold outsAt0
  unfold out0_A_7 out0_A_8; (try dsimp only)
  iintro ⟨⟨⟨HS0, HS1, HR2, HR3, HR4, HR5, HR6, HR7, HR8, HR9, HR10, HR11, HR12, HR13, HR14, HR15⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [HS0]; · iexact HS0
  isplitl [HS1]; · iexact HS1
  iintro ⟨H0, H1, H2, H3, H4, H5, H6, ⟨%e7, H7⟩, ⟨%e8, H8⟩, HS0, HS1⟩
  isplitl [HS0 HS1 HR2 HR3 HR4 HR5 HR6 HR7 HR8 HR9 HR10 HR11 HR12 HR13 HR14 HR15 Hg]
  · isplitl [HS0 HS1 HR2 HR3 HR4 HR5 HR6 HR7 HR8 HR9 HR10 HR11 HR12 HR13 HR14 HR15]
    · isplitl [HS0]
      · iexact HS0
      isplitl [HS1]
      · iexact HS1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      isplitl [HR12]
      · iexact HR12
      isplitl [HR13]
      · iexact HR13
      isplitl [HR14]
      · iexact HR14
      iexact HR15
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _ _)
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__attention_body` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1x1x256x64 := Rect.unit (s := S1x1x256x64) ![0, 0, 0, 0] S1x1x256x64.size inb_S1x1x256x64_S1x1x256x64_0_0_0_0
abbrev r1_1 : Rect S1x256x64 := Rect.unit (s := S1x256x64) ![0, 0, 0] S1x256x64.size inb_S1x256x64_S1x256x64_0_0_0
abbrev r1_2 : Rect S1x1x256 := Rect.unit (s := S1x1x256) ![0, 0, 0] S1x1x256.size inb_S1x1x256_S1x1x256_0_0_0

/-! ## What the body leaves in each output window's buffer -/

/-- Window 6's staging buffer after the body, from the input windows' blocks: its 1 store as pieces, LAST
    FIRST (Lib/Pipeline/FrameBody.lean `View.canon`; the payloads are the skeleton's). -/
def out1_6 (i : grid1.Coords) (x0 : Vec F S1x1x256x64 .f32) (x1 : Vec F S1x1x256x64 .f32) (x2 : Vec F S1x1x256x64 .f32) (x3 : Vec F S1x256x64 .f32) (x4 : Vec F S1x256x64 .f32) (x5 : Vec F S1x1x256 .i32) : Vec F S1x1x256x64 .f32 :=
  View.canon [⟨r1_0, k1_pay1 (k1_pay2 (View.ld x2 r1_0)) (k1_pay3 (View.ld x4 r1_1)) (k1_pay4 i (View.ld x0 r1_0) (View.ld x1 r1_0) (View.ld x3 r1_1) (View.ld x5 r1_2))⟩]

/-- Its stores tile the buffer (checked by evaluation), so they cover it. -/
theorem cover1_6 (p0 : Vec F S1x1x256x64 .f32) (y : S1x1x256x64.Idx) :
    ∃ pc ∈ ([⟨r1_0, p0⟩] : List (View.Piece (Elt F) S1x1x256x64 .f32)), y ∈ pc.1.set :=
  View.cover_of_tiled [⟨r1_0, p0⟩] S1x1x256x64.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg2 : Memref sig .tc .vmem S1x1x256x64 .f32) (harg2 : arg2.IsWhole) (arg3 : Memref sig .tc .vmem S1x1x256x64 .f32) (harg3 : arg3.IsWhole) (arg4 : Memref sig .tc .vmem S1x1x256x64 .f32) (harg4 : arg4.IsWhole) (arg5 : Memref sig .tc .vmem S1x256x64 .f32) (harg5 : arg5.IsWhole) (arg6 : Memref sig .tc .vmem S1x256x64 .f32) (harg6 : arg6.IsWhole) (arg7 : Memref sig .tc .vmem S1x1x256 .i32) (harg7 : arg7.IsWhole) (arg8 : Memref sig .tc .vmem S1x1x256x64 .f32) (harg8 : arg8.IsWhole)
    (x0 : Vec F S1x1x256x64 .f32) (x1 : Vec F S1x1x256x64 .f32) (x2 : Vec F S1x1x256x64 .f32) (x3 : Vec F S1x256x64 .f32) (x4 : Vec F S1x256x64 .f32) (x5 : Vec F S1x1x256 .i32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (out1_6 i x0 x1 x2 x3 x4 x5)) -∗ K ⟨⟩))
      ⊢ wp frame (wpE (defs₀ (F := F)) Variants.none c none) E (cc1__attention_body i arg2 harg2 arg3 harg3 arg4 harg4 arg5 harg5 arg6 harg6 arg7 harg7 arg8 harg8) K := by
  simp only [cc1__attention_body_eq_skeleton]; unfold cc1__attention_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (grid1.coords t) (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (grid1.coords t) (iblk1 V c 0 t) (iblk1 V c 1 t) (iblk1 V c 2 t) (iblk1 V c 3 t) (iblk1 V c 4 t) (iblk1 V c 5 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_cst_0, main_cst_1, main_cst_2, main_v0, main_v1, main_v2, main_c]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_v3]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v4, main_v5]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v7, main_v8, main_c_3, main_c_4, main_v9, main_v10, main_v11, main_c_5, main_v12, main_v13, main_v14, main_v15, main_c_6, main_c_7]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call1_c, main_call1_c_0, main_call1_c_1, main_call1_call0_v0, main_call1_v0, main_call1_v1, main_call1_c_2, main_call1_c_3, main_call1_call1_v0, main_call1_v2, main_call1_v3, main_call1_c_4, main_call1_c_5, main_call1_call2_v0, main_call1_v4, main_call1_v5, main_call1_v6, main_call1_v7, main_call1_call3_v0, main_call1_call3_v1, main_call1_call3_v2, main_call1_call3_v3, main_call1_call3_v4, main_call1_call3_c, main_call1_call3_v5, main_call1_call3_v6, main_call1_call3_c_0, main_call1_call3_v7, main_call1_call3_v8, main_call1_call3_v9, main_call1_call3_v10, main_call1_call3_call0_v0, main_call1_call3_call0_c, main_call1_call3_call0_v1, main_call1_call3_call0_v2, main_call1_call3_call0_v3, main_call1_call3_call0_v4, main_call1_call3_call0_v5, main_call1_call3_call0_v6, main_call1_call3_call0_c_0, main_call1_call3_call0_v7, main_call1_call3_call0_v8, main_call1_call3_call0_c_1, main_call1_call3_call0_v9, main_call1_call3_call0_v10, main_call1_call3_call0_v11, main_call1_call3_call0_v12, main_call1_call3_call0_v13, main_call1_call3_call0_c_2, main_call1_call3_call0_v14, main_call1_call3_call0_v15, main_call1_call3_call0_c_3, main_call1_call3_call0_v16, main_call1_call3_call0_v17, main_call1_call3_call0_v18, main_call1_call3_call0_v19, main_call1_call3_call0_v20, main_call1_call3_call0_c_4, main_call1_call3_call0_v21, main_call1_call3_call0_v22, main_call1_call3_call0_c_5, main_call1_call3_call0_v23, main_call1_call3_call0_v24, main_call1_call3_call0_v25, main_call1_call3_call0_v26, main_call1_call3_call0_v27, main_call1_call3_call0_c_6, main_call1_call3_call0_v28, main_call1_call3_call0_v29, main_call1_call3_call0_c_7, main_call1_call3_call0_v30, main_call1_call3_call0_v31, main_call1_call3_call0_v32, main_call1_call3_call0_v33, main_call1_call3_call0_v34, main_call1_call3_call0_v35, main_call1_call3_call0_v36, main_call1_call3_call0_v37, main_call1_call3_call0_c_8, main_call1_call3_call0_v38, main_call1_call3_call0_v39, main_call1_call3_call0_v40, main_call1_call3_call0_c_9, main_call1_call3_call0_v41, main_call1_call3_call0_v42, main_call1_call3_call0_c_10, main_call1_call3_call0_v43, main_call1_call3_call0_v44, main_call1_call3_call0_v45, main_call1_call3_call0_v46, main_call1_call3_call0_v47, main_call1_call3_call0_c_11, main_call1_call3_call0_v48, main_call1_call3_call0_v49, main_call1_call3_call0_c_12, main_call1_call3_call0_v50, main_call1_call3_call0_v51, main_call1_call3_call0_v52, main_call1_call3_call0_v53, main_call1_call3_call0_v54, main_call1_call3_call0_c_13, main_call1_call3_call0_v55, main_call1_call3_call0_v56, main_call1_call3_call0_c_14, main_call1_call3_call0_v57, main_call1_call3_call0_v58, main_call1_call3_call0_v59, main_call1_call3_call0_v60, main_call1_call3_call0_v61, main_call1_call3_call0_c_15, main_call1_call3_call0_v62, main_call1_call3_call0_v63, main_call1_call3_call0_c_16, main_call1_call3_call0_v64, main_call1_call3_call0_v65, main_call1_call3_call0_v66, main_call1_call3_call0_v67, main_call1_call3_call0_v68, main_call1_call3_call0_v69, main_call1_call3_call0_v70, main_call1_call3_call0_v71, main_call1_call3_call0_c_17, main_call1_call3_call0_v72, main_call1_call3_call0_v73, main_call1_call3_call0_v74, main_call1_call3_call0_c_18, main_call1_call3_call0_v75, main_call1_call3_call0_v76, main_call1_call3_call0_c_19, main_call1_call3_call0_v77, main_call1_call3_call0_v78, main_call1_call3_call0_v79, main_call1_call3_call0_v80, main_call1_call3_call0_v81, main_call1_call3_call0_c_20, main_call1_call3_call0_v82, main_call1_call3_call0_v83, main_call1_call3_call0_c_21, main_call1_call3_call0_v84, main_call1_call3_call0_v85, main_call1_call3_call0_v86, main_call1_call3_call0_v87, main_call1_call3_call0_v88, main_call1_call3_call0_c_22, main_call1_call3_call0_v89, main_call1_call3_call0_v90, main_call1_call3_call0_c_23, main_call1_call3_call0_v91, main_call1_call3_call0_v92, main_call1_call3_call0_v93, main_call1_call3_call0_v94, main_call1_call3_call0_v95, main_call1_call3_call0_c_24, main_call1_call3_call0_v96, main_call1_call3_call0_v97, main_call1_call3_call0_c_25, main_call1_call3_call0_v98, main_call1_call3_call0_v99, main_call1_call3_call0_v100, main_call1_call3_call0_v101, main_call1_call3_call0_v102, main_call1_call3_call0_v103, main_call1_call3_call0_v104, main_call1_call3_call0_v105, main_call1_call3_call0_c_26, main_call1_call3_call0_v106, main_call1_call3_call0_v107, main_call1_call3_call0_v108, main_call1_call3_call0_c_27, main_call1_call3_call0_v109, main_call1_call3_call0_v110, main_call1_call3_call0_c_28, main_call1_call3_call0_v111, main_call1_call3_call0_v112, main_call1_call3_call0_v113, main_call1_call3_call0_v114, main_call1_call3_call0_v115, main_call1_call3_call0_c_29, main_call1_call3_call0_v116, main_call1_call3_call0_v117, main_call1_call3_call0_c_30, main_call1_call3_call0_v118, main_call1_call3_call0_v119, main_call1_call3_call0_v120, main_call1_call3_call0_v121, main_call1_call3_call0_v122, main_call1_call3_call0_c_31, main_call1_call3_call0_v123, main_call1_call3_call0_v124, main_call1_call3_call0_c_32, main_call1_call3_call0_v125, main_call1_call3_call0_v126, main_call1_call3_call0_v127, main_call1_call3_call0_v128, main_call1_call3_call0_v129, main_call1_call3_call0_c_33, main_call1_call3_call0_v130, main_call1_call3_call0_v131, main_call1_call3_call0_c_34, main_call1_call3_call0_v132, main_call1_call3_call0_v133, main_call1_call3_call0_v134, main_call1_call3_call0_v135, main_call1_call3_call0_v136, main_call1_call3_call0_v137, main_call1_call3_call0_v138, main_call1_call3_call0_v139, main_call1_call3_call0_c_35, main_call1_call3_call0_v140, main_call1_call3_call0_v141, main_call1_call3_call0_v142, main_call1_call3_call0_c_36, main_call1_call3_call0_v143, main_call1_call3_call0_v144, main_call1_call3_call0_c_37, main_call1_call3_call0_v145, main_call1_call3_call0_v146, main_call1_call3_call0_v147, main_call1_call3_call0_v148, main_call1_call3_call0_v149, main_call1_call3_call0_c_38, main_call1_call3_call0_v150, main_call1_call3_call0_v151, main_call1_call3_call0_c_39, main_call1_call3_call0_v152, main_call1_call3_call0_v153, main_call1_call3_call0_v154, main_call1_call3_call0_v155, main_call1_call3_call0_v156, main_call1_call3_call0_c_40, main_call1_call3_call0_v157, main_call1_call3_call0_v158, main_call1_call3_call0_c_41, main_call1_call3_call0_v159, main_call1_call3_call0_v160, main_call1_call3_call0_v161, main_call1_call3_call0_v162, main_call1_call3_call0_v163, main_call1_call3_call0_c_42, main_call1_call3_call0_v164, main_call1_call3_call0_v165, main_call1_call3_call0_c_43, main_call1_call3_call0_v166, main_call1_call3_call0_v167, main_call1_call3_call0_v168, main_call1_call3_call0_v169, main_call1_call3_call0_v170, main_call1_call3_v11_0, main_call1_call3_call0_v172, main_call1_call3_call0_v173, main_call1_call3_call0_c_44, main_call1_call3_call0_v174, main_call1_call3_v11_1, main_call1_call3_v12, main_call1_call3_v13, main_call1_v8, main_call1_v9, main_call1_v10, main_call1_v11, main_call1_v12, main_call1_v13, main_call1_v14, main_call1_v15, main_call1_v16, main_call1_v17, main_call1_v18, main_call1_v19, main_call1_c_6, main_call1_v20, main_call1_v21, main_call1_c_7, main_call1_v22, main_call1_v23, main_call1_c_8, main_call1_v24, main_call1_v25, main_call1_v26, main_call1_v27, main_call1_c_9, main_call1_v28, main_call1_v29, main_call1_v30, main_call1_v31, main_call1_call4_v0, main_call1_call4_c, main_call1_call4_v1, main_call1_call4_v2, main_call1_call4_v3, main_call1_call4_v4, main_call1_call4_v5, main_call1_call4_v6, main_call1_call4_c_0, main_call1_call4_v7, main_call1_call4_v8, main_call1_call4_c_1, main_call1_call4_v9, main_call1_call4_v10, main_call1_call4_v11, main_call1_call4_v12, main_call1_call4_v13, main_call1_call4_c_2, main_call1_call4_v14, main_call1_call4_v15, main_call1_call4_c_3, main_call1_call4_v16, main_call1_call4_v17, main_call1_call4_v18, main_call1_call4_v19, main_call1_call4_v20, main_call1_call4_c_4, main_call1_call4_v21, main_call1_call4_v22, main_call1_call4_c_5, main_call1_call4_v23, main_call1_call4_v24, main_call1_call4_v25, main_call1_call4_v26, main_call1_call4_v27, main_call1_call4_c_6, main_call1_call4_v28, main_call1_call4_v29, main_call1_call4_c_7, main_call1_call4_v30, main_call1_call4_v31, main_call1_call4_v32, main_call1_call4_v33, main_call1_call4_v34, main_call1_call4_v35, main_call1_call4_v36, main_call1_call4_v37, main_call1_call4_c_8, main_call1_call4_v38, main_call1_call4_v39, main_call1_call4_v40, main_call1_call4_c_9, main_call1_call4_v41, main_call1_call4_v42, main_call1_call4_c_10, main_call1_call4_v43, main_call1_call4_v44, main_call1_call4_v45, main_call1_call4_v46, main_call1_call4_v47, main_call1_call4_c_11, main_call1_call4_v48, main_call1_call4_v49, main_call1_call4_c_12, main_call1_call4_v50, main_call1_call4_v51, main_call1_call4_v52, main_call1_call4_v53, main_call1_call4_v54, main_call1_call4_c_13, main_call1_call4_v55, main_call1_call4_v56, main_call1_call4_c_14, main_call1_call4_v57, main_call1_call4_v58, main_call1_call4_v59, main_call1_call4_v60, main_call1_call4_v61, main_call1_call4_c_15, main_call1_call4_v62, main_call1_call4_v63, main_call1_call4_c_16, main_call1_call4_v64, main_call1_call4_v65, main_call1_call4_v66, main_call1_call4_v67, main_call1_call4_v68, main_call1_call4_v69, main_call1_call4_v70, main_call1_call4_v71, main_call1_call4_c_17, main_call1_call4_v72, main_call1_call4_v73, main_call1_call4_v74, main_call1_call4_c_18, main_call1_call4_v75, main_call1_call4_v76, main_call1_call4_c_19, main_call1_call4_v77, main_call1_call4_v78, main_call1_call4_v79, main_call1_call4_v80, main_call1_call4_v81, main_call1_call4_c_20, main_call1_call4_v82, main_call1_call4_v83, main_call1_call4_c_21, main_call1_call4_v84, main_call1_call4_v85, main_call1_call4_v86, main_call1_call4_v87, main_call1_call4_v88, main_call1_call4_c_22, main_call1_call4_v89, main_call1_call4_v90, main_call1_call4_c_23, main_call1_call4_v91, main_call1_call4_v92, main_call1_call4_v93, main_call1_call4_v94, main_call1_call4_v95, main_call1_call4_c_24, main_call1_call4_v96, main_call1_call4_v97, main_call1_call4_c_25, main_call1_call4_v98, main_call1_call4_v99, main_call1_call4_v100, main_call1_call4_v101, main_call1_call4_v102, main_call1_call4_v103, main_call1_call4_v104, main_call1_call4_v105, main_call1_call4_c_26, main_call1_call4_v106, main_call1_call4_v107, main_call1_call4_v108, main_call1_call4_c_27, main_call1_call4_v109, main_call1_call4_v110, main_call1_call4_c_28, main_call1_call4_v111, main_call1_call4_v112, main_call1_call4_v113, main_call1_call4_v114, main_call1_call4_v115, main_call1_call4_c_29, main_call1_call4_v116, main_call1_call4_v117, main_call1_call4_c_30, main_call1_call4_v118, main_call1_call4_v119, main_call1_call4_v120, main_call1_call4_v121, main_call1_call4_v122, main_call1_call4_c_31, main_call1_call4_v123, main_call1_call4_v124, main_call1_call4_c_32, main_call1_call4_v125, main_call1_call4_v126, main_call1_call4_v127, main_call1_call4_v128, main_call1_call4_v129, main_call1_call4_c_33, main_call1_call4_v130, main_call1_call4_v131, main_call1_call4_c_34, main_call1_call4_v132, main_call1_call4_v133, main_call1_call4_v134, main_call1_call4_v135, main_call1_call4_v136, main_call1_call4_v137, main_call1_call4_v138, main_call1_call4_v139, main_call1_call4_c_35, main_call1_call4_v140, main_call1_call4_v141, main_call1_call4_v142, main_call1_call4_c_36, main_call1_call4_v143, main_call1_call4_v144, main_call1_call4_c_37, main_call1_call4_v145, main_call1_call4_v146, main_call1_call4_v147, main_call1_call4_v148, main_call1_call4_v149, main_call1_call4_c_38, main_call1_call4_v150, main_call1_call4_v151, main_call1_call4_c_39, main_call1_call4_v152, main_call1_call4_v153, main_call1_call4_v154, main_call1_call4_v155, main_call1_call4_v156, main_call1_call4_c_40, main_call1_call4_v157, main_call1_call4_v158, main_call1_call4_c_41, main_call1_call4_v159, main_call1_call4_v160, main_call1_call4_v161, main_call1_call4_v162, main_call1_call4_v163, main_call1_call4_c_42, main_call1_call4_v164, main_call1_call4_v165, main_call1_call4_c_43, main_call1_call4_v166, main_call1_call4_v167, main_call1_call4_v168, main_call1_call4_v169, main_call1_call4_v170, main_call1_v32_0, main_call1_call4_v172, main_call1_call4_v173, main_call1_call4_c_44, main_call1_call4_v174, main_call1_v32_1, main_call1_v33, main_call1_v34, main_call1_v35, main_call1_v36, main_call1_v37, main_call1_v38, main_call1_v39, main_call1_v40, main_call1_c_10, main_call1_v41, main_call1_v42, main_call1_c_11, main_call1_v43, main_call1_v44, main_call1_c_12, main_call1_v45, main_call1_v46, main_call1_v47, main_call1_v48, main_call1_c_13, main_call1_v49, main_call1_v50, main_call1_v51, main_call1_v52, main_call1_call5_v0, main_call1_call5_c, main_call1_call5_v1, main_call1_call5_v2, main_call1_call5_v3, main_call1_call5_v4, main_call1_call5_v5, main_call1_call5_v6, main_call1_call5_c_0, main_call1_call5_v7, main_call1_call5_v8, main_call1_call5_c_1, main_call1_call5_v9, main_call1_call5_v10, main_call1_call5_v11, main_call1_call5_v12, main_call1_call5_v13, main_call1_call5_c_2, main_call1_call5_v14, main_call1_call5_v15, main_call1_call5_c_3, main_call1_call5_v16, main_call1_call5_v17, main_call1_call5_v18, main_call1_call5_v19, main_call1_call5_v20, main_call1_call5_c_4, main_call1_call5_v21, main_call1_call5_v22, main_call1_call5_c_5, main_call1_call5_v23, main_call1_call5_v24, main_call1_call5_v25, main_call1_call5_v26, main_call1_call5_v27, main_call1_call5_c_6, main_call1_call5_v28, main_call1_call5_v29, main_call1_call5_c_7, main_call1_call5_v30, main_call1_call5_v31, main_call1_call5_v32, main_call1_call5_v33, main_call1_call5_v34, main_call1_call5_v35, main_call1_call5_v36, main_call1_call5_v37, main_call1_call5_c_8, main_call1_call5_v38, main_call1_call5_v39, main_call1_call5_v40, main_call1_call5_c_9, main_call1_call5_v41, main_call1_call5_v42, main_call1_call5_c_10, main_call1_call5_v43, main_call1_call5_v44, main_call1_call5_v45, main_call1_call5_v46, main_call1_call5_v47, main_call1_call5_c_11, main_call1_call5_v48, main_call1_call5_v49, main_call1_call5_c_12, main_call1_call5_v50, main_call1_call5_v51, main_call1_call5_v52, main_call1_call5_v53, main_call1_call5_v54, main_call1_call5_c_13, main_call1_call5_v55, main_call1_call5_v56, main_call1_call5_c_14, main_call1_call5_v57, main_call1_call5_v58, main_call1_call5_v59, main_call1_call5_v60, main_call1_call5_v61, main_call1_call5_c_15, main_call1_call5_v62, main_call1_call5_v63, main_call1_call5_c_16, main_call1_call5_v64, main_call1_call5_v65, main_call1_call5_v66, main_call1_call5_v67, main_call1_call5_v68, main_call1_call5_v69, main_call1_call5_v70, main_call1_call5_v71, main_call1_call5_c_17, main_call1_call5_v72, main_call1_call5_v73, main_call1_call5_v74, main_call1_call5_c_18, main_call1_call5_v75, main_call1_call5_v76, main_call1_call5_c_19, main_call1_call5_v77, main_call1_call5_v78, main_call1_call5_v79, main_call1_call5_v80, main_call1_call5_v81, main_call1_call5_c_20, main_call1_call5_v82, main_call1_call5_v83, main_call1_call5_c_21, main_call1_call5_v84, main_call1_call5_v85, main_call1_call5_v86, main_call1_call5_v87, main_call1_call5_v88, main_call1_call5_c_22, main_call1_call5_v89, main_call1_call5_v90, main_call1_call5_c_23, main_call1_call5_v91, main_call1_call5_v92, main_call1_call5_v93, main_call1_call5_v94, main_call1_call5_v95, main_call1_call5_c_24, main_call1_call5_v96, main_call1_call5_v97, main_call1_call5_c_25, main_call1_call5_v98, main_call1_call5_v99, main_call1_call5_v100, main_call1_call5_v101, main_call1_call5_v102, main_call1_call5_v103, main_call1_call5_v104, main_call1_call5_v105, main_call1_call5_c_26, main_call1_call5_v106, main_call1_call5_v107, main_call1_call5_v108, main_call1_call5_c_27, main_call1_call5_v109, main_call1_call5_v110, main_call1_call5_c_28, main_call1_call5_v111, main_call1_call5_v112, main_call1_call5_v113, main_call1_call5_v114, main_call1_call5_v115, main_call1_call5_c_29, main_call1_call5_v116, main_call1_call5_v117, main_call1_call5_c_30, main_call1_call5_v118, main_call1_call5_v119, main_call1_call5_v120, main_call1_call5_v121, main_call1_call5_v122, main_call1_call5_c_31, main_call1_call5_v123, main_call1_call5_v124, main_call1_call5_c_32, main_call1_call5_v125, main_call1_call5_v126, main_call1_call5_v127, main_call1_call5_v128, main_call1_call5_v129, main_call1_call5_c_33, main_call1_call5_v130, main_call1_call5_v131, main_call1_call5_c_34, main_call1_call5_v132, main_call1_call5_v133, main_call1_call5_v134, main_call1_call5_v135, main_call1_call5_v136, main_call1_call5_v137, main_call1_call5_v138, main_call1_call5_v139, main_call1_call5_c_35, main_call1_call5_v140, main_call1_call5_v141, main_call1_call5_v142, main_call1_call5_c_36, main_call1_call5_v143, main_call1_call5_v144, main_call1_call5_c_37, main_call1_call5_v145, main_call1_call5_v146, main_call1_call5_v147, main_call1_call5_v148, main_call1_call5_v149, main_call1_call5_c_38, main_call1_call5_v150, main_call1_call5_v151, main_call1_call5_c_39, main_call1_call5_v152, main_call1_call5_v153, main_call1_call5_v154, main_call1_call5_v155, main_call1_call5_v156, main_call1_call5_c_40, main_call1_call5_v157, main_call1_call5_v158, main_call1_call5_c_41, main_call1_call5_v159, main_call1_call5_v160, main_call1_call5_v161, main_call1_call5_v162, main_call1_call5_v163, main_call1_call5_c_42, main_call1_call5_v164, main_call1_call5_v165, main_call1_call5_c_43, main_call1_call5_v166, main_call1_call5_v167, main_call1_call5_v168, main_call1_call5_v169, main_call1_call5_v170, main_call1_v53_0, main_call1_call5_v172, main_call1_call5_v173, main_call1_call5_c_44, main_call1_call5_v174, main_call1_v53_1, main_call1_v54, main_call1_v55, main_call1_v56, main_call1_v57, main_call1_c_14, main_call1_v58, main_call1_v59, main_call1_v60, main_call1_v61, main_call1_v62, main_call1_c_15, main_call1_v63, main_call1_v64, main_call1_v65, main_call1_c_16, main_call1_v66, main_call1_v67, main_call1_v68, main_call1_v69, main_call1_v70, main_call1_v71, main_call1_v72, main_call1_v73, main_call1_v74, main_call1_v75, main_call1_v76, main_call1_v77, main_call1_v78, main_call1_v79, main_call1_v80, main_v16]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_c_8]
theorem hostOps1_2_writes : (hostOps1_2 : List (HloOp τ sig (Elt F))).Forall fun op => op.writes ⊆ (hostOps1_2_W.map (Proc.devRef (τ := τ) .tc)).toFinset :=
  StableHlo.forall_writes_sub_of_map rfl
/-- `hostOps1_2` writes none of the argument arrays (checked: each argument against each reference it writes). -/
theorem hostOps1_2_args : ∀ a ∈ argRefs, a ∉ hostOps1_2_W := ListAll.forall_mem_of_all_decide (by decide +kernel)

/-- No operation of `hostOps1_3` allocates a buffer. -/
theorem hostOps1_3_fresh : (hostOps1_3 : List (HloOp τ sig (Elt F))).Forall fun op => op.fresh = ∅ := by
  simp only [List.Forall]; repeat' constructor
/-- The reference each operation of `hostOps1_3` writes, in order. -/
abbrev hostOps1_3_W : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v17]
theorem hostOps1_3_writes : (hostOps1_3 : List (HloOp τ sig (Elt F))).Forall fun op => op.writes ⊆ (hostOps1_3_W.map (Proc.devRef (τ := τ) .tc)).toFinset :=
  StableHlo.forall_writes_sub_of_map rfl
/-- `hostOps1_3` writes none of the argument arrays (checked: each argument against each reference it writes). -/
theorem hostOps1_3_args : ∀ a ∈ argRefs, a ∉ hostOps1_3_W := ListAll.forall_mem_of_all_decide (by decide +kernel)

/-- No operation of `hostOps1_4` allocates a buffer. -/
theorem hostOps1_4_fresh : (hostOps1_4 : List (HloOp τ sig (Elt F))).Forall fun op => op.fresh = ∅ := by
  simp only [List.Forall]; repeat' constructor
/-- The reference each operation of `hostOps1_4` writes, in order. -/
abbrev hostOps1_4_W : List (Ref sig .tc) := [main_v18, main_v19, main_v20, main_v21, main_c_9, main_v22, main_v23, main_v24, main_v25, main_v26, main_v27, main_v28, main_v29, main_cst_10, main_v30, main_c_11, main_v31, main_v32, main_c_12, main_v33, main_v34, main_v35, main_v36, main_v37, main_cst_13, main_v38, main_c_14, main_v39, main_v40, main_c_15, main_v41, main_v42, main_v43, main_v44, main_v45, main_cst_16, main_v46, main_c_17, main_v47, main_v48, main_c_18, main_v49, main_v50, main_v51, main_v52, main_v53, main_c_19, main_v54, main_v55, main_c_20, main_v56, main_v57, main_v58, main_v59, main_v60, main_v61, main_c_21, main_v62, main_v63, main_c_22, main_v64, main_v65, main_v66, main_v67, main_v68, main_v69, main_v70, main_v71, main_v72]
theorem hostOps1_4_writes : (hostOps1_4 : List (HloOp τ sig (Elt F))).Forall fun op => op.writes ⊆ (hostOps1_4_W.map (Proc.devRef (τ := τ) .tc)).toFinset :=
  StableHlo.forall_writes_sub_of_map rfl
/-- `hostOps1_4` writes none of the argument arrays (checked: each argument against each reference it writes). -/
theorem hostOps1_4_args : ∀ a ∈ argRefs, a ∉ hostOps1_4_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v74, main_c_23, main_v75, main_v76, main_c_24, main_v77, main_v78, main_v79, main_v80, main_v81, main_v82]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2` (region 0's entry). -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same read at the TensorCore's references (what region 0's proof data take). -/
abbrev V3 : (c : Dev nD) → (b : Ref sig .tc) → Buf (Elt F) ((c : Thread nD τ).loc b) := fun c b => W3 m ρ c b
/-- At region 0's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A reference that is none of region 0's OUTPUT arrays keeps its entry contents across it: an input window's
    array is never written back (`Dat.arrAt_in`, `A_eq0`); any other buffer is left as is. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same read at the TensorCore's references (region 0's exit contents). -/
abbrev V4 : (c : Dev nD) → (b : Ref sig .tc) → Buf (Elt F) ((c : Thread nD τ).loc b) := fun c b => W4 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After `hostOps1`. -/
abbrev W5 : Dev nD → Valuation τ sig (Elt F) := fun c => StableHlo.after hostOps1 (W4 m ρ c)
/-- A reference `hostOps1` does not write keeps its contents across it. -/
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)
/-- After `hostOps1_1`. -/
abbrev W6 : Dev nD → Valuation τ sig (Elt F) := fun c => StableHlo.after hostOps1_1 (W5 m ρ c)
/-- A reference `hostOps1_1` does not write keeps its contents across it. -/
theorem W6_of (c : Dev nD) (r : Ref sig .tc) (h : r ∉ hostOps1_1_W) : W6 m ρ c (Proc.devRef .tc r) = W5 m ρ c (Proc.devRef .tc r) :=
  StableHlo.after_of_writes_sub hostOps1_1 _ hostOps1_1_writes h
theorem W6_args (c : Dev nD) : ∀ a ∈ argRefs, W6 m ρ c (Proc.devRef .tc a) = m ((c : Thread nD τ).loc a) :=
  fun a ha => (W6_of m ρ c a (hostOps1_1_args a ha)).trans (W5_args m ρ c a ha)
/-- After `hostOps1_2`. -/
abbrev W7 : Dev nD → Valuation τ sig (Elt F) := fun c => StableHlo.after hostOps1_2 (W6 m ρ c)
/-- A reference `hostOps1_2` does not write keeps its contents across it. -/
theorem W7_of (c : Dev nD) (r : Ref sig .tc) (h : r ∉ hostOps1_2_W) : W7 m ρ c (Proc.devRef .tc r) = W6 m ρ c (Proc.devRef .tc r) :=
  StableHlo.after_of_writes_sub hostOps1_2 _ hostOps1_2_writes h
theorem W7_args (c : Dev nD) : ∀ a ∈ argRefs, W7 m ρ c (Proc.devRef .tc a) = m ((c : Thread nD τ).loc a) :=
  fun a ha => (W7_of m ρ c a (hostOps1_2_args a ha)).trans (W6_args m ρ c a ha)
/-- After `hostOps1_3`. -/
abbrev W8 : Dev nD → Valuation τ sig (Elt F) := fun c => StableHlo.after hostOps1_3 (W7 m ρ c)
/-- A reference `hostOps1_3` does not write keeps its contents across it. -/
theorem W8_of (c : Dev nD) (r : Ref sig .tc) (h : r ∉ hostOps1_3_W) : W8 m ρ c (Proc.devRef .tc r) = W7 m ρ c (Proc.devRef .tc r) :=
  StableHlo.after_of_writes_sub hostOps1_3 _ hostOps1_3_writes h
theorem W8_args (c : Dev nD) : ∀ a ∈ argRefs, W8 m ρ c (Proc.devRef .tc a) = m ((c : Thread nD τ).loc a) :=
  fun a ha => (W8_of m ρ c a (hostOps1_3_args a ha)).trans (W7_args m ρ c a ha)
/-- After `hostOps1_4` (region 1's entry). -/
abbrev W9 : Dev nD → Valuation τ sig (Elt F) := fun c => StableHlo.after hostOps1_4 (W8 m ρ c)
/-- A reference `hostOps1_4` does not write keeps its contents across it. -/
theorem W9_of (c : Dev nD) (r : Ref sig .tc) (h : r ∉ hostOps1_4_W) : W9 m ρ c (Proc.devRef .tc r) = W8 m ρ c (Proc.devRef .tc r) :=
  StableHlo.after_of_writes_sub hostOps1_4 _ hostOps1_4_writes h
theorem W9_args (c : Dev nD) : ∀ a ∈ argRefs, W9 m ρ c (Proc.devRef .tc a) = m ((c : Thread nD τ).loc a) :=
  fun a ha => (W9_of m ρ c a (hostOps1_4_args a ha)).trans (W8_args m ρ c a ha)
/-- The same read at the TensorCore's references (what region 1's proof data take). -/
abbrev V9 : (c : Dev nD) → (b : Ref sig .tc) → Buf (Elt F) ((c : Thread nD τ).loc b) := fun c b => W9 m ρ c b
/-- At region 1's exit: its arrays at what the pipeline leaves (the inputs as entered, each output's write-backs
    folded: `Dat.arrAt … N`), every other buffer as entered (Lib/Pipeline/FrameSuffix.lean `withArrays`). -/
def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
/-- A reference that is none of region 1's OUTPUT arrays keeps its entry contents across it: an input window's
    array is never written back (`Dat.arrAt_in`, `A_eq1`); any other buffer is left as is. -/
theorem W10_of (c : Dev nD) (r : Ref sig .tc) (h : ∀ w : Fin cfg1.W, Pipeline.arrRef spec1 w = r → (cfg1.win w).isOut = false) :
    W10 m ρ c (Proc.devRef .tc r) = W9 m ρ c (Proc.devRef .tc r) := by
  by_cases hw : ∃ w : Fin cfg1.W, Pipeline.arrRef spec1 w = r
  · obtain ⟨w, rfl⟩ := hw
    exact (W10_arr m ρ c w).trans (((dat1 (V9 m ρ) c).arrAt_in w (h w rfl) _).trans (A_eq1 (V9 m ρ) c w))
  · exact W10_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn1 a ha)).trans (W9_args m ρ c a ha)
/-- The same read at the TensorCore's references (region 1's exit contents). -/
abbrev V10 : (c : Dev nD) → (b : Ref sig .tc) → Buf (Elt F) ((c : Thread nD τ).loc b) := fun c b => W10 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V9 m ρ) c).arrAt w cfg1.N = V10 m ρ c (Pipeline.arrRef spec1 w) :=
  (W10_arr m ρ c w).symm
theorem hrest1 (c : Dev nD) : ∀ b, b ∉ Finset.univ.image (Pipeline.arrRef spec1) → V10 m ρ c b = V9 m ρ c b :=
  fun b hb => W10_of_ne m ρ c b fun w e => hb (Finset.mem_image.mpr ⟨w, Finset.mem_univ _, e⟩)

/-- After `hostOps2`. -/
abbrev W11 : Dev nD → Valuation τ sig (Elt F) := fun c => StableHlo.after hostOps2 (W10 m ρ c)
/-- A reference `hostOps2` does not write keeps its contents across it. -/
theorem W11_of (c : Dev nD) (r : Ref sig .tc) (h : r ∉ hostOps2_W) : W11 m ρ c (Proc.devRef .tc r) = W10 m ρ c (Proc.devRef .tc r) :=
  StableHlo.after_of_writes_sub hostOps2 _ hostOps2_writes h
theorem W11_args (c : Dev nD) : ∀ a ∈ argRefs, W11 m ρ c (Proc.devRef .tc a) = m ((c : Thread nD τ).loc a) :=
  fun a ha => (W11_of m ρ c a (hostOps2_args a ha)).trans (W10_args m ρ c a ha)

/-! ### The arguments end as launched: no host stretch writes one and no region may change one (a region reads it
    through an input window or bypasses it) -/

theorem W11_main_arg0 (c : Dev nD) : W11 m ρ c (Proc.devRef .tc main_arg0) = m ((c : Thread nD τ).loc main_arg0) :=
  W11_args m ρ c main_arg0 (by decide)
theorem W11_main_arg1 (c : Dev nD) : W11 m ρ c (Proc.devRef .tc main_arg1) = m ((c : Thread nD τ).loc main_arg1) :=
  W11_args m ρ c main_arg1 (by decide)
theorem W11_main_arg2 (c : Dev nD) : W11 m ρ c (Proc.devRef .tc main_arg2) = m ((c : Thread nD τ).loc main_arg2) :=
  W11_args m ρ c main_arg2 (by decide)
theorem W11_main_arg3 (c : Dev nD) : W11 m ρ c (Proc.devRef .tc main_arg3) = m ((c : Thread nD τ).loc main_arg3) :=
  W11_args m ρ c main_arg3 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W11`, the generator register at some state. -/
abbrev Tₙ (c : Dev nD) : sProp 𝕄 := iprop(StableHlo.held (c : Thread nD τ) (Pipeline.ucRefs τ sig) (W11 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W9`, left at `W10`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec1 c (V9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V9 m ρ c) (A_eq1 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V9 m ρ c) (V10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 11 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .host (hseg hostOps1_3 hostOps1_3_sub hostOps1_3_fresh (W7 m ρ)),
    .host (hseg hostOps1_4 hostOps1_4_sub hostOps1_4_fresh (W8 m ρ)),
    .region (reg1 m ρ),
    .host (hseg hostOps2 hostOps2_sub hostOps2_fresh (W10 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE FRAME: `Cert.quiescent_KernelIdeal`'s statement (Defs.lean) at any `F` — at the compiled mesh, from any
    memory with zero counters, every weakly fair execution of @main on the TensorCores terminates, nothing faulting, and every
    final state has the argument arrays as launched and every semaphore counter of the machine at zero: the kit's launch over
    the segments, the last thread state read against the final state (`pointsTo_read_all`), each argument by `W11_<arg>`;
    the kit shows every counter at zero except the TensorCores' unscoped ones, of which there are none. Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => ⟨(fun c =>
      ⟨(h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c)⟩), funext fun g => hz g (.inr (no_unscoped g.2))⟩)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h => h.1) (frame m ρ)

end Cert.KernelIdeal.Gen

end
-- ==== Proof.Take.lean ====
/- Reading the reference's gathers at an index: a row of a `[2, 16, 8192, 64]` array fetched at a position in range. -/
module

public import proofs.«01_k».proof.Proof.Gen.ReferenceIdeal.Run
public import Idealize.ShloMosaic.Lib.Pointwise
public import Idealize.ShloMosaic.Lib.ReduceAll
public import Idealize.ShloMosaic.Lib.StableHlo.Predicate

@[expose] public section

set_option maxRecDepth 16384

noncomputable section

namespace Cert.Proof.Ref

open Idealize.ShloMosaic Cert.ReferenceIdeal Cert.ReferenceIdeal.Facts₀

variable {α : Type}

/-- A position word, a negative one wrapped. -/
def fixRows (v : IVec S2x16x8192x1 32) : IVec S2x16x8192x1 32 :=
  select (cmpi .slt v (broadcastInDim S2x16x8192x1 ![] bcast_S_S2x16x8192x1 (constantI S_ 32 0#32)))
    (addi v (broadcastInDim S2x16x8192x1 ![] bcast_S_S2x16x8192x1 (constantI S_ 32 8192#32))) v

/-- The rows of `x` at the positions `v`. -/
def takeRows (x : FVec Ideal S2x16x8192x64 .f32) (v : IVec S2x16x8192x1 32) : FVec Ideal S2x16x8192x64 .f32 :=
  select (broadcastInDim S2x16x8192x64 ![0, 1, 2] bcast_S2x16x8192_S2x16x8192x64_0_1_2 (Host.reduce IntOp.andi (andi (cmpi .sge (fixRows v) (broadcastInDim S2x16x8192x1 ![] bcast_S_S2x16x8192x1 (constantI S_ 32 0#32))) (cmpi .sle (fixRows v) (broadcastInDim S2x16x8192x1 ![0, 1, 2, 3] bcast_S1x1x1x1_S2x16x8192x1_0_1_2_3 (broadcastInDim S1x1x1x1 ![3] bcast_S1_S1x1x1x1_3 (constantI S1 32 8191#32))))) (constantI S_ 1 1#1) reducesTo_S2x16x8192x1_S2x16x8192_d3 h_S_))
    (Host.gather gather_S2x16x8192x64_S2x16x8192x1_S2x16x8192x64_3_2_01_01_2_3_11164 x (fixRows v))
    (broadcastInDim S2x16x8192x64 ![] bcast_S_S2x16x8192x64 (constant S_ .f32 0x7FC00000#32))

theorem not_slt_zero {w : Nat} (hw : w < 8192) : IntOp.cmpi .slt (BitVec.ofNat 32 w) 0#32 = 0#1 := by
  have h : (BitVec.ofNat 32 w).toInt = w := StableHlo.Predicate.toInt_ofNat_small _ (by omega)
  simp only [IntOp.cmpi, BitVec.slt, h]
  rw [decide_eq_false (by simp)]; rfl

theorem sge_zero {w : Nat} (hw : w < 8192) : IntOp.cmpi .sge (BitVec.ofNat 32 w) 0#32 = 1#1 := by
  have h : (BitVec.ofNat 32 w).toInt = w := StableHlo.Predicate.toInt_ofNat_small _ (by omega)
  simp only [IntOp.cmpi, BitVec.sle, h]
  rw [decide_eq_true (by simp)]; rfl

theorem sle_last {w : Nat} (hw : w < 8192) : IntOp.cmpi .sle (BitVec.ofNat 32 w) 8191#32 = 1#1 := by
  have h : (BitVec.ofNat 32 w).toInt = w := StableHlo.Predicate.toInt_ofNat_small _ (by omega)
  simp only [IntOp.cmpi, BitVec.sle, h]
  rw [decide_eq_true (by show (w : Int) ≤ 8191; omega)]; rfl

theorem fixRows_apply (v : IVec S2x16x8192x1 32) (j : S2x16x8192x1.Idx) {w : Nat} (hw : w < 8192) (hv : v j = BitVec.ofNat 32 w) :
    fixRows v j = BitVec.ofNat 32 w := by
  show Scalar.select (IntOp.cmpi .slt (v j) 0#32) (v j + 8192#32) (v j) = _
  rw [hv, not_slt_zero hw]
  rfl

theorem gather_rows (x : S2x16x8192x64.Idx → α) (v : IVec S2x16x8192x1 32) (b : Fin 2) (h : Fin 16) (s : Fin 8192) (d : Fin 64) (w : Fin 8192)
    (hv : v (ix4 b h s 0) = BitVec.ofNat 32 w.val) :
    Host.gather gather_S2x16x8192x64_S2x16x8192x1_S2x16x8192x64_3_2_01_01_2_3_11164 x v (ix4 b h s d) = x (ix4 b h w d) := by
  unfold Host.gather
  congr 1; funext a; apply Fin.ext
  match a with
  | ⟨0, _⟩ => show 0 + b.val + 0 = b.val; omega
  | ⟨1, _⟩ => show 0 + h.val + 0 = h.val; omega
  | ⟨2, _⟩ =>
    have e : (gather_S2x16x8192x64_S2x16x8192x1_S2x16x8192x64_3_2_01_01_2_3_11164).siIdx (ix4 b h s d) ⟨0, by decide⟩ = ix4 b h s 0 := by
      funext a; apply Fin.ext
      match a with
      | ⟨0, _⟩ => rfl
      | ⟨1, _⟩ => rfl
      | ⟨2, _⟩ => rfl
      | ⟨3, _⟩ => rfl
    refine (congrArg (fun i => min (v i).toInt.toNat (8192 - 1) + 0 + 0) e).trans ?_
    rw [hv, StableHlo.Predicate.toInt_ofNat_small _ (by omega)]
    show min w.val 8191 + 0 + 0 = w.val
    omega
  | ⟨3, _⟩ => show 0 + 0 + d.val = d.val; omega

theorem takeRows_apply (x : FVec Ideal S2x16x8192x64 .f32) (v : IVec S2x16x8192x1 32) (W : Fin 2 → Fin 16 → Fin 8192 → Fin 8192)
    (hv : ∀ b h s, v (ix4 b h s 0) = BitVec.ofNat 32 (W b h s).val) (b : Fin 2) (h : Fin 16) (s : Fin 8192) (d : Fin 64) :
    takeRows x v (ix4 b h s d) = x (ix4 b h (W b h s) d) := by
  have hm : ∀ j, Host.reduce IntOp.andi (andi (cmpi .sge (fixRows v) (broadcastInDim S2x16x8192x1 ![] bcast_S_S2x16x8192x1 (constantI S_ 32 0#32))) (cmpi .sle (fixRows v) (broadcastInDim S2x16x8192x1 ![0, 1, 2, 3] bcast_S1x1x1x1_S2x16x8192x1_0_1_2_3 (broadcastInDim S1x1x1x1 ![3] bcast_S1_S1x1x1x1_3 (constantI S1 32 8191#32))))) (constantI S_ 1 1#1) reducesTo_S2x16x8192x1_S2x16x8192_d3 h_S_ j = 1#1 := by
    intro j
    refine Host.reduce_andi_one _ _ _ _ _ rfl fun i => ?_
    idx_vars i
    obtain rfl : i3 = 0 := Subsingleton.elim _ _
    show IntOp.andi (IntOp.cmpi .sge (fixRows v _) 0#32) (IntOp.cmpi .sle (fixRows v _) 8191#32) = 1#1
    rw [fixRows_apply v _ (W i0 i1 i2).isLt (hv i0 i1 i2), sge_zero (W i0 i1 i2).isLt, sle_last (W i0 i1 i2).isLt]
    rfl
  unfold takeRows
  rw [← gather_rows x (fixRows v) b h s d (W b h s) (fixRows_apply v _ (W b h s).isLt (hv b h s))]
  show Scalar.select (Host.reduce IntOp.andi _ _ _ _ _) _ _ = _
  rw [hm]
  rfl

/-- The same at the sampled positions. -/
def fixCols (v : IVec S2x16x256x1 32) : IVec S2x16x256x1 32 :=
  select (cmpi .slt v (broadcastInDim S2x16x256x1 ![] bcast_S_S2x16x256x1 (constantI S_ 32 0#32)))
    (addi v (broadcastInDim S2x16x256x1 ![] bcast_S_S2x16x256x1 (constantI S_ 32 8192#32))) v

/-- The rows of `x` at the positions `v`. -/
def takeCols (x : FVec Ideal S2x16x8192x64 .f32) (v : IVec S2x16x256x1 32) : FVec Ideal S2x16x256x64 .f32 :=
  select (broadcastInDim S2x16x256x64 ![0, 1, 2] bcast_S2x16x256_S2x16x256x64_0_1_2 (Host.reduce IntOp.andi (andi (cmpi .sge (fixCols v) (broadcastInDim S2x16x256x1 ![] bcast_S_S2x16x256x1 (constantI S_ 32 0#32))) (cmpi .sle (fixCols v) (broadcastInDim S2x16x256x1 ![0, 1, 2, 3] bcast_S1x1x1x1_S2x16x256x1_0_1_2_3 (broadcastInDim S1x1x1x1 ![3] bcast_S1_S1x1x1x1_3 (constantI S1 32 8191#32))))) (constantI S_ 1 1#1) reducesTo_S2x16x256x1_S2x16x256_d3 h_S_))
    (Host.gather gather_S2x16x8192x64_S2x16x256x1_S2x16x256x64_3_2_01_01_2_3_11164 x (fixCols v))
    (broadcastInDim S2x16x256x64 ![] bcast_S_S2x16x256x64 (constant S_ .f32 0x7FC00000#32))

theorem fixCols_apply (v : IVec S2x16x256x1 32) (j : S2x16x256x1.Idx) {w : Nat} (hw : w < 8192) (hv : v j = BitVec.ofNat 32 w) :
    fixCols v j = BitVec.ofNat 32 w := by
  show Scalar.select (IntOp.cmpi .slt (v j) 0#32) (v j + 8192#32) (v j) = _
  rw [hv, not_slt_zero hw]
  rfl

theorem gather_cols (x : S2x16x8192x64.Idx → α) (v : IVec S2x16x256x1 32) (b : Fin 2) (h : Fin 16) (s : Fin 256) (d : Fin 64) (w : Fin 8192)
    (hv : v (ix4 b h s 0) = BitVec.ofNat 32 w.val) :
    Host.gather gather_S2x16x8192x64_S2x16x256x1_S2x16x256x64_3_2_01_01_2_3_11164 x v (ix4 b h s d) = x (ix4 b h w d) := by
  unfold Host.gather
  congr 1; funext a; apply Fin.ext
  match a with
  | ⟨0, _⟩ => show 0 + b.val + 0 = b.val; omega
  | ⟨1, _⟩ => show 0 + h.val + 0 = h.val; omega
  | ⟨2, _⟩ =>
    have e : (gather_S2x16x8192x64_S2x16x256x1_S2x16x256x64_3_2_01_01_2_3_11164).siIdx (ix4 b h s d) ⟨0, by decide⟩ = ix4 b h s 0 := by
      funext a; apply Fin.ext
      match a with
      | ⟨0, _⟩ => rfl
      | ⟨1, _⟩ => rfl
      | ⟨2, _⟩ => rfl
      | ⟨3, _⟩ => rfl
    refine (congrArg (fun i => min (v i).toInt.toNat (8192 - 1) + 0 + 0) e).trans ?_
    rw [hv, StableHlo.Predicate.toInt_ofNat_small _ (by omega)]
    show min w.val 8191 + 0 + 0 = w.val
    omega
  | ⟨3, _⟩ => show 0 + 0 + d.val = d.val; omega

theorem takeCols_apply (x : FVec Ideal S2x16x8192x64 .f32) (v : IVec S2x16x256x1 32) (W : Fin 2 → Fin 16 → Fin 256 → Fin 8192)
    (hv : ∀ b h s, v (ix4 b h s 0) = BitVec.ofNat 32 (W b h s).val) (b : Fin 2) (h : Fin 16) (s : Fin 256) (d : Fin 64) :
    takeCols x v (ix4 b h s d) = x (ix4 b h (W b h s) d) := by
  have hm : ∀ j, Host.reduce IntOp.andi (andi (cmpi .sge (fixCols v) (broadcastInDim S2x16x256x1 ![] bcast_S_S2x16x256x1 (constantI S_ 32 0#32))) (cmpi .sle (fixCols v) (broadcastInDim S2x16x256x1 ![0, 1, 2, 3] bcast_S1x1x1x1_S2x16x256x1_0_1_2_3 (broadcastInDim S1x1x1x1 ![3] bcast_S1_S1x1x1x1_3 (constantI S1 32 8191#32))))) (constantI S_ 1 1#1) reducesTo_S2x16x256x1_S2x16x256_d3 h_S_ j = 1#1 := by
    intro j
    refine Host.reduce_andi_one _ _ _ _ _ rfl fun i => ?_
    idx_vars i
    obtain rfl : i3 = 0 := Subsingleton.elim _ _
    show IntOp.andi (IntOp.cmpi .sge (fixCols v _) 0#32) (IntOp.cmpi .sle (fixCols v _) 8191#32) = 1#1
    rw [fixCols_apply v _ (W i0 i1 i2).isLt (hv i0 i1 i2), sge_zero (W i0 i1 i2).isLt, sle_last (W i0 i1 i2).isLt]
    rfl
  unfold takeCols
  rw [← gather_cols x (fixCols v) b h s d (W b h s) (fixCols_apply v _ (W b h s).isLt (hv b h s))]
  show Scalar.select (Host.reduce IntOp.andi _ _ _ _ _) _ _ = _
  rw [hm]
  rfl

end Cert.Proof.Ref

end
-- ==== Proof.Attn.lean ====
/- One row of attention over a block and over sampled columns: the joint softmax is the two softmaxes merged by
   their normalizers. Everything here is over the extended reals, with real logits and arbitrary values. -/
module

public import Idealize.ShloMosaic.PureOps.Ideal
public import Idealize.ShloMosaic.PureOps.Ideal.Laws
public import Mathlib.Analysis.SpecialFunctions.Log.Basic

@[expose] public section

noncomputable section

namespace Cert.Proof.Attn

open Idealize.ShloMosaic

variable {n m : Nat}

theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- A real weight times a sum of real weights times values. -/
theorem scale_sum {ι : Type} (s : Finset ι) (c : ℝ) (hc : 0 ≤ c) (w : ι → ℝ) (v : ι → EReal) :
    (c : EReal) * ∑ i ∈ s, (w i : EReal) * v i = ∑ i ∈ s, ((c * w i : ℝ) : EReal) * v i := by
  rw [coe_mul_sum s c hc]
  refine Finset.sum_congr rfl fun i _ => ?_
  rw [EReal.coe_mul, mul_assoc]

theorem coe_sum {ι : Type} (s : Finset ι) (w : ι → ℝ) : ∑ i ∈ s, (w i : EReal) = ((∑ i ∈ s, w i : ℝ) : EReal) := by
  classical
  induction s using Finset.induction_on with
  | empty => simp
  | insert a s ha ih => rw [Finset.sum_insert ha, Finset.sum_insert ha, ih, EReal.coe_add]

theorem exp_coe (x : ℝ) : Ideal.exp (x : EReal) = ((Real.exp x : ℝ) : EReal) := rfl

theorem log_coe {x : ℝ} (hx : 0 < x) : Ideal.log (x : EReal) = ((Real.log x : ℝ) : EReal) := by
  show (if x ≤ 0 then (⊥ : EReal) else (Real.log x : EReal)) = _
  rw [if_neg (not_le.2 hx)]

theorem log_zero : Ideal.log (0 : EReal) = ⊥ := by
  show (if (0 : ℝ) ≤ 0 then (⊥ : EReal) else (Real.log 0 : EReal)) = _
  rw [if_pos le_rfl]

/-- The words of the printed constants. -/
theorem ofBits_bot : Ideal.ofBits .f32 0xFF800000#32 = ⊥ := by simp [Ideal.ofBits, Ideal.ieee]

theorem ofBits_top : Ideal.ofBits .f32 0x7F800000#32 = ⊤ := by simp [Ideal.ofBits, Ideal.ieee]

theorem ofBits_eighth : Ideal.ofBits .f32 0x3E000000#32 = (((1 : ℝ) / 8 : ℝ) : EReal) := by
  simp [Ideal.ofBits, Ideal.ieee, -EReal.coe_mul]; norm_num

/-- The shift the sampled columns' weights are raised by. -/
def shift : ℝ := 7268175 / 2097152

theorem ofBits_shift : Ideal.ofBits .f32 0x405DCE9E#32 = (shift : EReal) := by
  unfold shift
  simp [Ideal.ofBits, Ideal.ieee, -EReal.coe_mul]; norm_num

theorem ofBits_neg_shift : Ideal.ofBits .f32 0xC05DCE9E#32 = ((-shift : ℝ) : EReal) := by
  unfold shift
  simp [Ideal.ofBits, Ideal.ieee, -EReal.coe_mul, -EReal.coe_neg]; norm_num

/-- A maximum from minus infinity is below plus infinity where every term is. -/
theorem fold_max_ne_top {ι : Type} [Fintype ι] (f : ι → EReal) (hf : ∀ x, f x ≠ ⊤) : Finset.fold max ⊥ f Finset.univ ≠ ⊤ := by
  have : Finset.fold max ⊥ f Finset.univ < ⊤ :=
    (Finset.fold_max_lt (⊤ : EReal)).2 ⟨bot_lt_top, fun x _ => lt_top_iff_ne_top.2 (hf x)⟩
  exact this.ne

theorem fold_max_lt {ι : Type} (s : Finset ι) (f : ι → EReal) (a : EReal) (ha : a ≠ ⊤) (hf : ∀ x, f x ≠ ⊤) : Finset.fold max a f s ≠ ⊤ :=
  ((Finset.fold_max_lt (⊤ : EReal)).2 ⟨lt_top_iff_ne_top.2 ha, fun x _ => lt_top_iff_ne_top.2 (hf x)⟩).ne

/-- Zero for minus infinity makes a value below plus infinity real. -/
theorem or_zero_real (x : EReal) (hx : x ≠ ⊤) : ∃ r : ℝ, (if ⊥ < x then x else 0) = (r : EReal) := by
  split
  · rename_i h
    exact ⟨_, (EReal.coe_toReal hx h.ne').symm⟩
  · exact ⟨0, rfl⟩

/-- A real logit, masked or not, is below plus infinity. -/
theorem masked_ne_top (r : ℝ) (p : Bool) : (r : EReal) + (if p = true then ⊥ else 0) ≠ ⊤ := by
  split
  · rw [EReal.add_bot]; exact bot_ne_top
  · rw [add_zero]; exact EReal.coe_ne_top _

/-- A maximum is real where every term is below plus infinity and some term is real. -/
theorem max_real {ι : Type} [Fintype ι] (f : ι → EReal) (hf : ∀ x, f x ≠ ⊤) (x : ι) (hx : f x ≠ ⊥) :
    ∃ r : ℝ, Finset.fold max ⊥ f Finset.univ = (r : EReal) := by
  have : f x ≤ Finset.fold max ⊥ f Finset.univ := Finset.le_fold_max (f x) |>.2 (.inr ⟨x, Finset.mem_univ x, le_rfl⟩)
  exact ⟨_, (EReal.coe_toReal (fold_max_ne_top f hf) (ne_bot_of_le_ne_bot hx this)).symm⟩

/-- A scaled inner product of real vectors. -/
theorem dot_real {d : Nat} (q k : Fin d → EReal) (q' k' : Fin d → ℝ) (hq : ∀ x, q x = (q' x : EReal)) (hk : ∀ x, k x = (k' x : EReal)) :
    (∑ x, q x * k x) * (((1 : ℝ) / 8 : ℝ) : EReal) = (((∑ x, q' x * k' x) * (1 / 8) : ℝ) : EReal) := by
  simp only [hq, hk, ← EReal.coe_mul]
  rw [coe_sum, ← EReal.coe_mul]

/-- The weights of the sampled columns, before the factor. -/
def sw (xs : Fin m → ℝ) (msk : Fin m → Bool) (j : Fin m) : ℝ := if msk j = true then 0 else Real.exp (xs j)

theorem sw_nonneg (xs : Fin m → ℝ) (msk : Fin m → Bool) (j : Fin m) : 0 ≤ sw xs msk j := by
  unfold sw; split
  · exact le_rfl
  · exact (Real.exp_pos _).le

/-- The normalizer of the joint softmax. -/
def norm (xb : Fin n → ℝ) (xs : Fin m → ℝ) (msk : Fin m → Bool) (c : ℝ) : ℝ :=
  (∑ j, Real.exp (xb j)) + Real.exp c * ∑ j, sw xs msk j

theorem sum_exp_pos [NeZero n] (xb : Fin n → ℝ) : 0 < ∑ j, Real.exp (xb j) :=
  Finset.sum_pos (fun _ _ => Real.exp_pos _) ⟨0, Finset.mem_univ _⟩

theorem norm_pos [NeZero n] (xb : Fin n → ℝ) (xs : Fin m → ℝ) (msk : Fin m → Bool) (c : ℝ) : 0 < norm xb xs msk c :=
  add_pos_of_pos_of_nonneg (sum_exp_pos xb) (mul_nonneg (Real.exp_pos c).le (Finset.sum_nonneg fun j _ => sw_nonneg xs msk j))

/-- The joint attention of one row: what both programs compute. -/
def mix (xb : Fin n → ℝ) (xs : Fin m → ℝ) (msk : Fin m → Bool) (c : ℝ) (vb : Fin n → EReal) (vs : Fin m → EReal) : EReal :=
  (∑ j, ((1 / norm xb xs msk c * Real.exp (xb j) : ℝ) : EReal) * vb j)
    + ∑ j, ((Real.exp c / norm xb xs msk c * sw xs msk j : ℝ) : EReal) * vs j

theorem exp_block (x M : ℝ) : Ideal.exp ((x : EReal) - (M : EReal)) = ((Real.exp (-M) * Real.exp x : ℝ) : EReal) := by
  rw [← EReal.coe_sub, exp_coe, ← Real.exp_add]
  congr 2; ring

theorem exp_samp (x M c : ℝ) (b : Bool) : Ideal.exp ((x : EReal) - (if b = true then ⊤ else ((-c : ℝ) : EReal)) - (M : EReal))
    = ((Real.exp (-M) * (Real.exp c * (if b = true then 0 else Real.exp x)) : ℝ) : EReal) := by
  cases b
  · rw [if_neg (by decide), if_neg (by decide), ← EReal.coe_sub, ← EReal.coe_sub, exp_coe, ← Real.exp_add, ← Real.exp_add]
    congr 2; ring
  · rw [if_pos rfl, if_pos rfl, mul_zero, mul_zero, EReal.sub_top]
    show Ideal.exp (⊥ - (M : EReal)) = _
    rw [EReal.bot_sub]
    rfl

theorem exp_res (x M : ℝ) (b : Bool) : Ideal.exp ((x : EReal) + (if b = true then ⊥ else 0) - (M : EReal))
    = ((Real.exp (-M) * (if b = true then 0 else Real.exp x) : ℝ) : EReal) := by
  cases b
  · rw [if_neg (by decide), if_neg (by decide), add_zero, exp_block]
  · rw [if_pos rfl, if_pos rfl, mul_zero, EReal.add_bot, EReal.bot_sub]
    rfl

/-- The kernel's row. -/
theorem kernel_row [NeZero n] (xb : Fin n → ℝ) (xs : Fin m → ℝ) (msk : Fin m → Bool) (c M : ℝ) (vb : Fin n → EReal) (vs : Fin m → EReal) :
    Ideal.div
      ((∑ j, Ideal.exp ((xb j : EReal) - (M : EReal)) * vb j)
        + ∑ j, Ideal.exp ((xs j : EReal) - (if msk j = true then ⊤ else ((-c : ℝ) : EReal)) - (M : EReal)) * vs j)
      ((∑ j, Ideal.exp ((xb j : EReal) - (M : EReal)))
        + ∑ j, Ideal.exp ((xs j : EReal) - (if msk j = true then ⊤ else ((-c : ℝ) : EReal)) - (M : EReal)))
      = mix xb xs msk c vb vs := by
  have hM := Real.exp_pos (-M)
  have hZ := norm_pos xb xs msk c
  simp only [exp_block, exp_samp]
  rw [coe_sum, coe_sum, ← EReal.coe_add]
  have hs : (∑ j, Real.exp (-M) * Real.exp (xb j)) + ∑ j, Real.exp (-M) * (Real.exp c * (if msk j = true then 0 else Real.exp (xs j)))
      = Real.exp (-M) * norm xb xs msk c := by
    unfold norm sw
    rw [← Finset.mul_sum, ← Finset.mul_sum, ← Finset.mul_sum]; ring
  rw [hs, Ideal.div_coe (mul_pos hM hZ).ne', mul_comm, EReal.left_distrib_of_nonneg_of_ne_top (by exact_mod_cast (by positivity)) (EReal.coe_ne_top _),
    scale_sum _ _ (by positivity), scale_sum _ _ (by positivity)]
  unfold mix
  congr 1
  · refine Finset.sum_congr rfl fun j _ => ?_
    congr 2
    field_simp
  · refine Finset.sum_congr rfl fun j _ => ?_
    congr 2
    unfold sw
    field_simp

/-- The reference's row: the two attentions, each normalized by its own log-sum-exp, merged. -/
theorem reference_row [NeZero n] (xb : Fin n → ℝ) (xs : Fin m → ℝ) (msk : Fin m → Bool) (c M1 M2 : ℝ) (vb : Fin n → EReal) (vs : Fin m → EReal)
    (S1 S2 lse1 lse2 c1 : EReal)
    (hS1 : S1 = ∑ j, Ideal.exp ((xb j : EReal) - (M1 : EReal)))
    (hS2 : S2 = ∑ j, Ideal.exp ((xs j : EReal) + (if msk j = true then ⊥ else 0) - (M2 : EReal)))
    (hl1 : lse1 = Ideal.log S1 + (M1 : EReal))
    (hl2 : lse2 = Ideal.log S2 + (M2 : EReal))
    (hc1 : c1 = Ideal.div 1 (1 + Ideal.exp (lse2 + (c : EReal) - lse1))) :
    c1 * (∑ j, Ideal.exp ((xb j : EReal) - lse1) * vb j)
      + (1 - c1) * (∑ j, Ideal.exp ((xs j : EReal) + (if msk j = true then ⊥ else 0) - lse2) * vs j)
      = mix xb xs msk c vb vs := by
  have hZ := norm_pos xb xs msk c
  have hA := sum_exp_pos xb
  set A : ℝ := ∑ j, Real.exp (xb j) with hAdef
  set B : ℝ := ∑ j, sw xs msk j with hBdef
  have hB : 0 ≤ B := Finset.sum_nonneg fun j _ => sw_nonneg xs msk j
  have hZe : norm xb xs msk c = A + Real.exp c * B := rfl
  have h1 := Real.exp_pos (-M1)
  have h2 := Real.exp_pos (-M2)
  -- the first normalizer
  have hS1' : S1 = ((Real.exp (-M1) * A : ℝ) : EReal) := by
    rw [hS1]; simp only [exp_block]; rw [coe_sum, ← Finset.mul_sum]
  have hlse1 : lse1 = ((Real.log A : ℝ) : EReal) := by
    rw [hl1, hS1', log_coe (mul_pos h1 hA), ← EReal.coe_add, Real.log_mul h1.ne' hA.ne', Real.log_exp]
    congr 1; ring
  have hS2' : S2 = ((Real.exp (-M2) * B : ℝ) : EReal) := by
    rw [hS2]; simp only [exp_res]; rw [coe_sum, ← Finset.mul_sum]; rfl
  have hblock : ∀ j, Ideal.exp ((xb j : EReal) - lse1) = ((1 / A * Real.exp (xb j) : ℝ) : EReal) := fun j => by
    rw [hlse1, exp_block, Real.exp_neg, Real.exp_log hA, one_div]
  simp only [hblock]
  rcases hB.lt_or_eq with hBpos | hB0
  · have hlse2 : lse2 = ((Real.log B : ℝ) : EReal) := by
      rw [hl2, hS2', log_coe (mul_pos h2 hBpos), ← EReal.coe_add, Real.log_mul h2.ne' hBpos.ne', Real.log_exp]
      congr 1; ring
    have hc : c1 = ((A / (A + Real.exp c * B) : ℝ) : EReal) := by
      rw [hc1, hlse2, hlse1, ← EReal.coe_add, ← EReal.coe_sub, exp_coe, ← EReal.coe_one, ← EReal.coe_add,
        Ideal.div_coe (add_pos one_pos (Real.exp_pos _)).ne', ← EReal.coe_mul]
      congr 1
      rw [Real.exp_sub, Real.exp_add, Real.exp_log hA, Real.exp_log hBpos]
      field_simp
    have hc' : 1 - c1 = ((Real.exp c * B / (A + Real.exp c * B) : ℝ) : EReal) := by
      rw [hc, ← EReal.coe_one, ← EReal.coe_sub]
      congr 1
      have : A + Real.exp c * B ≠ 0 := by rw [← hZe]; exact hZ.ne'
      field_simp
      ring
    have hsamp : ∀ j, Ideal.exp ((xs j : EReal) + (if msk j = true then ⊥ else 0) - lse2) = ((1 / B * sw xs msk j : ℝ) : EReal) := fun j => by
      rw [hlse2, exp_res, Real.exp_neg, Real.exp_log hBpos, one_div]; rfl
    simp only [hsamp]
    rw [hc', hc, scale_sum _ _ (by positivity), scale_sum _ _ (by positivity)]
    unfold mix
    rw [hZe]
    congr 1
    · refine Finset.sum_congr rfl fun j _ => ?_
      congr 2
      field_simp
    · refine Finset.sum_congr rfl fun j _ => ?_
      congr 2
      field_simp
  · have hlse2 : lse2 = ⊥ := by
      rw [hl2, hS2', ← hB0, mul_zero, EReal.coe_zero, log_zero, EReal.bot_add]
    have hc : c1 = 1 := by
      rw [hc1, hlse2, hlse1, EReal.bot_add, EReal.bot_sub]
      show Ideal.div 1 (1 + 0) = 1
      rw [add_zero, ← EReal.coe_one, Ideal.div_coe one_ne_zero, ← EReal.coe_mul]
      norm_num
    have hsw : ∀ j, sw xs msk j = 0 := fun j =>
      (Finset.sum_eq_zero_iff_of_nonneg fun j _ => sw_nonneg xs msk j).1 hB0.symm j (Finset.mem_univ j)
    have hc0 : (1 : EReal) - c1 = 0 := by
      rw [hc, ← EReal.coe_one, ← EReal.coe_sub, sub_self, EReal.coe_zero]
    rw [hc0, hc, zero_mul, one_mul]
    unfold mix
    rw [hZe, ← hB0]
    simp only [hsw, mul_zero, add_zero, EReal.coe_zero, zero_mul, Finset.sum_const_zero]

end Cert.Proof.Attn

end
-- ==== Proof.RefAttn.lean ====
/- The reference's attention lines over its sorted arrays, read at an index. -/
module

public import proofs.«01_k».proof.Proof.Take
public import proofs.«01_k».proof.Proof.Attn
public import Idealize.ShloMosaic.Lib.Routing.OpsSearch

@[expose] public section

set_option maxRecDepth 16384

noncomputable section

namespace Cert.Proof.Ref

open Idealize.ShloMosaic Cert.ReferenceIdeal Cert.ReferenceIdeal.Facts₀

section terms

variable (Q K V : FVec Ideal S2x16x8192x64 .f32) (C : IVec S2x16x256 32)

/-- The block logits. -/
def bl : FVec Ideal S2x16x32x256x256 .f32 :=
  mulf (Host.dotGeneral dot_S2x16x32x256x64_S2x16x32x256x64_S2x16x32x256x256_4_4_3_3_012_012 none (shapeCast _ Q shapeCasts_S2x16x8192x64_S2x16x32x256x64) (shapeCast _ K shapeCasts_S2x16x8192x64_S2x16x32x256x64)) (broadcastInDim S2x16x32x256x256 ![] bcast_S_S2x16x32x256x256 (constant S_ .f32 0x3E000000#32))

/-- A row's largest block logit. -/
def bm : FVec Ideal S2x16x32x256x1 .f32 :=
  broadcastInDim S2x16x32x256x1 ![0, 1, 2, 3] bcast_S2x16x32x256_S2x16x32x256x1_0_1_2_3 (Host.reduce FloatOps.maximumf (bl Q K) (constant S_ .f32 0xFF800000#32) reducesTo_S2x16x32x256x256_S2x16x32x256_d4 h_S_)

/-- The same, with zero for minus infinity. -/
def ba : FVec Ideal S2x16x32x256x1 .f32 :=
  select (cmpf .ogt (bm Q K) (broadcastInDim S2x16x32x256x1 ![] bcast_S_S2x16x32x256x1 (constant S_ .f32 0xFF800000#32))) (bm Q K) (broadcastInDim S2x16x32x256x1 ![] bcast_S_S2x16x32x256x1 (id (constant S_ .f32 0x00000000#32)))

/-- The block part's log-sum-exp. -/
def blse : FVec Ideal S2x16x32x256x1 .f32 :=
  addf (Host.log (broadcastInDim S2x16x32x256x1 ![0, 1, 2, 3] bcast_S2x16x32x256_S2x16x32x256x1_0_1_2_3 (Host.reduceAdd (Host.exp (subf (bl Q K) (broadcastInDim S2x16x32x256x256 ![0, 1, 2, 3, 4] bcast_S2x16x32x256x1_S2x16x32x256x256_0_1_2_3_4 (ba Q K)))) (constant S_ .f32 0x00000000#32) reducesTo_S2x16x32x256x256_S2x16x32x256_d4 h_S_))) (ba Q K)

/-- The sampled positions as a column. -/
def scol : IVec S2x16x256x1 32 := broadcastInDim S2x16x256x1 ![0, 1, 2] bcast_S2x16x256_S2x16x256x1_0_1_2 C

/-- A row's block number. -/
def rowBlk : IVec S1x1x8192x1 32 := broadcastInDim S1x1x8192x1 ![2] bcast_S8192_S1x1x8192x1_2 (iotaInDim S8192 32 0)

/-- The sampled positions along a row. -/
def srow : IVec S2x16x1x256 32 := broadcastInDim S2x16x1x256 ![0, 1, 3] bcast_S2x16x256_S2x16x1x256_0_1_3 C

/-- The sampled positions that lie in the row's own block. -/
def own : IVec S2x16x8192x256 1 :=
  cmpi .eq (broadcastInDim S2x16x8192x256 ![0, 1, 2, 3] bcast_S1x1x8192x1_S2x16x8192x256_0_1_2_3 (select (andi (cmpi .ne (signi rowBlk) (broadcastInDim S1x1x8192x1 ![] bcast_S_S1x1x8192x1 (signi (id (constantI S_ 32 256#32))))) (cmpi .ne (Host.remsi rowBlk (broadcastInDim S1x1x8192x1 ![] bcast_S_S1x1x8192x1 (id (constantI S_ 32 256#32)))) (broadcastInDim S1x1x8192x1 ![] bcast_S_S1x1x8192x1 (constantI S_ 32 0#32)))) (subi (Host.divsi rowBlk (broadcastInDim S1x1x8192x1 ![] bcast_S_S1x1x8192x1 (id (constantI S_ 32 256#32)))) (broadcastInDim S1x1x8192x1 ![] bcast_S_S1x1x8192x1 (constantI S_ 32 1#32))) (Host.divsi rowBlk (broadcastInDim S1x1x8192x1 ![] bcast_S_S1x1x8192x1 (id (constantI S_ 32 256#32))))))
    (broadcastInDim S2x16x8192x256 ![0, 1, 2, 3] bcast_S2x16x1x256_S2x16x8192x256_0_1_2_3 (select (andi (cmpi .ne (signi (srow C)) (broadcastInDim S2x16x1x256 ![] bcast_S_S2x16x1x256 (signi (id (constantI S_ 32 256#32))))) (cmpi .ne (Host.remsi (srow C) (broadcastInDim S2x16x1x256 ![] bcast_S_S2x16x1x256 (id (constantI S_ 32 256#32)))) (broadcastInDim S2x16x1x256 ![] bcast_S_S2x16x1x256 (constantI S_ 32 0#32)))) (subi (Host.divsi (srow C) (broadcastInDim S2x16x1x256 ![] bcast_S_S2x16x1x256 (id (constantI S_ 32 256#32)))) (broadcastInDim S2x16x1x256 ![] bcast_S_S2x16x1x256 (constantI S_ 32 1#32))) (Host.divsi (srow C) (broadcastInDim S2x16x1x256 ![] bcast_S_S2x16x1x256 (id (constantI S_ 32 256#32))))))

/-- What is added to hide a sampled column. -/
def hide : FVec Ideal S2x16x8192x256 .f32 :=
  id (select (own C) (broadcastInDim S2x16x8192x256 ![] bcast_S_S2x16x8192x256 (constant S_ .f32 0xFF800000#32)) (broadcastInDim S2x16x8192x256 ![] bcast_S_S2x16x8192x256 (constant S_ .f32 0x00000000#32)))

/-- The logits of the sampled columns. -/
def rl : FVec Ideal S2x16x8192x256 .f32 :=
  addf (mulf (Host.dotGeneral dot_S2x16x8192x64_S2x16x256x64_S2x16x8192x256_3_3_2_2_01_01 none Q (takeCols K (scol C))) (broadcastInDim S2x16x8192x256 ![] bcast_S_S2x16x8192x256 (constant S_ .f32 0x3E000000#32))) (hide C)

/-- A row's largest sampled logit. -/
def rm : FVec Ideal S2x16x8192x1 .f32 :=
  broadcastInDim S2x16x8192x1 ![0, 1, 2] bcast_S2x16x8192_S2x16x8192x1_0_1_2 (Host.reduce FloatOps.maximumf (rl Q K C) (constant S_ .f32 0xFF800000#32) reducesTo_S2x16x8192x256_S2x16x8192_d3 h_S_)

/-- The same, with zero for minus infinity. -/
def ra : FVec Ideal S2x16x8192x1 .f32 :=
  select (cmpf .ogt (rm Q K C) (broadcastInDim S2x16x8192x1 ![] bcast_S_S2x16x8192x1 (constant S_ .f32 0xFF800000#32))) (rm Q K C) (broadcastInDim S2x16x8192x1 ![] bcast_S_S2x16x8192x1 (id (constant S_ .f32 0x00000000#32)))

/-- The sampled part's log-sum-exp. -/
def rlse : FVec Ideal S2x16x8192x1 .f32 :=
  addf (Host.log (broadcastInDim S2x16x8192x1 ![0, 1, 2] bcast_S2x16x8192_S2x16x8192x1_0_1_2 (Host.reduceAdd (Host.exp (subf (rl Q K C) (broadcastInDim S2x16x8192x256 ![0, 1, 2, 3] bcast_S2x16x8192x1_S2x16x8192x256_0_1_2_3 (ra Q K C)))) (constant S_ .f32 0x00000000#32) reducesTo_S2x16x8192x256_S2x16x8192_d3 h_S_))) (ra Q K C)

/-- The weight of the block part. -/
def cw : FVec Ideal S2x16x8192x1 .f32 :=
  Host.divf (broadcastInDim S2x16x8192x1 ![] bcast_S_S2x16x8192x1 (constant S_ .f32 0x3F800000#32)) (addf (broadcastInDim S2x16x8192x1 ![] bcast_S_S2x16x8192x1 (constant S_ .f32 0x3F800000#32)) (Host.exp (subf (addf (rlse Q K C) (broadcastInDim S2x16x8192x1 ![] bcast_S_S2x16x8192x1 (constant S_ .f32 0x405DCE9E#32))) (shapeCast _ (blse Q K) shapeCasts_S2x16x32x256x1_S2x16x8192x1))))

/-- The block attention. -/
def battn : FVec Ideal S2x16x32x256x64 .f32 :=
  Host.dotGeneral dot_S2x16x32x256x256_S2x16x32x256x64_S2x16x32x256x64_4_3_3_4_012_012 none (Host.exp (subf (bl Q K) (broadcastInDim S2x16x32x256x256 ![0, 1, 2, 3, 4] bcast_S2x16x32x256x1_S2x16x32x256x256_0_1_2_3_4 (blse Q K)))) (shapeCast _ V shapeCasts_S2x16x8192x64_S2x16x32x256x64)

/-- The sampled attention. -/
def rattn : FVec Ideal S2x16x8192x64 .f32 :=
  Host.dotGeneral dot_S2x16x8192x256_S2x16x256x64_S2x16x8192x64_3_2_2_3_01_01 none (Host.exp (subf (rl Q K C) (broadcastInDim S2x16x8192x256 ![0, 1, 2, 3] bcast_S2x16x8192x1_S2x16x8192x256_0_1_2_3 (rlse Q K C)))) (takeCols V (scol C))

/-- The merged attention, in sorted order. -/
def merged : FVec Ideal S2x16x8192x64 .f32 :=
  addf (mulf (broadcastInDim S2x16x8192x64 ![0, 1, 2, 3] bcast_S2x16x8192x1_S2x16x8192x64_0_1_2_3 (cw Q K C)) (shapeCast _ (battn Q K V) shapeCasts_S2x16x32x256x64_S2x16x8192x64)) (mulf (broadcastInDim S2x16x8192x64 ![0, 1, 2, 3] bcast_S2x16x8192x1_S2x16x8192x64_0_1_2_3 (subf (broadcastInDim S2x16x8192x1 ![] bcast_S_S2x16x8192x1 (constant S_ .f32 0x3F800000#32)) (cw Q K C))) (rattn Q K V C))

end terms

variable (Q K V : FVec Ideal S2x16x8192x64 .f32) (C : IVec S2x16x256 32)

theorem bl_read (b : Fin 2) (h : Fin 16) (n : Fin 32) (r c : Fin 256) : bl Q K (ix5 b h n r c)
    = (∑ x, Q (ix4 b h ⟨n.val * 256 + r.val, by omega⟩ x) * K (ix4 b h ⟨n.val * 256 + c.val, by omega⟩ x)) * Ideal.ofBits .f32 0x3E000000#32 := by
  pointwise [bl]

theorem bm_ne_top (hf : ∀ i, bl Q K i ≠ ⊤) (i) : bm Q K i ≠ ⊤ := by
  have h : ∃ j, bm Q K i = Host.reduce FloatOps.maximumf (bl Q K) (constant S_ .f32 0xFF800000#32) reducesTo_S2x16x32x256x256_S2x16x32x256_d4 h_S_ j := by
    unfold bm broadcastInDim; exact ⟨_, rfl⟩
  obtain ⟨j, h⟩ := h
  rw [h, Host.reduce_eq_fold]
  exact Attn.fold_max_lt _ _ _ (Attn.ofBits_bot.trans_ne bot_ne_top) hf

theorem block_max_read (X : FVec Ideal S2x16x32x256x1 .f32) (b : Fin 2) (h : Fin 16) (n : Fin 32) (r : Fin 256) :
    select (cmpf .ogt X (broadcastInDim S2x16x32x256x1 ![] bcast_S_S2x16x32x256x1 (constant S_ .f32 0xFF800000#32))) X (broadcastInDim S2x16x32x256x1 ![] bcast_S_S2x16x32x256x1 (id (constant S_ .f32 0x00000000#32))) (ix5 b h n r 0)
    = if Ideal.ofBits .f32 0xFF800000#32 < X (ix5 b h n r 0) then X (ix5 b h n r 0) else 0 := by
  pointwise [id_eq]

theorem ba_read (b : Fin 2) (h : Fin 16) (n : Fin 32) (r : Fin 256) : ba Q K (ix5 b h n r 0)
    = if Ideal.ofBits .f32 0xFF800000#32 < bm Q K (ix5 b h n r 0) then bm Q K (ix5 b h n r 0) else 0 :=
  block_max_read (bm Q K) b h n r

theorem blse_read (b : Fin 2) (h : Fin 16) (n : Fin 32) (r : Fin 256) : blse Q K (ix5 b h n r 0)
    = Ideal.log (∑ x, Ideal.exp (bl Q K (ix5 b h n r x) - ba Q K (ix5 b h n r 0))) + ba Q K (ix5 b h n r 0) := by
  pointwise [blse]

theorem rowBlk_read (t : Fin 8192) : rowBlk (ix4 0 0 t 0) = BitVec.ofNat 32 t.val := rfl

theorem srow_read (b : Fin 2) (h : Fin 16) (c : Fin 256) : srow C (ix4 b h 0 c) = C (ix3 b h c) := by
  pointwise [srow]

theorem scol_read (b : Fin 2) (h : Fin 16) (c : Fin 256) : scol C (ix4 b h c 0) = C (ix3 b h c) := by
  pointwise [scol]

/-- The printed floor division of a word by 256. -/
abbrev blockWord (x : BitVec 32) : BitVec 32 := Routing.pyDiv0 (fun _ => x) (fun _ => 256#32) ValueIdx.ix0

theorem blockWord_eq (a : Nat) (ha : a < 8192) : blockWord (BitVec.ofNat 32 a) = BitVec.ofNat 32 (a / 256) :=
  Routing.pyDiv0_ap (fun _ => BitVec.ofNat 32 a) (fun _ => 256#32) (a := a) (b := 256) rfl rfl (by omega) (by omega) (by omega)

theorem own_read (b : Fin 2) (h : Fin 16) (t : Fin 8192) (c : Fin 256) :
    own C (ix4 b h t c) = IntOp.cmpi .eq (blockWord (rowBlk (ix4 0 0 t 0))) (blockWord (srow C (ix4 b h 0 c))) := by
  pointwise [own, id_eq]
  rfl

theorem hide_read (b : Fin 2) (h : Fin 16) (t : Fin 8192) (c : Fin 256) : hide C (ix4 b h t c)
    = Scalar.select (own C (ix4 b h t c)) (Ideal.ofBits .f32 0xFF800000#32) (0 : EReal) := by
  pointwise [hide, id_eq]

theorem rl_read (b : Fin 2) (h : Fin 16) (t : Fin 8192) (c : Fin 256) : rl Q K C (ix4 b h t c)
    = (∑ x, Q (ix4 b h t x) * takeCols K (scol C) (ix4 b h c x)) * Ideal.ofBits .f32 0x3E000000#32 + hide C (ix4 b h t c) := by
  pointwise [rl]

theorem rm_ne_top (hf : ∀ i, rl Q K C i ≠ ⊤) (i) : rm Q K C i ≠ ⊤ := by
  have h : ∃ j, rm Q K C i = Host.reduce FloatOps.maximumf (rl Q K C) (constant S_ .f32 0xFF800000#32) reducesTo_S2x16x8192x256_S2x16x8192_d3 h_S_ j := by
    unfold rm broadcastInDim; exact ⟨_, rfl⟩
  obtain ⟨j, h⟩ := h
  rw [h, Host.reduce_eq_fold]
  exact Attn.fold_max_lt _ _ _ (Attn.ofBits_bot.trans_ne bot_ne_top) hf

theorem row_max_read (X : FVec Ideal S2x16x8192x1 .f32) (b : Fin 2) (h : Fin 16) (t : Fin 8192) :
    select (cmpf .ogt X (broadcastInDim S2x16x8192x1 ![] bcast_S_S2x16x8192x1 (constant S_ .f32 0xFF800000#32))) X (broadcastInDim S2x16x8192x1 ![] bcast_S_S2x16x8192x1 (id (constant S_ .f32 0x00000000#32))) (ix4 b h t 0)
    = if Ideal.ofBits .f32 0xFF800000#32 < X (ix4 b h t 0) then X (ix4 b h t 0) else 0 := by
  pointwise [id_eq]

theorem ra_read (b : Fin 2) (h : Fin 16) (t : Fin 8192) : ra Q K C (ix4 b h t 0)
    = if Ideal.ofBits .f32 0xFF800000#32 < rm Q K C (ix4 b h t 0) then rm Q K C (ix4 b h t 0) else 0 :=
  row_max_read (rm Q K C) b h t

theorem rlse_read (b : Fin 2) (h : Fin 16) (t : Fin 8192) : rlse Q K C (ix4 b h t 0)
    = Ideal.log (∑ x, Ideal.exp (rl Q K C (ix4 b h t x) - ra Q K C (ix4 b h t 0))) + ra Q K C (ix4 b h t 0) := by
  pointwise [rlse]

theorem cw_read (b : Fin 2) (h : Fin 16) (t : Fin 8192) : cw Q K C (ix4 b h t 0)
    = Ideal.div 1 (1 + Ideal.exp (rlse Q K C (ix4 b h t 0) + Ideal.ofBits .f32 0x405DCE9E#32
        - blse Q K (ix5 b h ⟨t.val / 256, by omega⟩ ⟨t.val % 256, by omega⟩ 0))) := by
  pointwise [cw]

theorem merged_read (b : Fin 2) (h : Fin 16) (t : Fin 8192) (d : Fin 64) : merged Q K V C (ix4 b h t d)
    = cw Q K C (ix4 b h t 0)
        * (∑ x, Ideal.exp (bl Q K (ix5 b h ⟨t.val / 256, by omega⟩ ⟨t.val % 256, by omega⟩ x) - blse Q K (ix5 b h ⟨t.val / 256, by omega⟩ ⟨t.val % 256, by omega⟩ 0))
            * V (ix4 b h ⟨t.val / 256 * 256 + x.val, by omega⟩ d))
      + (1 - cw Q K C (ix4 b h t 0)) * ∑ x, Ideal.exp (rl Q K C (ix4 b h t x) - rlse Q K C (ix4 b h t 0)) * takeCols V (scol C) (ix4 b h x d) := by
  pointwise [merged, battn, rattn]

end Cert.Proof.Ref

end
-- ==== Proof.RefMix.lean ====
/- The reference's attention of a row over real queries and keys. -/
module

public import proofs.«01_k».proof.Proof.RefAttn

@[expose] public section

noncomputable section

namespace Cert.Proof.Ref

open Idealize.ShloMosaic Cert.ReferenceIdeal Cert.ReferenceIdeal.Facts₀

variable (Q K V : FVec Ideal S2x16x8192x64 .f32) (C : IVec S2x16x256 32)

/-- The block logits of row `t`, over real arrays. -/
def xb (Qr Kr : Fin 2 → Fin 16 → Fin 8192 → Fin 64 → ℝ) (b : Fin 2) (h : Fin 16) (t : Fin 8192) (j : Fin 256) : ℝ :=
  (∑ x, Qr b h t x * Kr b h ⟨t.val / 256 * 256 + j.val, by omega⟩ x) * (1 / 8)

/-- The logits of the sampled columns. -/
def xs (Qr Kr : Fin 2 → Fin 16 → Fin 8192 → Fin 64 → ℝ) (T : Fin 2 → Fin 16 → Fin 256 → Fin 8192) (b : Fin 2) (h : Fin 16) (t : Fin 8192) (j : Fin 256) : ℝ :=
  (∑ x, Qr b h t x * Kr b h (T b h j) x) * (1 / 8)

/-- Whether a sampled column lies in the row's own block. -/
def inBlock (T : Fin 2 → Fin 16 → Fin 256 → Fin 8192) (b : Fin 2) (h : Fin 16) (t : Fin 8192) (j : Fin 256) : Bool :=
  decide (t.val / 256 = (T b h j).val / 256)

theorem bl_eq (Qr Kr : Fin 2 → Fin 16 → Fin 8192 → Fin 64 → ℝ)
    (hQ : ∀ b h t d, Q (ix4 b h t d) = (Qr b h t d : EReal)) (hK : ∀ b h t d, K (ix4 b h t d) = (Kr b h t d : EReal))
    (b : Fin 2) (h : Fin 16) (t : Fin 8192) (x : Fin 256) :
    bl Q K (ix5 b h ⟨t.val / 256, by omega⟩ ⟨t.val % 256, by omega⟩ x) = (xb Qr Kr b h t x : EReal) := by
  have htk : (⟨t.val / 256 * 256 + t.val % 256, by omega⟩ : Fin 8192) = t := Fin.ext (by show t.val / 256 * 256 + t.val % 256 = t.val; omega)
  rw [bl_read, Attn.ofBits_eighth]
  refine Attn.dot_real _ _ _ _ (fun y => ?_) fun y => hK ..
  rw [hQ, htk]

theorem bl_real (Qr Kr : Fin 2 → Fin 16 → Fin 8192 → Fin 64 → ℝ)
    (hQ : ∀ b h t d, Q (ix4 b h t d) = (Qr b h t d : EReal)) (hK : ∀ b h t d, K (ix4 b h t d) = (Kr b h t d : EReal)) (i) :
    ∃ r : ℝ, bl Q K i = (r : EReal) := by
  have key : ∀ b h n r c, ∃ x : ℝ, bl Q K (ix5 b h n r c) = (x : EReal) := fun b h n r c => by
    rw [bl_read, Attn.ofBits_eighth]
    exact ⟨_, Attn.dot_real _ _ _ _ (fun y => hQ ..) fun y => hK ..⟩
  rw [ValueIdx.eq_ix5 i]
  exact key _ _ _ _ _

theorem own_eq (T : Fin 2 → Fin 16 → Fin 256 → Fin 8192) (hC : ∀ b h c, C (ix3 b h c) = BitVec.ofNat 32 (T b h c).val)
    (b : Fin 2) (h : Fin 16) (t : Fin 8192) (x : Fin 256) :
    own C (ix4 b h t x) = if inBlock T b h t x = true then 1#1 else 0#1 := by
  rw [own_read, rowBlk_read, srow_read, hC, blockWord_eq _ t.isLt, blockWord_eq _ (T b h x).isLt]
  unfold inBlock
  by_cases e : t.val / 256 = (T b h x).val / 256
  · rw [e]; simp [IntOp.cmpi]
  · have : BitVec.ofNat 32 (t.val / 256) ≠ BitVec.ofNat 32 ((T b h x).val / 256) := fun e' => e (by
      have := congrArg BitVec.toNat e'
      simp only [BitVec.toNat_ofNat] at this
      have := t.isLt; have := (T b h x).isLt; omega)
    have hb : (BitVec.ofNat 32 (t.val / 256) == BitVec.ofNat 32 ((T b h x).val / 256)) = false := beq_false_of_ne this
    simp [IntOp.cmpi, e, hb]

theorem rl_eq (Qr Kr : Fin 2 → Fin 16 → Fin 8192 → Fin 64 → ℝ) (T : Fin 2 → Fin 16 → Fin 256 → Fin 8192)
    (hQ : ∀ b h t d, Q (ix4 b h t d) = (Qr b h t d : EReal)) (hK : ∀ b h t d, K (ix4 b h t d) = (Kr b h t d : EReal))
    (hC : ∀ b h c, C (ix3 b h c) = BitVec.ofNat 32 (T b h c).val)
    (b : Fin 2) (h : Fin 16) (t : Fin 8192) (x : Fin 256) :
    rl Q K C (ix4 b h t x) = (xs Qr Kr T b h t x : EReal) + (if inBlock T b h t x = true then ⊥ else 0) := by
  rw [rl_read, hide_read, own_eq C T hC, Attn.ofBits_eighth, Attn.ofBits_bot]
  congr 1
  · refine Attn.dot_real _ _ _ _ (fun y => hQ ..) fun y => ?_
    rw [takeCols_apply K (scol C) T (fun b h s => by rw [scol_read, hC]), hK]
  · by_cases e : inBlock T b h t x = true <;> simp [e, Scalar.select]

/-- The reference's merged attention of a row is the joint softmax over the block and the sampled columns. -/
theorem merged_mix (Qr Kr : Fin 2 → Fin 16 → Fin 8192 → Fin 64 → ℝ) (T : Fin 2 → Fin 16 → Fin 256 → Fin 8192)
    (hQ : ∀ b h t d, Q (ix4 b h t d) = (Qr b h t d : EReal)) (hK : ∀ b h t d, K (ix4 b h t d) = (Kr b h t d : EReal))
    (hC : ∀ b h c, C (ix3 b h c) = BitVec.ofNat 32 (T b h c).val) (b : Fin 2) (h : Fin 16) (t : Fin 8192) (d : Fin 64) :
    merged Q K V C (ix4 b h t d)
      = Attn.mix (xb Qr Kr b h t) (xs Qr Kr T b h t) (inBlock T b h t) Attn.shift
          (fun j => V (ix4 b h ⟨t.val / 256 * 256 + j.val, by omega⟩ d)) (fun j => V (ix4 b h (T b h j) d)) := by
  have hbl := bl_eq Q K Qr Kr hQ hK b h t
  have hrl := rl_eq Q K C Qr Kr T hQ hK hC b h t
  have hM1 : ∃ r : ℝ, ba Q K (ix5 b h ⟨t.val / 256, by omega⟩ ⟨t.val % 256, by omega⟩ 0) = (r : EReal) := by
    rw [ba_read, Attn.ofBits_bot]
    refine Attn.or_zero_real _ (bm_ne_top Q K (fun i => ?_) _)
    obtain ⟨r, hr⟩ := bl_real Q K Qr Kr hQ hK i
    rw [hr]; exact EReal.coe_ne_top r
  have hM2 : ∃ r : ℝ, ra Q K C (ix4 b h t 0) = (r : EReal) := by
    rw [ra_read, Attn.ofBits_bot]
    refine Attn.or_zero_real _ (rm_ne_top Q K C (fun i => ?_) _)
    rw [ValueIdx.eq_ix4 i]
    exact (rl_eq Q K C Qr Kr T hQ hK hC ..).trans_ne (Attn.masked_ne_top _ _)
  obtain ⟨M1, hM1⟩ := hM1
  obtain ⟨M2, hM2⟩ := hM2
  rw [merged_read]
  have hv : ∀ x, takeCols V (scol C) (ix4 b h x d) = V (ix4 b h (T b h x) d) := fun x =>
    takeCols_apply V (scol C) T (fun b h s => by rw [scol_read, hC]) b h x d
  simp only [hbl, hrl, hv]
  refine Attn.reference_row (xb Qr Kr b h t) (xs Qr Kr T b h t) (inBlock T b h t) Attn.shift M1 M2 _ _ _ _ _ _ _ rfl rfl ?_ ?_ ?_
  · rw [blse_read, hM1]; simp only [hbl]
  · rw [rlse_read, hM2]; simp only [hrl]
  · rw [cw_read, Attn.ofBits_shift]

end Cert.Proof.Ref

end
-- ==== Proof.Sort.lean ====
/- The stable sort of a list of positions by a key, and the number of positions that come before one. -/
module

public import Idealize.ShloMosaic.Lib.SortFacts
public import Mathlib.Data.Fintype.Card
public import Mathlib.Data.Finset.Card

@[expose] public section

namespace Cert.Proof.Sort

open Idealize.ShloMosaic

variable {n : Nat}

/-- Position `a` comes before position `b`: a smaller key, or an equal key and an earlier position. -/
def Before (h : Fin n → Nat) (a b : Fin n) : Prop := h a < h b ∨ (h a = h b ∧ a < b)

instance (h : Fin n → Nat) (a b : Fin n) : Decidable (Before h a b) := by unfold Before; infer_instance

/-- How many positions come before `s`. -/
def rankNat (h : Fin n → Nat) (s : Fin n) : Nat := (Finset.univ.filter fun a => Before h a s).card

theorem rankNat_lt (h : Fin n → Nat) (s : Fin n) : rankNat h s < n := by
  have : (Finset.univ.filter fun a => Before h a s) ⊂ (Finset.univ : Finset (Fin n)) := by
    refine Finset.ssubset_iff_subset_ne.2 ⟨Finset.filter_subset _ _, fun e => ?_⟩
    have : s ∈ (Finset.univ.filter fun a => Before h a s) := by rw [e]; exact Finset.mem_univ s
    rw [Finset.mem_filter] at this
    rcases this.2 with h1 | h1
    · exact lt_irrefl _ h1
    · exact lt_irrefl _ h1.2
  have := Finset.card_lt_card this
  rwa [Finset.card_univ, Fintype.card_fin] at this

/-- The number of positions before `s`, as a position. -/
def rank (h : Fin n → Nat) (s : Fin n) : Fin n := ⟨rankNat h s, rankNat_lt h s⟩

theorem rank_lt_of_before (h : Fin n → Nat) {a b : Fin n} (hab : Before h a b) : rank h a < rank h b := by
  show rankNat h a < rankNat h b
  refine Finset.card_lt_card (Finset.ssubset_iff_subset_ne.2 ⟨fun x hx => ?_, fun e => ?_⟩)
  · rw [Finset.mem_filter] at hx ⊢
    refine ⟨Finset.mem_univ _, ?_⟩
    have h1 := hx.2
    unfold Before at h1 hab ⊢
    omega
  · have : a ∈ Finset.univ.filter fun x => Before h x a := by rw [e, Finset.mem_filter]; exact ⟨Finset.mem_univ _, hab⟩
    rw [Finset.mem_filter] at this
    have h1 := this.2
    unfold Before at h1
    omega

theorem before_trichotomy (h : Fin n → Nat) (a b : Fin n) : Before h a b ∨ a = b ∨ Before h b a := by
  unfold Before
  rcases lt_trichotomy a b with hab | hab | hab
  · rcases lt_trichotomy (h a) (h b) with q | q | q
    · exact .inl (.inl q)
    · exact .inl (.inr ⟨q, hab⟩)
    · exact .inr (.inr (.inl q))
  · exact .inr (.inl hab)
  · rcases lt_trichotomy (h a) (h b) with q | q | q
    · exact .inl (.inl q)
    · exact .inr (.inr (.inr ⟨q.symm, hab⟩))
    · exact .inr (.inr (.inl q))

theorem rank_lt_iff (h : Fin n → Nat) (a b : Fin n) : rank h a < rank h b ↔ Before h a b := by
  refine ⟨fun hl => ?_, rank_lt_of_before h⟩
  rcases before_trichotomy h a b with q | q | q
  · exact q
  · subst q; exact absurd hl (lt_irrefl _)
  · exact absurd (lt_trans hl (rank_lt_of_before h q)) (lt_irrefl _)

theorem rank_injective (h : Fin n → Nat) : Function.Injective (rank h) := fun a b e => by
  rcases before_trichotomy h a b with q | q | q
  · exact absurd (rank_lt_of_before h q) (by rw [e]; exact lt_irrefl _)
  · exact q
  · exact absurd (rank_lt_of_before h q) (by rw [e]; exact lt_irrefl _)

/-- The rank as a permutation of the positions. -/
noncomputable def rankPerm (h : Fin n → Nat) : Equiv.Perm (Fin n) :=
  Equiv.ofBijective (rank h) (Finite.injective_iff_bijective.1 (rank_injective h))

theorem rankPerm_apply (h : Fin n → Nat) (s : Fin n) : rankPerm h s = rank h s := rfl

/-- Two relations that agree where the first element is the later one sort an increasing list alike. -/
theorem stableSort_congr_later {ι : Type} [LT ι] (R R' : ι → ι → Bool) (hR : ∀ a b, a < b → R b a = R' b a) (l : List ι)
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => hR a b (hl.1 b ((perm_stableSort R' l).mem_iff.mp hb))

/-- The stable sort by the key puts at `rank s` the position `s`. -/
theorem sortedFrom_rank (h : Fin n → Nat) (R : Fin n → Fin n → Bool) (hR : ∀ a b, R a b = decide (h a < h b)) (s : Fin n) :
    sortedFrom R (rank h s) = s := by
  have e : sortPositions n R = List.ofFn (rankPerm h).symm := by
    rw [← sortPositions_of_perm (rankPerm h).symm]
    refine stableSort_congr_later _ _ (fun a b hab => ?_) _ (List.pairwise_lt_finRange n)
    rw [hR]
    rw [Equiv.symm_symm]
    rw [rankPerm_apply, rankPerm_apply]
    refine decide_eq_decide.2 ?_
    rw [rank_lt_iff]
    unfold Before
    constructor
    · exact .inl
    · rintro (q | q)
      · exact q
      · exact absurd (lt_trans q.2 hab) (lt_irrefl _)
  unfold sortedFrom
  rw [List.get_of_eq e]
  have : (rankPerm h).symm (rank h s) = s := by rw [← rankPerm_apply, Equiv.symm_apply_apply]
  simpa using this

theorem rank_sortedFrom (h : Fin n → Nat) (R : Fin n → Fin n → Bool) (hR : ∀ a b, R a b = decide (h a < h b)) (t : Fin n) :
    rank h (sortedFrom R t) = t := by
  obtain ⟨s, rfl⟩ := (rankPerm h).surjective t
  rw [rankPerm_apply, sortedFrom_rank h R hR]

/-- Keys that are themselves a permutation have themselves as ranks. -/
theorem rank_perm (σ : Fin n → Fin n) (hσ : Function.Injective σ) (s : Fin n) : rank (fun k => (σ k).val) s = σ s := by
  refine Fin.ext ?_
  show rankNat _ s = (σ s).val
  unfold rankNat
  have e : (Finset.univ.filter fun a => Before (fun k => (σ k).val) a s).card = (Finset.univ.filter fun b : Fin n => b < σ s).card := by
    refine Finset.card_bij (fun a _ => σ a) (fun a ha => ?_) (fun a _ b _ q => hσ q) (fun b hb => ?_)
    · rw [Finset.mem_filter] at ha ⊢
      refine ⟨Finset.mem_univ _, ?_⟩
      rcases ha.2 with q | q
      · exact q
      · have := hσ (Fin.ext q.1); subst this; exact absurd q.2 (lt_irrefl _)
    · obtain ⟨a, rfl⟩ := (Finite.injective_iff_surjective.1 hσ) b
      rw [Finset.mem_filter] at hb
      exact ⟨a, by rw [Finset.mem_filter]; exact ⟨Finset.mem_univ _, .inl hb.2⟩, rfl⟩
  rw [e]
  have := Fin.card_Iio (σ s)
  rw [← this]
  congr 1
  ext b
  simp

/-- The sort of the sorting permutation is the rank. -/
theorem sortedFrom_sortedFrom (h : Fin n → Nat) (R R2 : Fin n → Fin n → Bool) (hR : ∀ a b, R a b = decide (h a < h b))
    (hR2 : ∀ a b, R2 a b = decide (sortedFrom R a < sortedFrom R b)) (s : Fin n) : sortedFrom R2 s = rank h s := by
  have k := sortedFrom_rank (fun k => (sortedFrom R k).val) R2 (fun a b => hR2 a b) (rank h s)
  rw [rank_perm _ (sortedFrom_injective R), sortedFrom_rank h R hR] at k
  exact k

end Cert.Proof.Sort
-- ==== Proof.RefSort.lean ====
/- The reference's hash keys, its stable sorts, and its result at an index. -/
module

public import proofs.«01_k».proof.Proof.RefMix
public import proofs.«01_k».proof.Proof.Sort

@[expose] public section

set_option maxRecDepth 16384

noncomputable section

namespace Cert.Proof.Ref

open Idealize.ShloMosaic Cert.ReferenceIdeal Cert.ReferenceIdeal.Facts₀

/-- The bin words of the rows of `X`. -/
def binWords (X : FVec Ideal S2x16x8192x64 .f32) (P : FVec Ideal S64x7 .f32) (W : IVec S1x1x1x7 32) : IVec S2x16x8192 32 :=
  Host.reduce IntOp.addi (muli (extui 32 (cmpf .ogt (Host.dotGeneral dot_S2x16x8192x64_S64x7_S2x16x8192x7_3_0_012_1_n_n none X P) (broadcastInDim S2x16x8192x7 ![] bcast_S_S2x16x8192x7 (constant S_ .f32 0x00000000#32))) natLt_1_32) (broadcastInDim S2x16x8192x7 ![0, 1, 2, 3] bcast_S1x1x1x7_S2x16x8192x7_0_1_2_3 W)) (constantI S_ 32 0#32) reducesTo_S2x16x8192x7_S2x16x8192_d3 h_S_

theorem binWords_read (X : FVec Ideal S2x16x8192x64 .f32) (P : FVec Ideal S64x7 .f32) (W : IVec S1x1x1x7 32) (b : Fin 2) (h : Fin 16) (s : Fin 8192) :
    binWords X P W (ix3 b h s)
      = Finset.fold IntOp.addi 0#32 (fun r : Fin 7 => IntOp.muli (BitVec.setWidth 32 (BitVec.ofBool (decide (0 < ∑ e, X (ix4 b h s e) * P (ix2 e r))))) (W (ix4 0 0 0 r))) Finset.univ := by
  unfold binWords
  pointwise []

theorem fold_words {ι : Type} (A : Finset ι) (f : ι → Nat) :
    Finset.fold IntOp.addi 0#32 (fun r => BitVec.ofNat 32 (f r)) A = BitVec.ofNat 32 (∑ r ∈ A, f r) := by
  classical
  induction A using Finset.induction_on with
  | empty => rfl
  | insert a A ha ih =>
    rw [Finset.fold_insert ha, Finset.sum_insert ha, ih, BitVec.ofNat_add]
    rfl

/-- The bin of a row: the positive projections as binary digits. -/
def bin (x : Fin 64 → EReal) (P : Fin 64 → Fin 7 → EReal) : Nat :=
  ∑ r : Fin 7, if 0 < ∑ e, x e * P e r then 2 ^ r.val else 0

theorem bin_lt (x : Fin 64 → EReal) (P : Fin 64 → Fin 7 → EReal) : bin x P < 128 := by
  unfold bin
  calc _ ≤ ∑ r : Fin 7, 2 ^ r.val := Finset.sum_le_sum fun r _ => by split <;> first | exact le_rfl | exact Nat.zero_le _
    _ = 127 := by decide
    _ < 128 := by omega

/-- The reflected binary code. -/
def gray (n : Fin 128) : Fin 128 := ⟨(n.val ^^^ (n.val / 2)) % 128, by omega⟩

theorem gray_table : ∀ n : Fin 128, lit1 n = BitVec.ofNat 32 (gray n).val := by decide +kernel

theorem weight_table : ∀ r : Fin 7, lit0 r = BitVec.ofNat 32 (2 ^ r.val) := by decide

/-- The hash key of a row. -/
def hashKey (x : Fin 64 → EReal) (P : Fin 64 → Fin 7 → EReal) : Fin 128 := gray ⟨bin x P, bin_lt x P⟩

theorem bit_word (p : Prop) [Decidable p] (w : Nat) :
    IntOp.muli (BitVec.setWidth 32 (BitVec.ofBool (decide p))) (BitVec.ofNat 32 w) = BitVec.ofNat 32 (if p then w else 0) := by
  unfold IntOp.muli
  by_cases hp : p
  · simp only [hp, decide_true, if_true]
    rw [show BitVec.setWidth 32 (BitVec.ofBool true) = 1#32 by decide, BitVec.one_mul]
  · simp only [hp, decide_false, if_false]
    rw [show BitVec.setWidth 32 (BitVec.ofBool false) = 0#32 by decide, BitVec.zero_mul]

theorem binWords_apply (X : FVec Ideal S2x16x8192x64 .f32) (P : FVec Ideal S64x7 .f32) (W : IVec S1x1x1x7 32)
    (hW : ∀ r, W (ix4 0 0 0 r) = BitVec.ofNat 32 (2 ^ r.val)) (b : Fin 2) (h : Fin 16) (s : Fin 8192) :
    binWords X P W (ix3 b h s) = BitVec.ofNat 32 (bin (fun e => X (ix4 b h s e)) fun e r => P (ix2 e r)) := by
  rw [binWords_read]
  simp only [hW, bit_word]
  exact fold_words _ _

/-- The hash words of the bin words. -/
def hashWords (T : IVec S128 32) (B : IVec S2x16x8192 32) : IVec S2x16x8192 32 :=
  Host.gather gather_S128_S2x16x8192x1_S2x16x8192_n_0_n_n_0_3_1 T (broadcastInDim S2x16x8192x1 ![0, 1, 2] bcast_S2x16x8192_S2x16x8192x1_0_1_2 (select (cmpi .slt B (broadcastInDim S2x16x8192 ![] bcast_S_S2x16x8192 (constantI S_ 32 0#32))) (addi B (broadcastInDim S2x16x8192 ![] bcast_S_S2x16x8192 (constantI S_ 32 128#32))) B))

theorem gather_table {α : Type} (x : S128.Idx → α) (v : IVec S2x16x8192x1 32) (b : Fin 2) (h : Fin 16) (s : Fin 8192) (w : Fin 128)
    (hv : v (ix4 b h s 0) = BitVec.ofNat 32 w.val) :
    Host.gather gather_S128_S2x16x8192x1_S2x16x8192_n_0_n_n_0_3_1 x v (ix3 b h s) = x (ix1 w) := by
  unfold Host.gather
  congr 1; funext a; apply Fin.ext
  match a with
  | ⟨0, _⟩ =>
    have e : (gather_S128_S2x16x8192x1_S2x16x8192_n_0_n_n_0_3_1).siIdx (ix3 b h s) ⟨0, by decide⟩ = ix4 b h s 0 := by
      funext a; apply Fin.ext
      match a with
      | ⟨0, _⟩ => rfl
      | ⟨1, _⟩ => rfl
      | ⟨2, _⟩ => rfl
      | ⟨3, _⟩ => rfl
    refine (congrArg (fun i => min (v i).toInt.toNat (128 - 1) + 0 + 0) e).trans ?_
    rw [hv, StableHlo.Predicate.toInt_ofNat_small _ (by omega)]
    show min w.val 127 + 0 + 0 = w.val
    omega

theorem wide_read {α : Type} (v : S2x16x8192.Idx → α) (b : Fin 2) (h : Fin 16) (s : Fin 8192) :
    broadcastInDim S2x16x8192x1 ![0, 1, 2] bcast_S2x16x8192_S2x16x8192x1_0_1_2 v (ix4 b h s 0) = v (ix3 b h s) := by
  pointwise []

theorem hashWords_apply (T : IVec S128 32) (B : IVec S2x16x8192 32) (b : Fin 2) (h : Fin 16) (s : Fin 8192) (n : Fin 128)
    (hB : B (ix3 b h s) = BitVec.ofNat 32 n.val) : hashWords T B (ix3 b h s) = T (ix1 n) := by
  refine gather_table T _ b h s n ?_
  rw [wide_read]
  show Scalar.select (IntOp.cmpi .slt (B (ix3 b h s)) 0#32) (B (ix3 b h s) + 128#32) (B (ix3 b h s)) = _
  rw [hB, not_slt_zero (by omega)]
  rfl

/-- The order that a stable sort by key puts the positions in. -/
def order {n : Nat} (h : Fin n → Nat) (t : Fin n) : Fin n := (Sort.rankPerm h).symm t

theorem rank_order {n : Nat} (h : Fin n → Nat) (t : Fin n) : Sort.rank h (order h t) = t := (Sort.rankPerm h).apply_symm_apply t

theorem sortedFrom_order {n : Nat} (h : Fin n → Nat) (R : Fin n → Fin n → Bool) (hR : ∀ a b, R a b = decide (h a < h b)) (t : Fin n) :
    sortedFrom R t = order h t := by
  conv_lhs => rw [← rank_order h t]
  exact Sort.sortedFrom_rank h R hR _

theorem sort2_read (x y : IVec S2x16x8192 32) (hy : ∀ b h s, y (ix3 b h s) = BitVec.ofNat 32 s.val) (b : Fin 2) (h : Fin 16) (s : Fin 8192) :
    (Host.sort2 S2x16x8192 2 comparator_i32_i32_d2 x y).2 (ix3 b h s)
      = BitVec.ofNat 32 (sortedFrom (fun k k' : Fin 8192 => IntOp.cmpi .slt (x (ix3 b h k)) (x (ix3 b h k')) == 1#1) s).val := by
  have e : ∀ k : Fin 8192, (ix3 b h s : S2x16x8192.Idx).along (2 : Fin 3) k = ix3 b h k := fun k => by
    funext a
    match a with
    | ⟨0, _⟩ => rfl
    | ⟨1, _⟩ => rfl
    | ⟨2, _⟩ => rfl
  unfold Host.sort2
  rw [dif_pos (by decide)]
  refine (congrArg y (e _)).trans ((hy ..).trans ?_)
  refine congrArg (fun R => BitVec.ofNat 32 (sortedFrom R s).val) (funext fun k => funext fun k' => ?_)
  exact congrArg₂ (fun i j => IntOp.cmpi .slt (x i) (x j) == 1#1) (e k) (e k')

theorem slt_words {a b : Nat} (ha : a < 8192) (hb : b < 8192) : (IntOp.cmpi .slt (BitVec.ofNat 32 a) (BitVec.ofNat 32 b) == 1#1) = decide (a < b) := by
  have h1 : (BitVec.ofNat 32 a).toInt = a := StableHlo.Predicate.toInt_ofNat_small _ (by omega)
  have h2 : (BitVec.ofNat 32 b).toInt = b := StableHlo.Predicate.toInt_ofNat_small _ (by omega)
  simp only [IntOp.cmpi, BitVec.slt, h1, h2, Nat.cast_lt]
  by_cases h : a < b <;> simp [h]

theorem sort2_order (x y : IVec S2x16x8192 32) (hy : ∀ b h s, y (ix3 b h s) = BitVec.ofNat 32 s.val) (key : Fin 2 → Fin 16 → Fin 8192 → Nat)
    (hx : ∀ b h s, x (ix3 b h s) = BitVec.ofNat 32 (key b h s)) (hk : ∀ b h s, key b h s < 8192) (b : Fin 2) (h : Fin 16) (s : Fin 8192) :
    (Host.sort2 S2x16x8192 2 comparator_i32_i32_d2 x y).2 (ix3 b h s) = BitVec.ofNat 32 (order (key b h) s).val := by
  rw [sort2_read x y hy]
  refine congrArg (fun t : Fin 8192 => BitVec.ofNat 32 t.val) (sortedFrom_order (key b h) _ (fun k k' => ?_) s)
  rw [hx, hx]
  exact slt_words (hk ..) (hk ..)

theorem order_rank {n : Nat} (h : Fin n → Nat) (s : Fin n) : order h (Sort.rank h s) = s := (Sort.rankPerm h).symm_apply_apply s

theorem order_order {n : Nat} (h : Fin n → Nat) (s : Fin n) : order (fun t => (order h t).val) s = Sort.rank h s := by
  refine (Equiv.symm_apply_eq _).2 ?_
  rw [Sort.rankPerm_apply, Sort.rank_perm (order h) (Sort.rankPerm h).symm.injective, order_rank]

theorem iota_read (b : Fin 2) (h : Fin 16) (s : Fin 8192) : iotaInDim S2x16x8192 32 2 (ix3 b h s) = BitVec.ofNat 32 s.val := by
  pointwise []

open Cert.ReferenceIdeal.Value Idealize.ShloMosaic.StableHlo in
/-- The reference's result from its named parts. -/
def result (V0 : Valuation τ sig (Elt Ideal)) : FVec Ideal S2x16x8192x64 .f32 :=
  takeRows (merged (res_main_v32 V0) (res_main_v34 V0) (res_main_v36 V0) (res_main_c_1 V0))
    (broadcastInDim S2x16x8192x1 ![0, 1, 2] bcast_S2x16x8192_S2x16x8192x1_0_1_2 (Host.sort2 S2x16x8192 2 comparator_i32_i32_d2 (res_main_v28 V0) (res_main_call2_v0 V0)).2)

open Cert.ReferenceIdeal.Value Cert.ReferenceIdeal.Gen Idealize.ShloMosaic.TcCoe Idealize.SL.Sem Idealize.ShloMosaic.StableHlo in
theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v111) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans rfl, (h c).2⟩) (run m ρ)

/-- The sampled columns. -/
def drawn (b : Fin 2) (h : Fin 16) (j : Fin 256) : Fin 8192 := ⟨(lit2 (S2x16x256.rowMajor (ix3 b h j))).toNat % 8192, by omega⟩

theorem table_lt : ∀ i : Fin 8192, (lit2 i).toNat < 8192 := by decide +kernel

theorem word_small (w : BitVec 32) (h : w.toNat < 8192) : w = BitVec.ofNat 32 (w.toNat % 8192) := by
  rw [Nat.mod_eq_of_lt h, BitVec.ofNat_toNat, BitVec.setWidth_eq]

theorem place1 : ∀ n : Fin 128, (S128.rowMajor (ix1 n)).val = n.val := by decide +kernel

theorem drawn_word (b : Fin 2) (h : Fin 16) (j : Fin 256) : lit2 (S2x16x256.rowMajor (ix3 b h j)) = BitVec.ofNat 32 (drawn b h j).val :=
  word_small _ (table_lt _)

/-- The keys of a head's rows. -/
def keys (X : FVec Ideal S2x16x8192x64 .f32) (P : FVec Ideal S64x7 .f32) (b : Fin 2) (h : Fin 16) (s : Fin 8192) : Nat :=
  (hashKey (fun e => X (ix4 b h s e)) fun e r => P (ix2 e r)).val

section
open Cert.ReferenceIdeal.Value Idealize.ShloMosaic.StableHlo

variable (V0 : Valuation τ sig (Elt Ideal)) (q k v : FVec Ideal S2x16x8192x64 .f32) (P : FVec Ideal S64x7 .f32)

theorem hashed (X : FVec Ideal S2x16x8192x64 .f32) (b : Fin 2) (h : Fin 16) (s : Fin 8192) :
    hashWords (fun i => lit1 (S128.rowMajor i)) (binWords X P (fun i => lit0 (S1x1x1x7.rowMajor i))) (ix3 b h s) = BitVec.ofNat 32 (keys X P b h s) := by
  refine (hashWords_apply _ _ b h s ⟨bin (fun e => X (ix4 b h s e)) fun e r => P (ix2 e r), bin_lt _ _⟩ (binWords_apply X P _ (fun r => ?_) b h s)).trans ?_
  · refine Eq.trans (congrArg lit0 ?_) (weight_table r)
    fin_cases r <;> rfl
  · exact Eq.trans (congrArg lit1 (Fin.ext (place1 _))) (gray_table _)

theorem keys_lt (X : FVec Ideal S2x16x8192x64 .f32) (b : Fin 2) (h : Fin 16) (s : Fin 8192) : keys X P b h s < 8192 := by
  unfold keys; omega

variable (h0 : V0 (Proc.devRef .tc main_arg0) = q) (h1 : V0 (Proc.devRef .tc main_arg1) = k) (h2 : V0 (Proc.devRef .tc main_arg2) = v) (h3 : V0 (Proc.devRef .tc main_arg3) = P)

include h0 h3 in
theorem v28_read (b : Fin 2) (h : Fin 16) (s : Fin 8192) : res_main_v28 V0 (ix3 b h s) = BitVec.ofNat 32 (order (keys q P b h) s).val := by
  refine sort2_order _ _ iota_read (keys q P) (fun b h s => ?_) (keys_lt P q) b h s
  refine Eq.trans ?_ (hashed P q b h s)
  unfold res_main_v13 res_main_v6
  rw [h0, h3]
  rfl

include h1 h3 in
theorem v29_read (b : Fin 2) (h : Fin 16) (s : Fin 8192) : res_main_v29 V0 (ix3 b h s) = BitVec.ofNat 32 (order (keys k P b h) s).val := by
  refine sort2_order _ _ iota_read (keys k P) (fun b h s => ?_) (keys_lt P k) b h s
  refine Eq.trans ?_ (hashed P k b h s)
  unfold res_main_v27 res_main_v20
  rw [h1, h3]
  rfl

include h0 h3 in
theorem v32_read (b : Fin 2) (h : Fin 16) (t : Fin 8192) (d : Fin 64) : res_main_v32 V0 (ix4 b h t d) = q (ix4 b h (order (keys q P b h) t) d) := by
  refine Eq.trans ?_ (takeRows_apply q (res_main_v31 V0) (fun b h s => order (keys q P b h) s) (fun b h s => ?_) b h t d)
  · rw [← h0]; rfl
  · exact (wide_read _ b h s).trans (v28_read V0 q P h0 h3 b h s)

include h1 h3 in
theorem v34_read (b : Fin 2) (h : Fin 16) (t : Fin 8192) (d : Fin 64) : res_main_v34 V0 (ix4 b h t d) = k (ix4 b h (order (keys k P b h) t) d) := by
  refine Eq.trans ?_ (takeRows_apply k (res_main_v33 V0) (fun b h s => order (keys k P b h) s) (fun b h s => ?_) b h t d)
  · rw [← h1]; rfl
  · exact (wide_read _ b h s).trans (v29_read V0 k P h1 h3 b h s)

include h1 h2 h3 in
theorem v36_read (b : Fin 2) (h : Fin 16) (t : Fin 8192) (d : Fin 64) : res_main_v36 V0 (ix4 b h t d) = v (ix4 b h (order (keys k P b h) t) d) := by
  refine Eq.trans ?_ (takeRows_apply v (res_main_v35 V0) (fun b h s => order (keys k P b h) s) (fun b h s => ?_) b h t d)
  · rw [← h2]; rfl
  · exact (wide_read _ b h s).trans (v29_read V0 k P h1 h3 b h s)

include h0 h1 h2 h3 in
/-- The reference's result at an index: the merged attention of the row at its rank, over the sorted rows. -/
theorem result_read (Qr Kr : Fin 2 → Fin 16 → Fin 8192 → Fin 64 → ℝ) (hq : ∀ b h s d, q (ix4 b h s d) = (Qr b h s d : EReal)) (hk : ∀ b h s d, k (ix4 b h s d) = (Kr b h s d : EReal))
    (b : Fin 2) (h : Fin 16) (s : Fin 8192) (d : Fin 64) :
    result V0 (ix4 b h s d)
      = Attn.mix (xb (fun b h t => Qr b h (order (keys q P b h) t)) (fun b h t => Kr b h (order (keys k P b h) t)) b h (Sort.rank (keys q P b h) s))
          (xs (fun b h t => Qr b h (order (keys q P b h) t)) (fun b h t => Kr b h (order (keys k P b h) t)) drawn b h (Sort.rank (keys q P b h) s))
          (inBlock drawn b h (Sort.rank (keys q P b h) s)) Attn.shift
          (fun j => v (ix4 b h (order (keys k P b h) ⟨(Sort.rank (keys q P b h) s).val / 256 * 256 + j.val, by omega⟩) d)) (fun j => v (ix4 b h (order (keys k P b h) (drawn b h j)) d)) := by
  unfold result
  refine (takeRows_apply _ _ (fun b h s => Sort.rank (keys q P b h) s) (fun b h s => ?_) b h s d).trans ?_
  · refine (wide_read _ b h s).trans ?_
    refine (sort2_order _ _ iota_read (fun b h s => (order (keys q P b h) s).val) (v28_read V0 q P h0 h3) (fun b h s => (order (keys q P b h) s).isLt) b h s).trans ?_
    rw [order_order]
  · refine (merged_mix _ _ _ _ (fun b h t => Qr b h (order (keys q P b h) t)) (fun b h t => Kr b h (order (keys k P b h) t)) drawn (fun b h t d => ?_) (fun b h t d => ?_) (fun b h j => ?_) b h _ d).trans ?_
    · rw [v32_read V0 q P h0 h3, hq]
    · rw [v34_read V0 k P h1 h3, hk]
    · exact drawn_word b h j
    · simp only [v36_read V0 k v P h1 h2 h3]

end

end Cert.Proof.Ref

end
-- ==== Proof.Count.lean ====
/- The positions body's payloads at an index: the one-hot row of a key, counts of keys, and the position they give. -/
module

public import proofs.«01_k».proof.Proof.Gen.KernelIdeal.Skeleton
public import proofs.«01_k».proof.Proof.Sort
public import Idealize.ShloMosaic.Lib.Pointwise

@[expose] public section

noncomputable section

namespace Cert.Proof.Count

open Idealize.ShloMosaic Cert.KernelIdeal Cert.KernelIdeal.Gen

/-- The bin word of a row: the sum of the weights of its positive projections. -/
def binSum {n : Nat} (x : Fin n → Fin 64 → EReal) (p : Fin 64 → Fin 128 → EReal) (w : Fin 128 → EReal) (s : Fin n) : EReal :=
  ∑ r, if 0 < ∑ e, x s e * p e r then w r else 0

theorem bit_real (p : Prop) [Decidable p] :
    (FloatOps.sitofp .f32 (BitVec.setWidth 32 (BitVec.ofBool (decide p))) : Ideal .f32) = if p then (1 : EReal) else 0 := by
  show (((BitVec.setWidth 32 (BitVec.ofBool (decide p))).toInt : ℝ) : EReal) = _
  by_cases hp : p
  · simp only [hp, decide_true, if_true]
    rw [show (BitVec.setWidth 32 (BitVec.ofBool true)).toInt = 1 by decide]
    norm_num
  · simp only [hp, decide_false, if_false]
    rw [show (BitVec.setWidth 32 (BitVec.ofBool false)).toInt = 0 by decide]
    norm_num

theorem onehot_apply (v16 : Vec Ideal S1x256x64 .f32) (v18 : Vec Ideal S64x128 .f32) (v23 v31 : Vec Ideal S1x128 .f32) (j : Fin 256) (c : Fin 128) :
    k0_pay3 v16 v18 v23 v31 (ix2 j c)
      = if binSum (fun (j : Fin 256) e => v16 (ix3 0 j e)) (fun e r => v18 (ix2 e r)) (fun r => v23 (ix2 0 r)) j = v31 (ix2 0 c) then (1 : EReal) else 0 := by
  unfold k0_pay3 binSum
  pointwise []
  exact bit_real _

theorem colsum_apply (a : FVec Ideal S1x128 .f32) (v16 : Vec Ideal S1x256x64 .f32) (v18 : Vec Ideal S64x128 .f32) (v23 v31 : Vec Ideal S1x128 .f32) (c : Fin 128) :
    k0_pay6 a v16 v18 v23 v31 (ix2 0 c) = a (ix2 0 c) + ∑ j : Fin 256, k0_pay3 v16 v18 v23 v31 (ix2 j c) := by
  unfold k0_pay6
  generalize k0_pay3 v16 v18 v23 v31 = Y
  pointwise []

theorem position_apply (i : grid0.Coords) (v4 : FVec Ideal S1x128 .f32) (v5 : Vec Ideal S128x128 .f32) (v16 : Vec Ideal S256x128 .f32)
    (v17 : Vec Ideal S256x256 .f32) (v20 : Vec Ideal S1x128 .f32) (j : Fin 256) :
    k0_pay7 i v4 v5 v16 v17 v20 (ix3 0 j 0)
      = Ideal.fptosi 32 ((∑ c : Fin 128, v16 (ix2 j c) * ((∑ k : Fin 256, v17 (ix2 j k) * v16 (ix2 k c)) + v20 (ix2 0 c)
          + ∑ d : Fin 128, v4 (ix2 0 d) * v5 (ix2 d c))) + k0_pay1 (F := Ideal) i) := by
  unfold k0_pay7
  generalize k0_pay1 (F := Ideal) i = Y
  pointwise []
  rfl

/-- How many of the first `m` positions have the key `c`. -/
def before (key : Fin 8192 → Fin 128) (m : Nat) (c : Fin 128) : Nat := (Finset.univ.filter fun s : Fin 8192 => s.val < m ∧ key s = c).card

/-- The one-hot entry of a position's key. -/
def hot (key : Fin 8192 → Fin 128) (s : Fin 8192) (c : Fin 128) : EReal := if c = key s then 1 else 0

theorem before_zero (key : Fin 8192 → Fin 128) (c : Fin 128) : before key 0 c = 0 := by simp [before]

/-- The positions of block `k` among those with a property. -/
theorem card_block (P : Fin 8192 → Prop) [DecidablePred P] (k : Nat) (hk : k < 32) :
    (Finset.univ.filter fun s : Fin 8192 => (256 * k ≤ s.val ∧ s.val < 256 * (k + 1)) ∧ P s).card
      = (Finset.univ.filter fun j : Fin 256 => P ⟨256 * k + j.val, by omega⟩).card := by
  symm
  refine Finset.card_bij (fun j _ => ⟨256 * k + j.val, by omega⟩) ?_ ?_ ?_
  · intro j hj
    simp only [Finset.mem_filter, Finset.mem_univ, true_and] at hj ⊢
    exact ⟨⟨by omega, by omega⟩, hj⟩
  · intro a _ b _ h
    have := congrArg Fin.val h
    simp only at this
    exact Fin.ext (by omega)
  · intro s hs
    simp only [Finset.mem_filter, Finset.mem_univ, true_and] at hs
    refine ⟨⟨s.val - 256 * k, by omega⟩, ?_, Fin.ext (by simp only; omega)⟩
    simp only [Finset.mem_filter, Finset.mem_univ, true_and]
    have : (⟨256 * k + (s.val - 256 * k), by omega⟩ : Fin 8192) = s := Fin.ext (by simp only; omega)
    rw [this]; exact hs.2

theorem before_succ (key : Fin 8192 → Fin 128) (k : Nat) (hk : k < 32) (c : Fin 128) :
    ((before key (256 * (k + 1)) c : ℕ) : EReal)
      = ((before key (256 * k) c : ℕ) : EReal) + ∑ j : Fin 256, hot key ⟨256 * k + j.val, by omega⟩ c := by
  have h1 : before key (256 * (k + 1)) c = before key (256 * k) c
      + (Finset.univ.filter fun j : Fin 256 => c = key ⟨256 * k + j.val, by omega⟩).card := by
    rw [← card_block (fun s => c = key s) k hk]
    unfold before
    rw [← Finset.card_union_of_disjoint]
    · refine congrArg Finset.card (Finset.ext fun s => ?_)
      simp only [Finset.mem_filter, Finset.mem_univ, true_and, Finset.mem_union]
      constructor
      · rintro ⟨h1, h2⟩
        by_cases h3 : s.val < 256 * k
        · exact .inl ⟨h3, h2⟩
        · exact .inr ⟨⟨by omega, h1⟩, h2.symm⟩
      · rintro (⟨h1, h2⟩ | ⟨⟨h1, h2⟩, h3⟩)
        · exact ⟨by omega, h2⟩
        · exact ⟨h2, h3.symm⟩
    · refine Finset.disjoint_left.2 fun s h1 h2 => ?_
      simp only [Finset.mem_filter, Finset.mem_univ, true_and] at h1 h2
      omega
  rw [h1, Nat.cast_add, Finset.natCast_card_filter]
  rfl

theorem natSum {ι : Type} (s : Finset ι) (f : ι → ℕ) : ∑ i ∈ s, ((f i : ℕ) : EReal) = ((∑ i ∈ s, f i : ℕ) : EReal) := by
  classical
  induction s using Finset.induction_on with
  | empty => simp
  | insert a s ha ih => rw [Finset.sum_insert ha, Finset.sum_insert ha, Nat.cast_add, ih]

/-- The rank of a position is what the tables of counts give. -/
theorem rank_sum (key : Fin 8192 → Fin 128) (k : Nat) (hk : k < 32) (j : Fin 256) :
    ((Sort.rankNat (fun s => (key s).val) ⟨256 * k + j.val, by omega⟩ : ℕ) : EReal)
      = ∑ c : Fin 128, hot key ⟨256 * k + j.val, by omega⟩ c
          * ((∑ j' : Fin 256, (if j'.val < j.val then (1 : EReal) else 0) * hot key ⟨256 * k + j'.val, by omega⟩ c)
            + ((before key (256 * k) c : ℕ) : EReal)
            + ∑ d : Fin 128, ((before key 8192 d : ℕ) : EReal) * (if d.val < c.val then (1 : EReal) else 0)) := by
  set s : Fin 8192 := ⟨256 * k + j.val, by omega⟩ with hs
  rw [Finset.sum_eq_single (key s) (fun c _ hc => by unfold hot; rw [if_neg hc, zero_mul])
    (fun h => absurd (Finset.mem_univ _) h)]
  unfold hot
  rw [if_pos rfl, one_mul]
  have hA : ∑ j' : Fin 256, (if j'.val < j.val then (1 : EReal) else 0) * (if key s = key ⟨256 * k + j'.val, by omega⟩ then (1 : EReal) else 0)
      = (((Finset.univ.filter fun j' : Fin 256 => j'.val < j.val ∧ key s = key ⟨256 * k + j'.val, by omega⟩).card : ℕ) : EReal) := by
    rw [Finset.natCast_card_filter]
    refine Finset.sum_congr rfl fun j' _ => ?_
    by_cases h1 : j'.val < j.val <;> by_cases h2 : key s = key ⟨256 * k + j'.val, by omega⟩ <;> simp [h1, h2]
  have hC : ∑ d : Fin 128, ((before key 8192 d : ℕ) : EReal) * (if d.val < (key s).val then (1 : EReal) else 0)
      = (((Finset.univ.filter fun a : Fin 8192 => (key a).val < (key s).val).card : ℕ) : EReal) := by
    have h1 : ∀ d : Fin 128, ((before key 8192 d : ℕ) : EReal) * (if d.val < (key s).val then (1 : EReal) else 0)
        = (((if d.val < (key s).val then before key 8192 d else 0) : ℕ) : EReal) := fun d => by
      by_cases h : d.val < (key s).val
      · rw [if_pos h, if_pos h, mul_one]
      · rw [if_neg h, if_neg h, mul_zero, Nat.cast_zero]
    rw [Finset.sum_congr rfl fun d _ => h1 d, natSum]
    refine congrArg (Nat.cast (R := EReal)) ?_
    rw [Finset.card_eq_sum_card_fiberwise (f := key) (t := Finset.univ) (fun _ _ => Finset.mem_coe.2 (Finset.mem_univ _))]
    refine Finset.sum_congr rfl fun d _ => ?_
    by_cases h : d.val < (key s).val
    · rw [if_pos h]
      unfold before
      refine congrArg Finset.card (Finset.ext fun a => ?_)
      simp only [Finset.mem_filter, Finset.mem_univ, true_and]
      constructor
      · rintro ⟨_, rfl⟩; exact ⟨h, rfl⟩
      · rintro ⟨_, rfl⟩; exact ⟨a.isLt, rfl⟩
    · rw [if_neg h]
      symm
      rw [Finset.card_eq_zero, Finset.filter_eq_empty_iff]
      intro a ha
      simp only [Finset.mem_filter, Finset.mem_univ, true_and] at ha
      rintro rfl
      exact h ha
  rw [hA, hC, ← Nat.cast_add, ← Nat.cast_add]
  refine congrArg (Nat.cast (R := EReal)) ?_
  have hB : (Finset.univ.filter fun j' : Fin 256 => j'.val < j.val ∧ key s = key ⟨256 * k + j'.val, by omega⟩).card
      = (Finset.univ.filter fun a : Fin 8192 => (256 * k ≤ a.val ∧ a.val < 256 * (k + 1)) ∧ (a.val < s.val ∧ key s = key a)).card := by
    rw [card_block (fun a => a.val < s.val ∧ key s = key a) k hk]
    refine congrArg Finset.card (Finset.ext fun j' => ?_)
    simp only [Finset.mem_filter, Finset.mem_univ, true_and, hs]
    constructor
    · rintro ⟨h1, h2⟩; exact ⟨by omega, h2⟩
    · rintro ⟨h1, h2⟩; exact ⟨by omega, h2⟩
  rw [hB]
  unfold before Sort.rankNat
  rw [← Finset.card_union_of_disjoint, ← Finset.card_union_of_disjoint]
  · refine congrArg Finset.card (Finset.ext fun a => ?_)
    simp only [Finset.mem_filter, Finset.mem_univ, true_and, Finset.mem_union, Sort.Before, Fin.lt_def]
    have e : ((key a).val = (key s).val) ↔ key a = key s := Fin.ext_iff.symm
    have e2 : (key s = key a) ↔ key a = key s := eq_comm
    rw [e, e2]
    have hsv : s.val = 256 * k + j.val := rfl
    constructor
    · rintro (h | ⟨h1, h2⟩)
      · exact .inr h
      · by_cases h3 : a.val < 256 * k
        · exact .inl (.inr ⟨h3, h1⟩)
        · exact .inl (.inl ⟨⟨by omega, by omega⟩, h2, h1⟩)
    · rintro ((⟨_, h2, h3⟩ | ⟨h1, h2⟩) | h)
      · exact .inr ⟨h3, h2⟩
      · exact .inr ⟨h2, by omega⟩
      · exact .inl h
  · refine Finset.disjoint_left.2 fun a h1 h2 => ?_
    simp only [Finset.mem_filter, Finset.mem_univ, true_and, Finset.mem_union] at h1 h2
    rcases h1 with ⟨_, _, h⟩ | ⟨_, h⟩ <;> rw [h] at h2 <;> exact lt_irrefl _ h2
  · refine Finset.disjoint_left.2 fun a h1 h2 => ?_
    simp only [Finset.mem_filter, Finset.mem_univ, true_and] at h1 h2
    omega

/-- A whole real number below 2³¹ converts to its word. -/
theorem fptosi_nat (n : Nat) (hn : n < 2 ^ 31) : Ideal.fptosi 32 ((n : ℕ) : EReal) = BitVec.ofNat 32 n := by
  rw [show ((n : ℕ) : EReal) = ((n : ℝ) : EReal) from rfl]
  unfold Ideal.fptosi
  rw [Ideal.toIntClamped_coe, if_pos (Nat.cast_nonneg n), Int.floor_natCast]
  rw [min_eq_right (by norm_num; try omega), max_eq_right (by norm_num; try omega)]
  exact BitVec.ofInt_natCast ..

/-- The base of a head's positions. -/
theorem base_apply (i : grid0.Coords) : k0_pay1 (F := Ideal) i = (((i 0).val * 8192 : ℕ) : EReal) := by
  unfold k0_pay1
  show (((Scalar.muli (BitVec.ofNat 32 (i 0).val) 8192#32).toInt : ℝ) : EReal) = _
  have h : (i 0).val < 32 := (i 0).isLt
  have : (Scalar.muli (BitVec.ofNat 32 (i 0).val) 8192#32) = BitVec.ofNat 32 ((i 0).val * 8192) := by
    show BitVec.ofNat 32 (i 0).val * 8192#32 = _
    rw [show (8192#32) = BitVec.ofNat 32 8192 from rfl, ← BitVec.ofNat_mul]
  rw [this, BitVec.toInt_eq_toNat_of_lt (by rw [BitVec.toNat_ofNat]; omega), BitVec.toNat_ofNat, Nat.mod_eq_of_lt (by omega)]
  norm_cast

end Cert.Proof.Count

end
-- ==== Proof.Pass.lean ====
/- What the counting pass and the position pass of the positions body store, trip by trip. -/
module

public import proofs.«01_k».proof.Proof.Count
public import Idealize.ShloMosaic.Lib.Pipeline.Value
public import Idealize.ShloMosaic.Lib.Pipeline.ValueKit.Tiles

@[expose] public section

noncomputable section

namespace Cert.Proof.Count

open Idealize.ShloMosaic Cert.KernelIdeal Cert.KernelIdeal.Gen

/-- Every store of a list writes the values of one function. -/
def Agree {S : Shape} {e : EltTy} (G : S.Idx → Elt Ideal e) (L : List (View.Piece (Elt Ideal) S e)) : Prop :=
  ∀ p ∈ L, ∀ x : p.1.shape.Idx, p.2 x = G (p.1.emb x)

theorem Agree.nil {S : Shape} {e : EltTy} (G : S.Idx → Elt Ideal e) : Agree G [] := fun p hp => absurd hp List.not_mem_nil

theorem Agree.cons {S : Shape} {e : EltTy} {G : S.Idx → Elt Ideal e} {p : View.Piece (Elt Ideal) S e} {L : List (View.Piece (Elt Ideal) S e)}
    (h : ∀ x : p.1.shape.Idx, p.2 x = G (p.1.emb x)) (hL : Agree G L) : Agree G (p :: L) := fun q hq => by
  rcases List.mem_cons.mp hq with rfl | hq
  · exact h
  · exact hL q hq

/-- The one-hot rows of all positions. -/
def hots (key : Fin 8192 → Fin 128) : S8192x128.Idx → Elt Ideal .f32 := fun y => hot key (y 0) (y 1)

/-- The counts before each block. -/
def counts (key : Fin 8192 → Fin 128) : S32x128.Idx → Elt Ideal .f32 := fun y => ((before key (256 * (y 0).val) (y 1) : ℕ) : EReal)

/-- The positions. -/
def spots (key : Fin 8192 → Fin 128) (base : Nat) : S1x8192x1.Idx → Elt Ideal .i32 :=
  fun y => BitVec.ofNat 32 (Sort.rankNat (fun s => (key s).val) (y 1) + base)

theorem pass (key : Fin 8192 → Fin 128)
    (ST : ℕ → FVec Ideal S1x128 .f32 × List (View.Piece (Elt Ideal) S8192x128 .f32) × List (View.Piece (Elt Ideal) S32x128 .f32))
    (h0 : ST 0 = (fun _ => (0 : EReal), [], []))
    (hs : ∀ k (hk : k < 32), ∃ (Y : FVec Ideal S256x128 .f32) (o3 : Fin 2 → Nat) (o2 : Fin 2 → Nat) (i3 : ∀ a, o3 a + S256x128.size a ≤ S8192x128.size a)
      (i2 : ∀ a, o2 a + S1x128.size a ≤ S32x128.size a), o3 = ![256 * k, 0] ∧ o2 = ![k, 0]
        ∧ (∀ (j : Fin 256) (c : Fin 128), Y (ix2 j c) = hot key ⟨256 * k + j.val, by omega⟩ c)
        ∧ ST (k + 1) = ((fun y => ((ST k).1 y + ∑ j : Fin 256, Y (ix2 j (y 1)) : EReal)),
            (⟨Rect.unit (s := S8192x128) o3 S256x128.size i3, Y⟩ : View.Piece (Elt Ideal) S8192x128 .f32) :: (ST k).2.1,
            (⟨Rect.unit (s := S32x128) o2 S1x128.size i2, (ST k).1⟩ : View.Piece (Elt Ideal) S32x128 .f32) :: (ST k).2.2)) :
    ∀ n, n ≤ 32 → (∀ y, (ST n).1 y = ((before key (256 * n) (y 1) : ℕ) : EReal)) ∧ Agree (hots key) (ST n).2.1 ∧ Agree (counts key) (ST n).2.2 := by
  intro n
  induction n with
  | zero =>
    intro _
    rw [h0]
    exact ⟨fun y => ((congrArg (Nat.cast (R := EReal)) (before_zero key (y 1))).trans Nat.cast_zero).symm, Agree.nil _, Agree.nil _⟩
  | succ k ih =>
    intro hn
    obtain ⟨ih1, ih2, ih3⟩ := ih (by omega)
    obtain ⟨Y, o3, o2, i3, i2, rfl, rfl, hY, hST⟩ := hs k (by omega)
    rw [hST]
    refine ⟨fun y => ?_, Agree.cons (fun x => ?_) ih2, Agree.cons (fun x => ?_) ih3⟩
    · show (ST k).1 y + ∑ j : Fin 256, Y (ix2 j (y 1)) = _
      refine Eq.trans ?_ (before_succ key k (by omega) (y 1)).symm
      exact congrArg₂ (fun a b : EReal => a + b) (ih1 y) (Finset.sum_congr rfl fun j _ => hY j (y 1))
    · obtain ⟨a, b, rfl⟩ : ∃ (a : Fin 256) (b : Fin 128), x = ix2 a b := ⟨x 0, x 1, ValueIdx.eq_ix2 x⟩
      refine (hY a b).trans ?_
      unfold hots
      congr 1
      · exact Fin.ext (by rw [Rect.emb_apply]; show 256 * k + a.val = 256 * k + 1 * a.val; omega)
      · exact Fin.ext (by rw [Rect.emb_apply]; show b.val = 0 + 1 * b.val; omega)
    · show (ST k).1 x = _
      rw [ih1]
      unfold counts
      have e0 : ((Rect.unit (s := S32x128) ![k, 0] S1x128.size i2).emb x 0).val = k := by
        rw [Rect.emb_apply]
        have : (x 0).val = 0 := by have := (x 0).isLt; change (x 0).val < 1 at this; omega
        show k + 1 * (x 0).val = k
        omega
      have e1 : (Rect.unit (s := S32x128) ![k, 0] S1x128.size i2).emb x 1 = x 1 :=
        Fin.ext (by rw [Rect.emb_apply]; show 0 + 1 * (x 1).val = (x 1).val; omega)
      show _ = ((before key (256 * ((Rect.unit (s := S32x128) ![k, 0] S1x128.size i2).emb x 0).val) ((Rect.unit (s := S32x128) ![k, 0] S1x128.size i2).emb x 1) : ℕ) : EReal)
      rw [e0, e1]

theorem posPass (key : Fin 8192 → Fin 128) (base : Nat) (L : ℕ → List (View.Piece (Elt Ideal) S1x8192x1 .i32)) (h0 : L 0 = [])
    (hs : ∀ k (hk : k < 32), ∃ (Y : IVec S1x256x1 32) (o : Fin 3 → Nat) (i : ∀ a, o a + S1x256x1.size a ≤ S1x8192x1.size a), o = ![0, 256 * k, 0]
        ∧ (∀ (j : Fin 256), Y (ix3 0 j 0) = BitVec.ofNat 32 (Sort.rankNat (fun s => (key s).val) ⟨256 * k + j.val, by omega⟩ + base))
        ∧ L (k + 1) = (⟨Rect.unit (s := S1x8192x1) o S1x256x1.size i, Y⟩ : View.Piece (Elt Ideal) S1x8192x1 .i32) :: L k) :
    ∀ n, n ≤ 32 → Agree (spots key base) (L n) := by
  intro n
  induction n with
  | zero => intro _; rw [h0]; exact Agree.nil _
  | succ k ih =>
    intro hn
    obtain ⟨Y, o, i, rfl, hY, hL⟩ := hs k (by omega)
    rw [hL]
    refine Agree.cons (fun x => ?_) (ih (by omega))
    obtain ⟨a, rfl⟩ : ∃ a : Fin 256, x = ix3 0 a 0 := ⟨x 1, (ValueIdx.eq_ix3 x).trans (by congr 1 <;> exact Subsingleton.elim (α := Fin 1) _ _)⟩
    refine (hY a).trans ?_
    unfold spots
    refine congrArg (fun q => BitVec.ofNat 32 (Sort.rankNat (fun s => (key s).val) q + base)) (Fin.ext ?_)
    rw [Rect.emb_apply]
    show 256 * k + a.val = 256 * k + 1 * a.val
    omega

theorem pay4_eq (a : FVec Ideal S1x128 .f32) : k0_pay4 a = a := by
  funext y
  obtain ⟨p, q, rfl⟩ : ∃ (p : Fin 1) (q : Fin 128), y = ix2 p q := ⟨y 0, y 1, ValueIdx.eq_ix2 y⟩
  unfold k0_pay4
  pointwise []

theorem pay5_eq (v16 : Vec Ideal S1x256x64 .f32) (v18 : Vec Ideal S64x128 .f32) (v23 v31 : Vec Ideal S1x128 .f32) :
    k0_pay5 v16 v18 v23 v31 = k0_pay3 v16 v18 v23 v31 := by
  funext y
  obtain ⟨p, q, rfl⟩ : ∃ (p : Fin 256) (q : Fin 128), y = ix2 p q := ⟨y 0, y 1, ValueIdx.eq_ix2 y⟩
  unfold k0_pay5
  generalize k0_pay3 v16 v18 v23 v31 = Y
  pointwise []

theorem pay6_eq (a : FVec Ideal S1x128 .f32) (v16 : Vec Ideal S1x256x64 .f32) (v18 : Vec Ideal S64x128 .f32) (v23 v31 : Vec Ideal S1x128 .f32) :
    k0_pay6 a v16 v18 v23 v31 = fun y => (a y + ∑ j : Fin 256, k0_pay3 v16 v18 v23 v31 (ix2 j (y 1)) : EReal) := by
  funext y
  obtain ⟨q, rfl⟩ : ∃ (q : Fin 128), y = ix2 0 q := ⟨y 1, (ValueIdx.eq_ix2 y).trans (by congr 1; exact Subsingleton.elim (α := Fin 1) _ _)⟩
  exact colsum_apply a v16 v18 v23 v31 q

theorem pay2_eq : k0_pay2 (F := Ideal) = fun _ => (0 : EReal) := by
  funext y
  unfold k0_pay2
  pointwise []

/-- The position payload from the two scratch buffers' contents. -/
theorem spot_eq (key : Fin 8192 → Fin 128) (i : grid0.Coords) (v4 : FVec Ideal S1x128 .f32) (v5 : Vec Ideal S128x128 .f32) (v16 : Vec Ideal S256x128 .f32)
    (v17 : Vec Ideal S256x256 .f32) (v20 : Vec Ideal S1x128 .f32) (k : Nat) (hk : k < 32)
    (h4 : ∀ d : Fin 128, v4 (ix2 0 d) = ((before key 8192 d : ℕ) : EReal))
    (h5 : ∀ d c : Fin 128, v5 (ix2 d c) = if d.val < c.val then (1 : EReal) else 0)
    (h16 : ∀ (j : Fin 256) (c : Fin 128), v16 (ix2 j c) = hot key ⟨256 * k + j.val, by omega⟩ c)
    (h17 : ∀ j j' : Fin 256, v17 (ix2 j j') = if j'.val < j.val then (1 : EReal) else 0)
    (h20 : ∀ c : Fin 128, v20 (ix2 0 c) = ((before key (256 * k) c : ℕ) : EReal)) (j : Fin 256) :
    k0_pay7 i v4 v5 v16 v17 v20 (ix3 0 j 0)
      = BitVec.ofNat 32 (Sort.rankNat (fun s => (key s).val) ⟨256 * k + j.val, by omega⟩ + (i 0).val * 8192) := by
  rw [position_apply, base_apply]
  simp only [h4, h5, h16, h17, h20]
  rw [← rank_sum key k hk j, ← Nat.cast_add, fptosi_nat]
  have := Sort.rankNat_lt (fun s => (key s).val) ⟨256 * k + j.val, by omega⟩
  have h : (i 0).val < 32 := (i 0).isLt
  omega

end Cert.Proof.Count

end
-- ==== Proof.Positions.lean ====
/- The positions body's two outputs: every store of the two position passes writes the positions of its rows. -/
module

public import proofs.«01_k».proof.Proof.IdealRun
public import proofs.«01_k».proof.Proof.Pass

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI Idealize.SL.Sem
open Cert.Proof.Count

variable (c : Dev nD) (i : grid0.Coords) (arg1 : Memref sig .tc .vmem S1x8192x64 .f32) (harg1 : arg1.IsWhole) (arg2 : Memref sig .tc .vmem S1x8192x64 .f32) (harg2 : arg2.IsWhole) (arg3 : Memref sig .tc .vmem S64x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S256x256 .f32) (harg7 : arg7.IsWhole) (arg8 : Memref sig .tc .vmem S1x8192x1 .i32) (harg8 : arg8.IsWhole) (arg9 : Memref sig .tc .vmem S1x8192x1 .i32) (harg9 : arg9.IsWhole) (arg10 : Memref sig .tc .vmem S8192x128 .f32) (harg10 : arg10.IsWhole) (arg11 : Memref sig .tc .vmem S32x128 .f32) (harg11 : arg11.IsWhole)
    (x0 : Vec Ideal S1x8192x64 .f32) (x1 : Vec Ideal S1x8192x64 .f32) (x2 : Vec Ideal S64x128 .f32) (x3 : Vec Ideal S1x128 .f32) (x4 : Vec Ideal S1x128 .f32)
    (x5 : Vec Ideal S128x128 .f32) (x6 : Vec Ideal S256x256 .f32)

/-- The columns of the one-hot rows name the keys. -/
def Names (key : Fin 8192 → Fin 128) (x : Vec Ideal S1x8192x64 .f32) (x2 : Vec Ideal S64x128 .f32) (x3 x4 : Vec Ideal S1x128 .f32) : Prop :=
  ∀ (s : Fin 8192) (c : Fin 128), binSum (fun s e => x (ix3 0 s e)) (fun e r => x2 (ix2 e r)) (fun r => x3 (ix2 0 r)) s = x4 (ix2 0 c) ↔ c = key s

theorem read_whole {S : Shape} {e : EltTy} (M : Memref sig .tc .vmem S e) (hM : M.IsWhole) (x : S.Idx → Elt Ideal e) (off : Fin S.rank → Nat) (h : off = fun _ => 0) (inb) :
    View.readAt (Elt Ideal) M.view (Rect.unit off S.size inb).toLoadRect (hM.unread x) = x := by
  rw [View.readAt_eq_ld, hM.read_unread, View.ld_unit_zero h]

theorem block_hot (key : Fin 8192 → Fin 128) (x : Vec Ideal S1x8192x64 .f32) (hN : Names key x x2 x3 x4) (M : Memref sig .tc .vmem S1x8192x64 .f32) (hM : M.IsWhole)
    (off : Fin 3 → Nat) (k : Nat) (hk : k < 32) (ho : off = ![0, 256 * k, 0]) (inb) (j : Fin 256) (d : Fin 128) :
    k0_pay3 (View.readAt (Elt Ideal) M.view (Rect.unit (s := S1x8192x64) off S1x256x64.size inb).toLoadRect (hM.unread x)) x2 x3 x4 (ix2 j d)
      = hot key ⟨256 * k + j.val, by omega⟩ d := by
  have hx : ∀ e : Fin 64, View.readAt (Elt Ideal) M.view (Rect.unit (s := S1x8192x64) off S1x256x64.size inb).toLoadRect (hM.unread x) (ix3 0 j e)
      = x (ix3 0 ⟨256 * k + j.val, by omega⟩ e) := fun e => by
    subst ho
    rw [View.readAt_eq_ld, hM.read_unread]
    refine View.ld_unit_apply_of x _ _ inb _ _ fun a => ?_
    match a with
    | ⟨0, _⟩ => rfl
    | ⟨1, _⟩ => rfl
    | ⟨2, _⟩ => exact (Nat.zero_add _).symm
  rw [onehot_apply]
  unfold hot
  refine if_congr (Iff.trans ?_ (hN ⟨256 * k + j.val, by omega⟩ d)) rfl rfl
  have : binSum (fun (j : Fin 256) e => View.readAt (Elt Ideal) M.view (Rect.unit (s := S1x8192x64) off S1x256x64.size inb).toLoadRect (hM.unread x) (ix3 0 j e)) (fun e r => x2 (ix2 e r)) (fun r => x3 (ix2 0 r)) j
      = binSum (fun s e => x (ix3 0 s e)) (fun e r => x2 (ix2 e r)) (fun r => x3 (ix2 0 r)) (⟨256 * k + j.val, by omega⟩ : Fin 8192) := by
    unfold binSum
    refine Finset.sum_congr rfl fun r _ => ?_
    have := Finset.sum_congr (rfl : (Finset.univ : Finset (Fin 64)) = Finset.univ) fun e _ => congrArg (fun z : EReal => z * x2 (ix2 e r)) (hx e)
    exact if_congr (iff_of_eq (congrArg (fun z : EReal => 0 < z) this)) rfl rfl
  rw [this]

theorem zero2 : (![0, 0] : Fin 2 → Nat) = fun _ => 0 := by funext a; match a with | ⟨0, _⟩ => rfl | ⟨1, _⟩ => rfl

theorem endQ_facts (key : Fin 8192 → Fin 128) (hN : Names key x0 x2 x3 x4) :
    (∀ y, (endQ (F := Ideal) c i arg1 harg1 arg2 harg2 arg3 harg3 arg4 harg4 arg5 harg5 arg6 harg6 arg7 harg7 arg8 harg8 arg9 harg9 arg10 harg10 arg11 harg11 x0 x1 x2 x3 x4 x5 x6).1 y = ((before key 8192 (y 1) : ℕ) : EReal)) ∧ Agree (hots key) (endQ (F := Ideal) c i arg1 harg1 arg2 harg2 arg3 harg3 arg4 harg4 arg5 harg5 arg6 harg6 arg7 harg7 arg8 harg8 arg9 harg9 arg10 harg10 arg11 harg11 x0 x1 x2 x3 x4 x5 x6).2.1
      ∧ Agree (counts key) (endQ (F := Ideal) c i arg1 harg1 arg2 harg2 arg3 harg3 arg4 harg4 arg5 harg5 arg6 harg6 arg7 harg7 arg8 harg8 arg9 harg9 arg10 harg10 arg11 harg11 x0 x1 x2 x3 x4 x5 x6).2.2 := by
  refine pass key (st_k0_t1 (F := Ideal) Variants.none c none i arg1 harg1 arg2 harg2 arg3 harg3 arg4 harg4 arg5 harg5 arg6 harg6 arg7 harg7 arg8 harg8 arg9 harg9 arg10 harg10 arg11 harg11 (harg1.unread x0) (harg3.unread x2) (harg4.unread x3) (harg5.unread x4) k0_pay2) ?_ (fun k hk => ?_) 32 le_rfl
  · exact congrArg (fun q => (q, [], [])) pay2_eq
  · refine ⟨_, _, _, k0_off3_inb ⟨k, hk⟩, k0_off2_inb ⟨k, hk⟩, k0_off3_eq ⟨k, hk⟩, k0_off2_eq ⟨k, hk⟩,
      block_hot x2 x3 x4 key x0 hN arg1 harg1 _ k hk (k0_off1_eq ⟨k, hk⟩) (k0_off1_inb ⟨k, hk⟩), ?_⟩
    refine (st_k0_t1_succ (F := Ideal) Variants.none c none i arg1 harg1 arg2 harg2 arg3 harg3 arg4 harg4 arg5 harg5 arg6 harg6 arg7 harg7 arg8 harg8 arg9 harg9 arg10 harg10 arg11 harg11 _ _ _ _ _ ⟨k, hk⟩).trans ?_
    generalize st_k0_t1 (F := Ideal) Variants.none c none i arg1 harg1 arg2 harg2 arg3 harg3 arg4 harg4 arg5 harg5 arg6 harg6 arg7 harg7 arg8 harg8 arg9 harg9 arg10 harg10 arg11 harg11 _ _ _ _ _ (Fin.val ⟨k, hk⟩) = P
    unfold tripR_k0_t1 tripL_k0_t1 trip_k0_t1
    dsimp only
    rw [read_whole arg3 harg3 x2 _ zero2, read_whole arg4 harg4 x3 _ zero2, read_whole arg5 harg5 x4 _ zero2]
    refine congrArg₂ Prod.mk (pay6_eq ..) (congrArg₂ Prod.mk ?_ ?_)
    · rw [show k0_pay5 _ x2 x3 x4 = _ from pay5_eq ..]; rfl
    · rw [show k0_pay4 P.1 = P.1 from pay4_eq ..]; rfl

theorem posQ_agree (key : Fin 8192 → Fin 128) (hN : Names key x0 x2 x3 x4)
    (h5 : ∀ d e : Fin 128, x5 (ix2 d e) = if d.val < e.val then (1 : EReal) else 0)
    (h6 : ∀ j j' : Fin 256, x6 (ix2 j j') = if j'.val < j.val then (1 : EReal) else 0) :
    Agree (spots key ((i 0).val * 8192)) (posQ (F := Ideal) c i arg1 harg1 arg2 harg2 arg3 harg3 arg4 harg4 arg5 harg5 arg6 harg6 arg7 harg7 arg8 harg8 arg9 harg9 arg10 harg10 arg11 harg11 x0 x1 x2 x3 x4 x5 x6) := by
  obtain ⟨hT, hA, hB⟩ := endQ_facts c i arg1 harg1 arg2 harg2 arg3 harg3 arg4 harg4 arg5 harg5 arg6 harg6 arg7 harg7 arg8 harg8 arg9 harg9 arg10 harg10 arg11 harg11 x0 x1 x2 x3 x4 x5 x6 key hN
  have cA := endQ_covers_a (F := Ideal) c i arg1 harg1 arg2 harg2 arg3 harg3 arg4 harg4 arg5 harg5 arg6 harg6 arg7 harg7 arg8 harg8 arg9 harg9 arg10 harg10 arg11 harg11 x0 x1 x2 x3 x4 x5 x6
  have cB := endQ_covers_b (F := Ideal) c i arg1 harg1 arg2 harg2 arg3 harg3 arg4 harg4 arg5 harg5 arg6 harg6 arg7 harg7 arg8 harg8 arg9 harg9 arg10 harg10 arg11 harg11 x0 x1 x2 x3 x4 x5 x6
  unfold posQ
  generalize endQ (F := Ideal) c i arg1 harg1 arg2 harg2 arg3 harg3 arg4 harg4 arg5 harg5 arg6 harg6 arg7 harg7 arg8 harg8 arg9 harg9 arg10 harg10 arg11 harg11 x0 x1 x2 x3 x4 x5 x6 = Z at hT hA hB cA cB ⊢
  have eA : View.canon Z.2.1 = hots key := funext fun y => View.canon_apply_of_pieces _ _ hA y (cA y)
  have eB : View.canon Z.2.2 = counts key := funext fun y => View.canon_apply_of_pieces _ _ hB y (cB y)
  rw [eA, eB, read_whole arg6 harg6 x5 _ zero2]
  refine posPass key ((i 0).val * 8192) (pb_k0_t2 (F := Ideal) Variants.none c none i arg1 harg1 arg2 harg2 arg3 harg3 arg4 harg4 arg5 harg5 arg6 harg6 arg7 harg7 arg8 harg8 arg9 harg9 arg10 harg10 arg11 harg11 Z.1 x5 (harg7.unread x6) (harg10.unread (hots key)) (harg11.unread (counts key))) rfl (fun k hk => ?_) 32 le_rfl
  refine ⟨k0_pay7 i Z.1 x5 (View.readAt (Elt Ideal) arg10.view (Rect.unit (s := S8192x128) (k0_off4 ⟨k, hk⟩) S256x128.size (k0_off4_inb ⟨k, hk⟩)).toLoadRect (harg10.unread (hots key)))
      (View.readAt (Elt Ideal) arg7.view (Rect.unit (s := S256x256) ![0, 0] S256x256.size inb_S256x256_S256x256_0_0).toLoadRect (harg7.unread x6))
      (View.readAt (Elt Ideal) arg11.view (Rect.unit (s := S32x128) (k0_off5 ⟨k, hk⟩) S1x128.size (k0_off5_inb ⟨k, hk⟩)).toLoadRect (harg11.unread (counts key))), _, k0_off6_inb ⟨k, hk⟩, k0_off6_eq ⟨k, hk⟩, ?_, ?_⟩
  rotate_left
  · refine (pb_k0_t2_succ (F := Ideal) Variants.none c none i arg1 harg1 arg2 harg2 arg3 harg3 arg4 harg4 arg5 harg5 arg6 harg6 arg7 harg7 arg8 harg8 arg9 harg9 arg10 harg10 arg11 harg11 _ _ _ _ _ ⟨k, hk⟩).trans ?_
    generalize pb_k0_t2 (F := Ideal) Variants.none c none i arg1 harg1 arg2 harg2 arg3 harg3 arg4 harg4 arg5 harg5 arg6 harg6 arg7 harg7 arg8 harg8 arg9 harg9 arg10 harg10 arg11 harg11 _ _ _ _ _ (Fin.val ⟨k, hk⟩) = P
    unfold tripL_k0_t2 trip_k0_t2
    exact rfl
  · intro j
    refine spot_eq key i _ _ _ _ _ k hk (fun d => hT (ix2 0 d)) h5 (fun j d => ?_) ?_ (fun d => ?_) j
    · rw [View.readAt_eq_ld, harg10.read_unread]
      refine (View.ld_unit_apply_of (hots key) _ _ _ _ (ix2 ⟨256 * k + j.val, by omega⟩ d) fun a => ?_)
      refine Eq.trans ?_ (congrArg (· + _) (congrFun (k0_off4_eq ⟨k, hk⟩) a).symm)
      match a with
      | ⟨0, _⟩ => rfl
      | ⟨1, _⟩ => exact (Nat.zero_add _).symm
    · rw [read_whole arg7 harg7 x6 _ zero2]; exact h6
    · rw [View.readAt_eq_ld, harg11.read_unread]
      refine (View.ld_unit_apply_of (counts key) _ _ _ _ (ix2 ⟨k, hk⟩ d) fun a => ?_)
      refine Eq.trans ?_ (congrArg (· + _) (congrFun (k0_off5_eq ⟨k, hk⟩) a).symm)
      match a with
      | ⟨0, _⟩ => rfl
      | ⟨1, _⟩ => exact (Nat.zero_add _).symm

theorem endK_facts (key : Fin 8192 → Fin 128) (hN : Names key x1 x2 x3 x4) :
    (∀ y, (endK (F := Ideal) c i arg1 harg1 arg2 harg2 arg3 harg3 arg4 harg4 arg5 harg5 arg6 harg6 arg7 harg7 arg8 harg8 arg9 harg9 arg10 harg10 arg11 harg11 x0 x1 x2 x3 x4 x5 x6).1 y = ((before key 8192 (y 1) : ℕ) : EReal)) ∧ Agree (hots key) (endK (F := Ideal) c i arg1 harg1 arg2 harg2 arg3 harg3 arg4 harg4 arg5 harg5 arg6 harg6 arg7 harg7 arg8 harg8 arg9 harg9 arg10 harg10 arg11 harg11 x0 x1 x2 x3 x4 x5 x6).2.1
      ∧ Agree (counts key) (endK (F := Ideal) c i arg1 harg1 arg2 harg2 arg3 harg3 arg4 harg4 arg5 harg5 arg6 harg6 arg7 harg7 arg8 harg8 arg9 harg9 arg10 harg10 arg11 harg11 x0 x1 x2 x3 x4 x5 x6).2.2 := by
  refine pass key (st_k0_t3 (F := Ideal) Variants.none c none i arg1 harg1 arg2 harg2 arg3 harg3 arg4 harg4 arg5 harg5 arg6 harg6 arg7 harg7 arg8 harg8 arg9 harg9 arg10 harg10 arg11 harg11 (harg2.unread x1) (harg3.unread x2) (harg4.unread x3) (harg5.unread x4) k0_pay8) ?_ (fun k hk => ?_) 32 le_rfl
  · exact congrArg (fun q => (q, [], [])) pay2_eq
  · refine ⟨_, _, _, k0_off9_inb ⟨k, hk⟩, k0_off8_inb ⟨k, hk⟩, k0_off9_eq ⟨k, hk⟩, k0_off8_eq ⟨k, hk⟩,
      block_hot x2 x3 x4 key x1 hN arg2 harg2 _ k hk (k0_off7_eq ⟨k, hk⟩) (k0_off7_inb ⟨k, hk⟩), ?_⟩
    refine (st_k0_t3_succ (F := Ideal) Variants.none c none i arg1 harg1 arg2 harg2 arg3 harg3 arg4 harg4 arg5 harg5 arg6 harg6 arg7 harg7 arg8 harg8 arg9 harg9 arg10 harg10 arg11 harg11 _ _ _ _ _ ⟨k, hk⟩).trans ?_
    generalize st_k0_t3 (F := Ideal) Variants.none c none i arg1 harg1 arg2 harg2 arg3 harg3 arg4 harg4 arg5 harg5 arg6 harg6 arg7 harg7 arg8 harg8 arg9 harg9 arg10 harg10 arg11 harg11 _ _ _ _ _ (Fin.val ⟨k, hk⟩) = P
    unfold tripR_k0_t3 tripL_k0_t3 trip_k0_t3
    dsimp only
    rw [read_whole arg3 harg3 x2 _ zero2, read_whole arg4 harg4 x3 _ zero2, read_whole arg5 harg5 x4 _ zero2]
    refine congrArg₂ Prod.mk (pay6_eq ..) (congrArg₂ Prod.mk ?_ ?_)
    · rw [show k0_pay11 _ x2 x3 x4 = _ from pay5_eq ..]; rfl
    · rw [show k0_pay10 P.1 = P.1 from pay4_eq ..]; rfl

theorem posK_agree (key : Fin 8192 → Fin 128) (hN : Names key x1 x2 x3 x4)
    (h5 : ∀ d e : Fin 128, x5 (ix2 d e) = if d.val < e.val then (1 : EReal) else 0)
    (h6 : ∀ j j' : Fin 256, x6 (ix2 j j') = if j'.val < j.val then (1 : EReal) else 0) :
    Agree (spots key ((i 0).val * 8192)) (posK (F := Ideal) c i arg1 harg1 arg2 harg2 arg3 harg3 arg4 harg4 arg5 harg5 arg6 harg6 arg7 harg7 arg8 harg8 arg9 harg9 arg10 harg10 arg11 harg11 x0 x1 x2 x3 x4 x5 x6) := by
  obtain ⟨hT, hA, hB⟩ := endK_facts c i arg1 harg1 arg2 harg2 arg3 harg3 arg4 harg4 arg5 harg5 arg6 harg6 arg7 harg7 arg8 harg8 arg9 harg9 arg10 harg10 arg11 harg11 x0 x1 x2 x3 x4 x5 x6 key hN
  have cA := endK_covers_a (F := Ideal) c i arg1 harg1 arg2 harg2 arg3 harg3 arg4 harg4 arg5 harg5 arg6 harg6 arg7 harg7 arg8 harg8 arg9 harg9 arg10 harg10 arg11 harg11 x0 x1 x2 x3 x4 x5 x6
  have cB := endK_covers_b (F := Ideal) c i arg1 harg1 arg2 harg2 arg3 harg3 arg4 harg4 arg5 harg5 arg6 harg6 arg7 harg7 arg8 harg8 arg9 harg9 arg10 harg10 arg11 harg11 x0 x1 x2 x3 x4 x5 x6
  unfold posK
  generalize endK (F := Ideal) c i arg1 harg1 arg2 harg2 arg3 harg3 arg4 harg4 arg5 harg5 arg6 harg6 arg7 harg7 arg8 harg8 arg9 harg9 arg10 harg10 arg11 harg11 x0 x1 x2 x3 x4 x5 x6 = Z at hT hA hB cA cB ⊢
  have eA : View.canon Z.2.1 = hots key := funext fun y => View.canon_apply_of_pieces _ _ hA y (cA y)
  have eB : View.canon Z.2.2 = counts key := funext fun y => View.canon_apply_of_pieces _ _ hB y (cB y)
  rw [eA, eB, read_whole arg6 harg6 x5 _ zero2]
  refine posPass key ((i 0).val * 8192) (pb_k0_t4 (F := Ideal) Variants.none c none i arg1 harg1 arg2 harg2 arg3 harg3 arg4 harg4 arg5 harg5 arg6 harg6 arg7 harg7 arg8 harg8 arg9 harg9 arg10 harg10 arg11 harg11 Z.1 x5 (harg7.unread x6) (harg10.unread (hots key)) (harg11.unread (counts key))) rfl (fun k hk => ?_) 32 le_rfl
  refine ⟨k0_pay13 i Z.1 x5 (View.readAt (Elt Ideal) arg10.view (Rect.unit (s := S8192x128) (k0_off10 ⟨k, hk⟩) S256x128.size (k0_off10_inb ⟨k, hk⟩)).toLoadRect (harg10.unread (hots key)))
      (View.readAt (Elt Ideal) arg7.view (Rect.unit (s := S256x256) ![0, 0] S256x256.size inb_S256x256_S256x256_0_0).toLoadRect (harg7.unread x6))
      (View.readAt (Elt Ideal) arg11.view (Rect.unit (s := S32x128) (k0_off11 ⟨k, hk⟩) S1x128.size (k0_off11_inb ⟨k, hk⟩)).toLoadRect (harg11.unread (counts key))), _, k0_off12_inb ⟨k, hk⟩, k0_off12_eq ⟨k, hk⟩, ?_, ?_⟩
  rotate_left
  · refine (pb_k0_t4_succ (F := Ideal) Variants.none c none i arg1 harg1 arg2 harg2 arg3 harg3 arg4 harg4 arg5 harg5 arg6 harg6 arg7 harg7 arg8 harg8 arg9 harg9 arg10 harg10 arg11 harg11 _ _ _ _ _ ⟨k, hk⟩).trans ?_
    generalize pb_k0_t4 (F := Ideal) Variants.none c none i arg1 harg1 arg2 harg2 arg3 harg3 arg4 harg4 arg5 harg5 arg6 harg6 arg7 harg7 arg8 harg8 arg9 harg9 arg10 harg10 arg11 harg11 _ _ _ _ _ (Fin.val ⟨k, hk⟩) = P
    unfold tripL_k0_t4 trip_k0_t4
    exact rfl
  · intro j
    refine spot_eq key i _ _ _ _ _ k hk (fun d => hT (ix2 0 d)) h5 (fun j d => ?_) ?_ (fun d => ?_) j
    · rw [View.readAt_eq_ld, harg10.read_unread]
      refine (View.ld_unit_apply_of (hots key) _ _ _ _ (ix2 ⟨256 * k + j.val, by omega⟩ d) fun a => ?_)
      refine Eq.trans ?_ (congrArg (· + _) (congrFun (k0_off10_eq ⟨k, hk⟩) a).symm)
      match a with
      | ⟨0, _⟩ => rfl
      | ⟨1, _⟩ => exact (Nat.zero_add _).symm
    · rw [read_whole arg7 harg7 x6 _ zero2]; exact h6
    · rw [View.readAt_eq_ld, harg11.read_unread]
      refine (View.ld_unit_apply_of (counts key) _ _ _ _ (ix2 ⟨k, hk⟩ d) fun a => ?_)
      refine Eq.trans ?_ (congrArg (· + _) (congrFun (k0_off11_eq ⟨k, hk⟩) a).symm)
      match a with
      | ⟨0, _⟩ => rfl
      | ⟨1, _⟩ => exact (Nat.zero_add _).symm

end Cert.KernelIdeal.Gen

end
-- ==== Proof.Row.lean ====
/- The attention body's payloads at an index: one row's joint softmax over its block and the sampled columns. -/
module

public import proofs.«01_k».proof.Proof.Gen.KernelIdeal.Skeleton
public import proofs.«01_k».proof.Proof.Attn
public import Idealize.ShloMosaic.Lib.Pointwise

@[expose] public section

noncomputable section

namespace Cert.Proof.Row

open Idealize.ShloMosaic Cert.KernelIdeal Cert.KernelIdeal.Gen

/-- The weighted mean of a row, from its shifted logits. -/
theorem mean_apply (v5 v9 : FVec Ideal S256x64 .f32) (v29 : FVec Ideal S256x512 .f32) (r : Fin 256) (d : Fin 64) :
    k1_pay1 v5 v9 v29 (ix4 0 0 r d)
      = Ideal.div ((∑ j : Fin 256, Ideal.exp (v29 (ix2 r ⟨j.val, by omega⟩)) * v5 (ix2 j d)) + ∑ j : Fin 256, Ideal.exp (v29 (ix2 r ⟨256 + j.val, by omega⟩)) * v9 (ix2 j d))
          ((∑ j : Fin 256, Ideal.exp (v29 (ix2 r ⟨j.val, by omega⟩))) + ∑ j : Fin 256, Ideal.exp (v29 (ix2 r ⟨256 + j.val, by omega⟩))) := by
  unfold k1_pay1
  pointwise []
  exact congrArg (Ideal.div _) (Fin.sum_univ_two_halves 256 256 rfl fun x => Ideal.exp (v29 (ix2 r x)))

/-- The joined logits of the rows. -/
def logits (i : grid1.Coords) (v0 v2 : Vec Ideal S1x1x256x64 .f32) (v6 : Vec Ideal S1x256x64 .f32) (v10 : Vec Ideal S1x1x256 .i32) (r : Fin 256) (j : Fin 512) : EReal :=
  if h : j.val < 256 then (∑ e : Fin 64, v0 (ix4 0 0 r e) * v2 (ix4 0 0 ⟨j.val, h⟩ e)) * Ideal.ofBits .f32 0x3E000000#32
  else (∑ e : Fin 64, v0 (ix4 0 0 r e) * v6 (ix3 0 ⟨j.val - 256, by omega⟩ e)) * Ideal.ofBits .f32 0x3E000000#32
    - (if v10 (ix3 0 0 ⟨j.val - 256, by omega⟩) = BitVec.ofNat 32 (i 1).val then ⊤ else Ideal.ofBits .f32 0xC05DCE9E#32)

theorem select_mask (a b : BitVec 32) (x : EReal) :
    (Scalar.select (IntOp.cmpi .eq a b) (Named.named κ "mask" 0x7F7FFFFF#32 : Ideal .f32) (x : Ideal .f32) : Ideal .f32) = if a = b then (⊤ : EReal) else x := by
  unfold Scalar.select IntOp.cmpi
  by_cases h : a = b
  · simp [h]; rfl
  · have hb : (a == b) = false := by simpa using h
    simp [h, hb]

theorem shifted_apply (i : grid1.Coords) (v0 v2 : Vec Ideal S1x1x256x64 .f32) (v6 : Vec Ideal S1x256x64 .f32) (v10 : Vec Ideal S1x1x256 .i32) (r : Fin 256) (j : Fin 512) :
    k1_pay4 i v0 v2 v6 v10 (ix2 r j) = logits i v0 v2 v6 v10 r j - Finset.fold max ⊥ (fun j => logits i v0 v2 v6 v10 r j) Finset.univ := by
  unfold k1_pay4
  pointwise []
  simp only [select_mask, Attn.ofBits_bot]
  rfl

/-- One row of the attention body, over real queries and keys. -/
theorem row_mix (i : grid1.Coords) (v0 v2 v4 : Vec Ideal S1x1x256x64 .f32) (v6 v8 : Vec Ideal S1x256x64 .f32) (v10 : Vec Ideal S1x1x256 .i32) (r : Fin 256) (d : Fin 64)
    (q : Fin 64 → ℝ) (kb ks : Fin 256 → Fin 64 → ℝ) (msk : Fin 256 → Bool)
    (hq : ∀ e, v0 (ix4 0 0 r e) = (q e : EReal)) (hb : ∀ j e, v2 (ix4 0 0 j e) = (kb j e : EReal)) (hs : ∀ j e, v6 (ix3 0 j e) = (ks j e : EReal))
    (hm : ∀ j, v10 (ix3 0 0 j) = BitVec.ofNat 32 (i 1).val ↔ msk j = true) :
    k1_pay1 (k1_pay2 v4) (k1_pay3 v8) (k1_pay4 i v0 v2 v6 v10) (ix4 0 0 r d)
      = Attn.mix (fun j => (∑ e, q e * kb j e) * (1 / 8)) (fun j => (∑ e, q e * ks j e) * (1 / 8)) msk Attn.shift (fun j => v4 (ix4 0 0 j d)) (fun j => v8 (ix3 0 j d)) := by
  have hlo : ∀ j : Fin 256, logits i v0 v2 v6 v10 r ⟨j.val, by omega⟩ = (((∑ e, q e * kb j e) * (1 / 8) : ℝ) : EReal) := fun j => by
    unfold logits
    rw [dif_pos j.isLt, Attn.ofBits_eighth]
    exact Attn.dot_real _ _ _ _ hq (hb j)
  have hhi : ∀ j : Fin 256, logits i v0 v2 v6 v10 r ⟨256 + j.val, by omega⟩
      = (((∑ e, q e * ks j e) * (1 / 8) : ℝ) : EReal) - (if msk j = true then ⊤ else ((-Attn.shift : ℝ) : EReal)) := fun j => by
    unfold logits
    rw [dif_neg (by simp), Attn.ofBits_eighth, Attn.ofBits_neg_shift]
    have e : (⟨256 + j.val - 256, by omega⟩ : Fin 256) = j := Fin.ext (by simp)
    simp only [e]
    rw [Attn.dot_real _ _ _ _ hq (hs j)]
    exact congrArg _ (if_congr (hm j) rfl rfl)
  have hM : ∃ M : ℝ, Finset.fold max ⊥ (fun j => logits i v0 v2 v6 v10 r j) Finset.univ = (M : EReal) := by
    refine Attn.max_real _ (fun j => ?_) ⟨0, by omega⟩ ?_
    · by_cases h : j.val < 256
      · have := hlo ⟨j.val, h⟩
        exact this ▸ EReal.coe_ne_top _
      · have := hhi ⟨j.val - 256, by omega⟩
        have e : (⟨256 + (j.val - 256), by omega⟩ : Fin 512) = j := Fin.ext (by show 256 + (j.val - 256) = j.val; omega)
        simp only [e] at this
        rw [this]
        split
        · rw [EReal.sub_top]; exact bot_ne_top
        · rw [← EReal.coe_sub]; exact EReal.coe_ne_top _
    · exact (hlo ⟨0, by omega⟩) ▸ EReal.coe_ne_bot _
  obtain ⟨M, hM⟩ := hM
  rw [mean_apply]
  simp only [shifted_apply, hM, hlo, hhi]
  have e2 : ∀ j, k1_pay2 v4 (ix2 j d) = v4 (ix4 0 0 j d) := fun j => by unfold k1_pay2; pointwise []
  have e3 : ∀ j, k1_pay3 v8 (ix2 j d) = v8 (ix3 0 j d) := fun j => by unfold k1_pay3; pointwise []
  simp only [e2, e3]
  exact Attn.kernel_row _ _ _ _ _ _ _

end Cert.Proof.Row

end
-- ==== Proof.Regions.lean ====
/- What the two regions leave in their arrays: the stable ranks of the keys per head, and the attention of every row. -/
module

public import proofs.«01_k».proof.Proof.IdealFrame
public import proofs.«01_k».proof.Proof.Positions
public import proofs.«01_k».proof.Proof.Row
public import Idealize.ShloMosaic.Lib.Pipeline.ValueKit.Geometry

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI Idealize.SL.Sem
open Idealize.ShloMosaic.Pipeline
open Cert.Proof.Count

variable (V : (c : Dev nD) → (b : Ref sig .tc) → Buf (Elt Ideal) ((c : Thread nD τ).loc b))

theorem at0_0 : ∀ t : Fin cfg0.N, win0_0.index t = ![(grid0.coords t 0).val, 0, 0] := by decide +kernel
theorem at0_1 : ∀ t : Fin cfg0.N, win0_1.index t = ![(grid0.coords t 0).val, 0, 0] := by decide +kernel
theorem at0_2 : ∀ t : Fin cfg0.N, win0_2.index t = ![0, 0] := by decide +kernel
theorem at0_3 : ∀ t : Fin cfg0.N, win0_3.index t = ![0, 0] := by decide +kernel
theorem at0_4 : ∀ t : Fin cfg0.N, win0_4.index t = ![0, 0] := by decide +kernel
theorem at0_5 : ∀ t : Fin cfg0.N, win0_5.index t = ![0, 0] := by decide +kernel
theorem at0_6 : ∀ t : Fin cfg0.N, win0_6.index t = ![0, 0] := by decide +kernel
theorem at0_7 : ∀ t : Fin cfg0.N, win0_7.index t = ![(grid0.coords t 0).val, 0, 0] := by decide +kernel
theorem at0_8 : ∀ t : Fin cfg0.N, win0_8.index t = ![(grid0.coords t 0).val, 0, 0] := by decide +kernel

/-- Head `h`'s rows as one block. -/
def headRows (A : S32x8192x64.Idx → EReal) (h : Fin 32) : Vec Ideal S1x8192x64 .f32 := fun y => A (ix3 h (y 1) (y 2))

/-- The slot of every row: its stable rank by key inside its head, plus the head's offset. -/
def slots (key : Fin 32 → Fin 8192 → Fin 128) : S32x8192x1.Idx → BitVec 32 := fun y =>
  BitVec.ofNat 32 (Cert.Proof.Sort.rankNat (fun s => (key (y 0) s).val) (y 1) + (y 0).val * 8192)

theorem block0_0 (c : Dev nD) (t : Fin cfg0.N) : iblk0 V c 0 t = headRows (V c main_v0) (grid0.coords t 0) := by
  funext x
  blk_simp [iblk0]
  refine congrArg (V c main_v0) ?_
  blk_ext [at0_0]
theorem block0_1 (c : Dev nD) (t : Fin cfg0.N) : iblk0 V c 1 t = headRows (V c main_v1) (grid0.coords t 0) := by
  funext x
  blk_simp [iblk0]
  refine congrArg (V c main_v1) ?_
  blk_ext [at0_1]
theorem block0_2 (c : Dev nD) (t : Fin cfg0.N) : iblk0 V c 2 t = V c main_v3 := by
  funext x
  blk_simp [iblk0]
  refine congrArg (V c main_v3) ?_
  blk_ext [at0_2]
theorem block0_3 (c : Dev nD) (t : Fin cfg0.N) : iblk0 V c 3 t = V c main_v4 := by
  funext x
  blk_simp [iblk0]
  refine congrArg (V c main_v4) ?_
  blk_ext [at0_3]
theorem block0_4 (c : Dev nD) (t : Fin cfg0.N) : iblk0 V c 4 t = V c main_v5 := by
  funext x
  blk_simp [iblk0]
  refine congrArg (V c main_v5) ?_
  blk_ext [at0_4]
theorem block0_5 (c : Dev nD) (t : Fin cfg0.N) : iblk0 V c 5 t = V c main_cst_1 := by
  funext x
  blk_simp [iblk0]
  refine congrArg (V c main_cst_1) ?_
  blk_ext [at0_5]
theorem block0_6 (c : Dev nD) (t : Fin cfg0.N) : iblk0 V c 6 t = V c main_cst_2 := by
  funext x
  blk_simp [iblk0]
  refine congrArg (V c main_cst_2) ?_
  blk_ext [at0_6]

section
variable (h5 : ∀ c, ∀ d e : Fin 128, (V c main_cst_1 : S128x128.Idx → EReal) (ix2 d e) = if d.val < e.val then (1 : EReal) else 0)
  (h6 : ∀ c, ∀ j j' : Fin 256, (V c main_cst_2 : S256x256.Idx → EReal) (ix2 j j') = if j'.val < j.val then (1 : EReal) else 0)
include h5 h6

theorem region0_q (c : Dev nD) (key : Fin 32 → Fin 8192 → Fin 128)
    (hN : ∀ h, Names (key h) (headRows (V c main_v0) h) (V c main_v3) (V c main_v4) (V c main_v5)) :
    (dat0 V c).arrAt 7 cfg0.N = slots key := by
  refine (dat0 V c).arrAt_eq_of_covers 7 _ (by decide +kernel) fun t hf y => ?_
  blk_simp
  rw [after0_7]
  unfold outsAt0 out0_A_7
  dsimp only
  rw [View.read_writes_eq_canon _ _ _ (cover0_A_7 c _ _ _ _ _ _ _ _ _ _ _ _ _ _ _ _ _ _ _ _ _ _ _ _ _ _ _ _ _ _)]
  refine (View.canon_apply_of_pieces (spots (key (grid0.coords t 0)) ((grid0.coords t 0).val * 8192)) _ ?_ y (cover0_A_7 c _ _ _ _ _ _ _ _ _ _ _ _ _ _ _ _ _ _ _ _ _ _ _ _ _ _ _ _ _ _ y)).trans ?_
  · refine posQ_agree c (grid0.coords t) _ _ _ _ _ _ _ _ _ _ _ _ _ _ _ _ _ _ _ _ _ _ _ _ _ _ _ _ _ (key (grid0.coords t 0)) ?_ ?_ ?_
    · rw [block0_0, block0_2, block0_3, block0_4]; exact hN _
    · rw [block0_5]; exact h5 c
    · rw [block0_6]; exact h6 c
  · have e : ((win0_7.blk t).view.emb y : S32x8192x1.Idx) = ix3 (grid0.coords t 0) (y 1) (y 2) := by
      blk_ext [at0_7]
    rw [e]
    rfl

theorem region0_k (c : Dev nD) (key : Fin 32 → Fin 8192 → Fin 128)
    (hN : ∀ h, Names (key h) (headRows (V c main_v1) h) (V c main_v3) (V c main_v4) (V c main_v5)) :
    (dat0 V c).arrAt 8 cfg0.N = slots key := by
  refine (dat0 V c).arrAt_eq_of_covers 8 _ (by decide +kernel) fun t hf y => ?_
  blk_simp
  rw [after0_8]
  unfold outsAt0 out0_A_8
  dsimp only
  rw [View.read_writes_eq_canon _ _ _ (cover0_A_8 c _ _ _ _ _ _ _ _ _ _ _ _ _ _ _ _ _ _ _ _ _ _ _ _ _ _ _ _ _ _)]
  refine (View.canon_apply_of_pieces (spots (key (grid0.coords t 0)) ((grid0.coords t 0).val * 8192)) _ ?_ y (cover0_A_8 c _ _ _ _ _ _ _ _ _ _ _ _ _ _ _ _ _ _ _ _ _ _ _ _ _ _ _ _ _ _ y)).trans ?_
  · refine posK_agree c (grid0.coords t) _ _ _ _ _ _ _ _ _ _ _ _ _ _ _ _ _ _ _ _ _ _ _ _ _ _ _ _ _ (key (grid0.coords t 0)) ?_ ?_ ?_
    · rw [block0_1, block0_2, block0_3, block0_4]; exact hN _
    · rw [block0_5]; exact h5 c
    · rw [block0_6]; exact h6 c
  · have e : ((win0_8.blk t).view.emb y : S32x8192x1.Idx) = ix3 (grid0.coords t 0) (y 1) (y 2) := by
      blk_ext [at0_8]
    rw [e]
    rfl
end

theorem at1_0 : ∀ t : Fin cfg1.N, win1_0.index t = ![(grid1.coords t 0).val, (grid1.coords t 1).val, 0, 0] := by decide +kernel
theorem at1_1 : ∀ t : Fin cfg1.N, win1_1.index t = ![(grid1.coords t 0).val, (grid1.coords t 1).val, 0, 0] := by decide +kernel
theorem at1_2 : ∀ t : Fin cfg1.N, win1_2.index t = ![(grid1.coords t 0).val, (grid1.coords t 1).val, 0, 0] := by decide +kernel
theorem at1_3 : ∀ t : Fin cfg1.N, win1_3.index t = ![(grid1.coords t 0).val, 0, 0] := by decide +kernel
theorem at1_4 : ∀ t : Fin cfg1.N, win1_4.index t = ![(grid1.coords t 0).val, 0, 0] := by decide +kernel
theorem at1_5 : ∀ t : Fin cfg1.N, win1_5.index t = ![(grid1.coords t 0).val, 0, 0] := by decide +kernel
theorem at1_6 : ∀ t : Fin cfg1.N, win1_6.index t = ![(grid1.coords t 0).val, (grid1.coords t 1).val, 0, 0] := by decide +kernel

theorem block1_0 (c : Dev nD) (t : Fin cfg1.N) (r : Fin 256) (e : Fin 64) : (iblk1 V c 0 t : Vec Ideal S1x1x256x64 .f32) (ix4 0 0 r e) = (V c main_v70 : S32x32x256x64.Idx → EReal) (ix4 (grid1.coords t 0) (grid1.coords t 1) r e) := by
  blk_simp [iblk1]
  refine congrArg (V c main_v70) ?_
  blk_ext [at1_0]
theorem block1_1 (c : Dev nD) (t : Fin cfg1.N) (r : Fin 256) (e : Fin 64) : (iblk1 V c 1 t : Vec Ideal S1x1x256x64 .f32) (ix4 0 0 r e) = (V c main_v71 : S32x32x256x64.Idx → EReal) (ix4 (grid1.coords t 0) (grid1.coords t 1) r e) := by
  blk_simp [iblk1]
  refine congrArg (V c main_v71) ?_
  blk_ext [at1_1]
theorem block1_2 (c : Dev nD) (t : Fin cfg1.N) (r : Fin 256) (e : Fin 64) : (iblk1 V c 2 t : Vec Ideal S1x1x256x64 .f32) (ix4 0 0 r e) = (V c main_v72 : S32x32x256x64.Idx → EReal) (ix4 (grid1.coords t 0) (grid1.coords t 1) r e) := by
  blk_simp [iblk1]
  refine congrArg (V c main_v72) ?_
  blk_ext [at1_2]
theorem block1_3 (c : Dev nD) (t : Fin cfg1.N) (r : Fin 256) (e : Fin 64) : (iblk1 V c 3 t : Vec Ideal S1x256x64 .f32) (ix3 0 r e) = (V c main_v61 : S32x256x64.Idx → EReal) (ix3 (grid1.coords t 0) r e) := by
  blk_simp [iblk1]
  refine congrArg (V c main_v61) ?_
  blk_ext [at1_3]
theorem block1_4 (c : Dev nD) (t : Fin cfg1.N) (r : Fin 256) (e : Fin 64) : (iblk1 V c 4 t : Vec Ideal S1x256x64 .f32) (ix3 0 r e) = (V c main_v69 : S32x256x64.Idx → EReal) (ix3 (grid1.coords t 0) r e) := by
  blk_simp [iblk1]
  refine congrArg (V c main_v69) ?_
  blk_ext [at1_4]
theorem block1_5 (c : Dev nD) (t : Fin cfg1.N) (j : Fin 256) : (iblk1 V c 5 t : Vec Ideal S1x1x256 .i32) (ix3 0 0 j) = (V c main_v18 : S32x1x256.Idx → BitVec 32) (ix3 (grid1.coords t 0) 0 j) := by
  blk_simp [iblk1]
  refine congrArg (V c main_v18) ?_
  blk_ext [at1_5]

/-- The attention of every row of every block, over real queries and keys. -/
def attended (q k : Fin 32 → Fin 32 → Fin 256 → Fin 64 → ℝ) (ks : Fin 32 → Fin 256 → Fin 64 → ℝ) (msk : Fin 32 → Fin 32 → Fin 256 → Bool)
    (v : S32x32x256x64.Idx → EReal) (vs : S32x256x64.Idx → EReal) : S32x32x256x64.Idx → EReal := fun y =>
  Cert.Proof.Attn.mix (fun j => (∑ e, q (y 0) (y 1) (y 2) e * k (y 0) (y 1) j e) * (1 / 8)) (fun j => (∑ e, q (y 0) (y 1) (y 2) e * ks (y 0) j e) * (1 / 8))
    (msk (y 0) (y 1)) Cert.Proof.Attn.shift (fun j => v (ix4 (y 0) (y 1) j (y 3))) (fun j => vs (ix3 (y 0) j (y 3)))

theorem zero4 : (![0, 0, 0, 0] : Fin 4 → Nat) = fun _ => 0 := by funext a; match a with | ⟨0, _⟩ => rfl | ⟨1, _⟩ => rfl | ⟨2, _⟩ => rfl | ⟨3, _⟩ => rfl
theorem zero3 : (![0, 0, 0] : Fin 3 → Nat) = fun _ => 0 := by funext a; match a with | ⟨0, _⟩ => rfl | ⟨1, _⟩ => rfl | ⟨2, _⟩ => rfl

theorem region1 (c : Dev nD) (q k : Fin 32 → Fin 32 → Fin 256 → Fin 64 → ℝ) (ks : Fin 32 → Fin 256 → Fin 64 → ℝ) (msk : Fin 32 → Fin 32 → Fin 256 → Bool)
    (hq : ∀ h n r e, (V c main_v70 : S32x32x256x64.Idx → EReal) (ix4 h n r e) = (q h n r e : EReal))
    (hk : ∀ h n r e, (V c main_v71 : S32x32x256x64.Idx → EReal) (ix4 h n r e) = (k h n r e : EReal))
    (hs : ∀ h j e, (V c main_v61 : S32x256x64.Idx → EReal) (ix3 h j e) = (ks h j e : EReal))
    (hm : ∀ (h n : Fin 32) j, (V c main_v18 : S32x1x256.Idx → BitVec 32) (ix3 h 0 j) = BitVec.ofNat 32 n.val ↔ msk h n j = true) :
    (dat1 V c).arrAt 6 cfg1.N = attended q k ks msk (V c main_v72) (V c main_v69) := by
  refine (dat1 V c).arrAt_eq_of_covers 6 _ (by decide +kernel) fun t hf y => ?_
  blk_simp
  rw [after1_6]
  unfold out1_6
  rw [View.canon_unit_zero zero4, View.ld_unit_zero (S := S1x1x256x64) zero4, View.ld_unit_zero (S := S1x1x256x64) zero4, View.ld_unit_zero (S := S1x1x256x64) zero4, View.ld_unit_zero (S := S1x256x64) zero3, View.ld_unit_zero (S := S1x256x64) zero3, View.ld_unit_zero (S := S1x1x256) zero3]
  have e : ((win1_6.blk t).view.emb y : S32x32x256x64.Idx) = ix4 (grid1.coords t 0) (grid1.coords t 1) (y 2) (y 3) := by
    blk_ext [at1_6]
  rw [e]
  have ey : (y : S1x1x256x64.Idx) = ix4 0 0 (y 2) (y 3) := by
    blk_ext []
  refine Eq.trans (congrArg _ ey) ?_
  refine (Cert.Proof.Row.row_mix (grid1.coords t) _ _ _ _ _ _ (y 2) (y 3) (q (grid1.coords t 0) (grid1.coords t 1) (y 2)) (k (grid1.coords t 0) (grid1.coords t 1)) (ks (grid1.coords t 0))
    (msk (grid1.coords t 0) (grid1.coords t 1)) (fun e => ?_) (fun j e => ?_) (fun j e => ?_) fun j => ?_).trans ?_
  · exact (block1_0 V c t (y 2) e).trans (hq ..)
  · exact (block1_1 V c t j e).trans (hk ..)
  · exact (block1_3 V c t j e).trans (hs ..)
  · exact (iff_of_eq (congrArg (· = _) (block1_5 V c t j))).trans (hm ..)
  · unfold attended
    refine congrArg₂ (Cert.Proof.Attn.mix _ _ _ _) (funext fun j => ?_) (funext fun j => ?_)
    · exact block1_2 V c t j (y 3)
    · exact block1_4 V c t j (y 3)

end Cert.KernelIdeal.Gen

end
-- ==== Proof.HostIn.lean ====
/- The operands of the position kernel: the projections, the padded planes and the two tables, and the hash key a row's bin names. -/
module

public import proofs.«01_k».proof.Proof.RefSort
public import proofs.«01_k».proof.Proof.Count
public import proofs.«01_k».proof.Proof.Regions
public import proofs.«01_k».proof.Proof.IdealFrame

@[expose] public section

set_option maxRecDepth 16384

noncomputable section

namespace Cert.KernelIdeal.Gen

open Idealize.ShloMosaic Idealize.ShloMosaic.TcCoe Idealize.SL.Sem Cert.KernelIdeal Cert.KernelIdeal.Facts₀

variable (U : Valuation τ sig (Elt Ideal))

/-- The projection planes padded by zeros to the table's width. -/
def padded (P : FVec Ideal S64x7 .f32) : FVec Ideal S64x128 .f32 :=
  pad S64x128 ![0, 0] ![0, 121] ![0, 0] P (sitofp .f32 (constantI S_ 32 0#32)) pads_S64x7_S64x128_000_01210 h_S_

theorem in_v0 : StableHlo.after hostOps0_2 (StableHlo.after hostOps0_1 (StableHlo.after hostOps0 U)) (Proc.devRef .tc main_v0)
    = shapeCast S32x8192x64 (U (Proc.devRef .tc main_arg0)) shapeCasts_S2x16x8192x64_S32x8192x64 := by
  after_results_simp
  rfl

theorem in_v1 : StableHlo.after hostOps0_2 (StableHlo.after hostOps0_1 (StableHlo.after hostOps0 U)) (Proc.devRef .tc main_v1)
    = shapeCast S32x8192x64 (U (Proc.devRef .tc main_arg1)) shapeCasts_S2x16x8192x64_S32x8192x64 := by
  after_results_simp
  rfl

theorem in_v2 : StableHlo.after hostOps0_2 (StableHlo.after hostOps0_1 (StableHlo.after hostOps0 U)) (Proc.devRef .tc main_v2)
    = shapeCast S32x8192x64 (U (Proc.devRef .tc main_arg2)) shapeCasts_S2x16x8192x64_S32x8192x64 := by
  after_results_simp
  rfl

theorem in_v3 : StableHlo.after hostOps0_2 (StableHlo.after hostOps0_1 (StableHlo.after hostOps0 U)) (Proc.devRef .tc main_v3)
    = padded (U (Proc.devRef .tc main_arg3)) := by
  after_results_simp
  rfl

/-- A table of words read as numbers, as a row. -/
def tableRow (T : Fin 128 → BitVec 32) : FVec Ideal S1x128 .f32 :=
  shapeCast S1x128 (fun i : S128.Idx => (FloatOps.ofBits .f32 (T (S128.rowMajor i)) : Ideal .f32)) shapeCasts_S128_S1x128

theorem in_v4 : StableHlo.after hostOps0_2 (StableHlo.after hostOps0_1 (StableHlo.after hostOps0 U)) (Proc.devRef .tc main_v4) = tableRow lit0 := by
  after_results_simp
  rfl

theorem in_v5 : StableHlo.after hostOps0_2 (StableHlo.after hostOps0_1 (StableHlo.after hostOps0 U)) (Proc.devRef .tc main_v5) = tableRow lit1 := by
  after_results_simp
  rfl

theorem in_cst_1 : StableHlo.after hostOps0_2 (StableHlo.after hostOps0_1 (StableHlo.after hostOps0 U)) (Proc.devRef .tc main_cst_1)
    = fun i => FloatOps.ofBits (F := Ideal) .f32 (lit2 (S128x128.rowMajor i)) := by
  after_results_simp
  rfl

theorem in_cst_2 : StableHlo.after hostOps0_2 (StableHlo.after hostOps0_1 (StableHlo.after hostOps0 U)) (Proc.devRef .tc main_cst_2)
    = fun i => FloatOps.ofBits (F := Ideal) .f32 (lit3 (S256x256.rowMajor i)) := by
  after_results_simp
  rfl

end Cert.KernelIdeal.Gen

namespace Cert.Proof.HostIn

open Idealize.ShloMosaic Cert.KernelIdeal Cert.KernelIdeal.Gen Cert.KernelIdeal.Facts₀ Cert.Proof.Ref

theorem padded_in (P : FVec Ideal S64x7 .f32) (e : Fin 64) (r : Fin 7) : padded P (ix2 e (Fin.castAdd 121 r : Fin 128)) = P (ix2 e r) := by
  have e1 : ∀ c : Fin 128, (hc : c.val < 7) → padded P (ix2 e c) = P (ix2 e ⟨c.val, hc⟩) := fun c hc => by
    unfold padded
    pointwise []
    exact dif_pos hc
  exact e1 _ r.isLt

theorem padded_out (P : FVec Ideal S64x7 .f32) (e : Fin 64) (r : Fin 121) : padded P (ix2 e (Fin.natAdd 7 r : Fin 128)) = 0 := by
  have e1 : ∀ c : Fin 128, (hc : 7 ≤ c.val) → padded P (ix2 e c) = 0 := fun c hc => by
    unfold padded
    pointwise []
    refine (dif_neg (by omega)).trans ?_
    show ((((0#32 : BitVec 32).toInt : ℝ)) : EReal) = 0
    simp
  exact e1 _ (Nat.le_add_right 7 r.val)

theorem tableRow_apply (T : Fin 128 → BitVec 32) (c : Fin 128) : tableRow T (ix2 0 c) = Ideal.ofBits .f32 (T c) := by
  unfold tableRow
  pointwise []
  exact congrArg (fun i => Ideal.ofBits .f32 (T i)) (Fin.ext (place1 c))

/-- The word of a natural number as a float: no sign, and its significand times its power of two the number. -/
def IsNat (w : BitVec 32) (n : Nat) : Prop :=
  w.extractLsb' 31 1 ≠ 1#1 ∧ (w.extractLsb' 23 8).toNat ≠ 255 ∧
    (((w.extractLsb' 23 8).toNat = 0 ∧ (w.extractLsb' 0 23).toNat = 0 ∧ n = 0)
      ∨ ((w.extractLsb' 23 8).toNat ≠ 0 ∧ (2 ^ 23 + (w.extractLsb' 0 23).toNat) * 2 ^ (w.extractLsb' 23 8).toNat = n * 2 ^ 150))

instance (w : BitVec 32) (n : Nat) : Decidable (IsNat w n) := by unfold IsNat; infer_instance

theorem ofBits_nat {w : BitVec 32} {n : Nat} (h : IsNat w n) : Ideal.ofBits .f32 w = ((n : ℝ) : EReal) := by
  obtain ⟨hs, hi, h⟩ := h
  show Ideal.ieee 8 23 w = _
  unfold Ideal.ieee
  have hs' : (w.extractLsb' (8 + 23) 1 == 1#1) = false := by simpa using hs
  simp only [hs']
  rw [if_neg (show ¬(w.extractLsb' 23 8).toNat = 2 ^ 8 - 1 from hi)]
  rcases h with ⟨h0, h1, rfl⟩ | ⟨h0, h1⟩
  · rw [if_pos h0, h1]; simp
  · rw [if_neg h0]
    refine congrArg (fun r : ℝ => (r : EReal)) ?_
    have h2 : ((2 ^ 23 + (w.extractLsb' 0 23).toNat : Nat) : ℝ) * 2 ^ (w.extractLsb' 23 8).toNat = n * 2 ^ 150 := by exact_mod_cast h1
    have h3 : (2 : ℝ) ^ (((w.extractLsb' 23 8).toNat : Int) - (2 ^ (8 - 1) - 1) - (23 : Nat)) = 2 ^ (w.extractLsb' 23 8).toNat / 2 ^ 150 := by
      rw [show (((w.extractLsb' 23 8).toNat : Int) - (2 ^ (8 - 1) - 1) - (23 : Nat)) = ((w.extractLsb' 23 8).toNat : Int) - (150 : Nat) by norm_num; ring,
        zpow_sub₀ (by norm_num), zpow_natCast, zpow_natCast]
    rw [h3, if_neg (by decide), one_mul, ← mul_div_assoc, h2]
    field_simp

/-- The position of a code word. -/
def ungray (c : Fin 128) : Nat := c.val ^^^ (c.val / 2) ^^^ (c.val / 4) ^^^ (c.val / 8) ^^^ (c.val / 16) ^^^ (c.val / 32) ^^^ (c.val / 64)

theorem plane_table : ∀ r : Fin 7, IsNat (lit0 (Fin.castAdd 121 r)) (2 ^ r.val) := by decide +kernel

theorem code_table : ∀ c : Fin 128, IsNat (lit1 c) (ungray c) := by decide +kernel

theorem gray_iff : ∀ n c : Fin 128, n.val = ungray c ↔ c = gray n := by decide +kernel

theorem binSum_bin {n : Nat} (x : Fin n → Fin 64 → EReal) (P : FVec Ideal S64x7 .f32) (s : Fin n) :
    Count.binSum x (fun e r => padded P (ix2 e r)) (fun r => tableRow lit0 (ix2 0 r)) s = ((bin (x s) (fun e r => P (ix2 e r)) : ℝ) : EReal) := by
  unfold Count.binSum bin
  refine (Fin.sum_univ_add (a := 7) (b := 121) _).trans ?_
  rw [Finset.sum_eq_zero (s := (Finset.univ : Finset (Fin 121))) (fun r _ => by
    rw [if_neg]
    rw [Finset.sum_eq_zero fun e _ => (congrArg (x s e * ·) (padded_out P e r)).trans (mul_zero _)]
    exact lt_irrefl _), add_zero]
  push_cast
  rw [← Attn.coe_sum]
  refine Finset.sum_congr rfl fun r _ => ?_
  simp only [padded_in, tableRow_apply]
  rw [ofBits_nat (plane_table r)]
  split <;> simp

theorem names (A : FVec Ideal S32x8192x64 .f32) (P : FVec Ideal S64x7 .f32) (g : Fin 32) :
    Names (fun s => hashKey (fun e => A (ix3 g s e)) fun e r => P (ix2 e r)) (headRows A g) (padded P) (tableRow lit0) (tableRow lit1) := by
  intro s c
  have e := binSum_bin (fun s e => headRows A g (ix3 0 s e)) P s
  rw [e, tableRow_apply, ofBits_nat (code_table c)]
  have hb := bin_lt (fun e => A (ix3 g s e)) fun e r => P (ix2 e r)
  refine Iff.trans ?_ (gray_iff ⟨_, hb⟩ c)
  rw [EReal.coe_eq_coe_iff, Nat.cast_inj]
  exact Iff.rfl

end Cert.Proof.HostIn

end
-- ==== Proof.Moves.lean ====
/- The kernel's host moves at an index: rows scattered to their slots, rows fetched from them, and the reshapes between. -/
module

public import proofs.«01_k».proof.Proof.Gen.KernelIdeal.Skeleton
public import Idealize.ShloMosaic.Lib.Pointwise
public import Idealize.ShloMosaic.Lib.StableHlo.Predicate
public import Idealize.ShloMosaic.Lib.Routing.OpsPair
public import Idealize.ShloMosaic.Lib.Routing.OpsSet

@[expose] public section

set_option maxRecDepth 16384

noncomputable section

namespace Cert.Proof.Moves

open Idealize.ShloMosaic Idealize.ShloMosaic.Routing Cert.KernelIdeal Cert.KernelIdeal.Facts₀

variable [Facts]
variable {α : Type}

/-- Head `(b, h)` among the 32, and its row `s` among all rows. -/
def head (b : Fin 2) (h : Fin 16) : Fin 32 := ⟨b.val * 16 + h.val, by omega⟩
def row (b : Fin 2) (h : Fin 16) (s : Fin 8192) : Fin 262144 := ⟨(b.val * 16 + h.val) * 8192 + s.val, by omega⟩
/-- Block `n`'s row `r` of a head. -/
def inRow (n : Fin 32) (r : Fin 256) : Fin 8192 := ⟨n.val * 256 + r.val, by omega⟩

theorem row_inj {b b' : Fin 2} {h h' : Fin 16} {s s' : Fin 8192} (e : row b h s = row b' h' s') : b = b' ∧ h = h' ∧ s = s' := by
  have e' : (b.val * 16 + h.val) * 8192 + s.val = (b'.val * 16 + h'.val) * 8192 + s'.val := congrArg Fin.val e
  refine ⟨Fin.ext ?_, Fin.ext ?_, Fin.ext ?_⟩ <;> omega

theorem row_surj (i : Fin 262144) : ∃ b h s, i = row b h s :=
  ⟨⟨i.val / 131072, by omega⟩, ⟨i.val / 8192 % 16, by omega⟩, ⟨i.val % 8192, by omega⟩, Fin.ext (by show i.val = (i.val / 131072 * 16 + i.val / 8192 % 16) * 8192 + i.val % 8192; omega)⟩

/-! ## The reshapes -/

theorem cast_a (x : S2x16x8192x64.Idx → α) (g : Fin 32) (s : Fin 8192) (e : Fin 64) :
    shapeCast S32x8192x64 x shapeCasts_S2x16x8192x64_S32x8192x64 (ix3 g s e) = x (ix4 ⟨g.val / 16, by omega⟩ ⟨g.val % 16, by omega⟩ s e) := by
  pointwise []

theorem cast_heads (x : S2x16x8192x64.Idx → α) (b : Fin 2) (h : Fin 16) (s : Fin 8192) (e : Fin 64) :
    shapeCast S32x8192x64 x shapeCasts_S2x16x8192x64_S32x8192x64 (ix3 (head b h) s e) = x (ix4 b h s e) := by
  refine (cast_a x (head b h) s e).trans ?_
  have hb : (⟨(head b h).val / 16, by have := (head b h).isLt; omega⟩ : Fin 2) = b := Fin.ext (by show (b.val * 16 + h.val) / 16 = b.val; omega)
  have hh : (⟨(head b h).val % 16, by omega⟩ : Fin 16) = h := Fin.ext (by show (b.val * 16 + h.val) % 16 = h.val; omega)
  rw [hb, hh]

theorem cast_b (x : S32x8192x64.Idx → α) (i : Fin 262144) (e : Fin 64) :
    shapeCast S262144x64 x shapeCasts_S32x8192x64_S262144x64 (ix2 i e) = x (ix3 ⟨i.val / 8192, by omega⟩ ⟨i.val % 8192, by omega⟩ e) := by
  pointwise []

theorem cast_rows (x : S32x8192x64.Idx → α) (b : Fin 2) (h : Fin 16) (s : Fin 8192) (e : Fin 64) :
    shapeCast S262144x64 x shapeCasts_S32x8192x64_S262144x64 (ix2 (row b h s) e) = x (ix3 (head b h) s e) := by
  refine (cast_b x (row b h s) e).trans ?_
  have h1 : (⟨(row b h s).val / 8192, by have := (row b h s).isLt; omega⟩ : Fin 32) = head b h := Fin.ext (by show ((b.val * 16 + h.val) * 8192 + s.val) / 8192 = b.val * 16 + h.val; omega)
  have h2 : (⟨(row b h s).val % 8192, by omega⟩ : Fin 8192) = s := Fin.ext (by show ((b.val * 16 + h.val) * 8192 + s.val) % 8192 = s.val; omega)
  rw [h1, h2]

theorem cast_c (x : S32x8192x1.Idx → α) (i : Fin 262144) :
    shapeCast S262144 x shapeCasts_S32x8192x1_S262144 (ix1 i) = x (ix3 ⟨i.val / 8192, by omega⟩ ⟨i.val % 8192, by omega⟩ 0) := by
  pointwise []

theorem cast_slots (x : S32x8192x1.Idx → α) (b : Fin 2) (h : Fin 16) (s : Fin 8192) :
    shapeCast S262144 x shapeCasts_S32x8192x1_S262144 (ix1 (row b h s)) = x (ix3 (head b h) s 0) := by
  refine (cast_c x (row b h s)).trans ?_
  have h1 : (⟨(row b h s).val / 8192, by have := (row b h s).isLt; omega⟩ : Fin 32) = head b h := Fin.ext (by show ((b.val * 16 + h.val) * 8192 + s.val) / 8192 = b.val * 16 + h.val; omega)
  have h2 : (⟨(row b h s).val % 8192, by omega⟩ : Fin 8192) = s := Fin.ext (by show ((b.val * 16 + h.val) * 8192 + s.val) % 8192 = s.val; omega)
  rw [h1, h2]

theorem cast_d (x : S262144x64.Idx → α) (g n : Fin 32) (r : Fin 256) (d : Fin 64) :
    shapeCast S32x32x256x64 x shapeCasts_S262144x64_S32x32x256x64 (ix4 g n r d) = x (ix2 ⟨g.val * 8192 + (n.val * 256 + r.val), by omega⟩ d) := by
  pointwise []
  exact congrArg (fun i => x (ix2 i d)) (Fin.ext (Nat.add_assoc _ _ _))

theorem cast_blocks (x : S262144x64.Idx → α) (b : Fin 2) (h : Fin 16) (n : Fin 32) (r : Fin 256) (d : Fin 64) :
    shapeCast S32x32x256x64 x shapeCasts_S262144x64_S32x32x256x64 (ix4 (head b h) n r d) = x (ix2 (row b h (inRow n r)) d) :=
  cast_d x (head b h) n r d

theorem cast_e (x : S32x32x256x64.Idx → α) (i : Fin 262144) (d : Fin 64) :
    shapeCast S262144x64 x shapeCasts_S32x32x256x64_S262144x64 (ix2 i d) = x (ix4 ⟨i.val / 8192, by omega⟩ ⟨i.val % 8192 / 256, by omega⟩ ⟨i.val % 256, by omega⟩ d) := by
  pointwise []
  exact congrArg (fun n => x (ix4 ⟨i.val / 8192, by omega⟩ n ⟨i.val % 256, by omega⟩ d)) (Fin.ext (by show i.val / 256 % 32 = i.val % 8192 / 256; omega))

theorem cast_unblock (x : S32x32x256x64.Idx → α) (b : Fin 2) (h : Fin 16) (s : Fin 8192) (d : Fin 64) :
    shapeCast S262144x64 x shapeCasts_S32x32x256x64_S262144x64 (ix2 (row b h s) d)
      = x (ix4 (head b h) ⟨s.val / 256, by omega⟩ ⟨s.val % 256, by omega⟩ d) := by
  refine (cast_e x (row b h s) d).trans ?_
  have h1 : (⟨(row b h s).val / 8192, by have := (row b h s).isLt; omega⟩ : Fin 32) = head b h := Fin.ext (by show ((b.val * 16 + h.val) * 8192 + s.val) / 8192 = b.val * 16 + h.val; omega)
  have h2 : (⟨(row b h s).val % 8192 / 256, by omega⟩ : Fin 32) = ⟨s.val / 256, by omega⟩ := Fin.ext (by show ((b.val * 16 + h.val) * 8192 + s.val) % 8192 / 256 = s.val / 256; omega)
  have h3 : (⟨(row b h s).val % 256, by omega⟩ : Fin 256) = ⟨s.val % 256, by omega⟩ := Fin.ext (by show ((b.val * 16 + h.val) * 8192 + s.val) % 256 = s.val % 256; omega)
  rw [h1, h2, h3]

theorem cast_f (x : S262144x64.Idx → α) (b : Fin 2) (h : Fin 16) (s : Fin 8192) (d : Fin 64) :
    shapeCast S2x16x8192x64 x shapeCasts_S262144x64_S2x16x8192x64 (ix4 b h s d) = x (ix2 (row b h s) d) := by
  refine Eq.trans (b := x (ix2 ⟨(b.val * 16 + h.val) * 8192 + s.val, by omega⟩ d)) ?_ rfl
  pointwise []
  exact congrArg (fun i => x (ix2 i d)) (Fin.ext (by show b.val * 131072 + h.val * 8192 + s.val = (b.val * 16 + h.val) * 8192 + s.val; omega))

theorem cast_g (x : S8192x64.Idx → α) (b : Fin 2) (h : Fin 16) (j : Fin 256) (d : Fin 64) :
    shapeCast S32x256x64 x shapeCasts_S8192x64_S32x256x64 (ix3 (head b h) j d) = x (ix2 ⟨(b.val * 16 + h.val) * 256 + j.val, by omega⟩ d) := by
  have e : ∀ g : Fin 32, shapeCast S32x256x64 x shapeCasts_S8192x64_S32x256x64 (ix3 g j d) = x (ix2 ⟨g.val * 256 + j.val, by omega⟩ d) := fun g => by
    pointwise []
  exact e (head b h)

/-- The sampled positions and their blocks, laid out by head. -/
theorem cast_h (x : S2x16x256.Idx → α) (b : Fin 2) (h : Fin 16) (j : Fin 256) :
    shapeCast S32x1x256 x shapeCasts_S2x16x256_S32x1x256 (ix3 (head b h) 0 j) = x (ix3 b h j) := by
  have e : ∀ g : Fin 32, shapeCast S32x1x256 x shapeCasts_S2x16x256_S32x1x256 (ix3 g 0 j) = x (ix3 ⟨g.val / 16, by omega⟩ ⟨g.val % 16, by omega⟩ j) := fun g => by
    pointwise []
  refine (e (head b h)).trans ?_
  have hb : (⟨(head b h).val / 16, by have := (head b h).isLt; omega⟩ : Fin 2) = b := Fin.ext (by show (b.val * 16 + h.val) / 16 = b.val; omega)
  have hh : (⟨(head b h).val % 16, by omega⟩ : Fin 16) = h := Fin.ext (by show (b.val * 16 + h.val) % 16 = h.val; omega)
  rw [hb, hh]

/-- The words of the sampled rows among all rows. -/
def sampleWords (w : IVec S2x16x256 32) : IVec S8192 32 :=
  shapeCast S8192 (addi (shapeCast S32x256 w shapeCasts_S2x16x256_S32x256)
    (broadcastInDim S32x256 ![0, 1] bcast_S32x1_S32x256_0_1 (muli (broadcastInDim S32x1 ![0] bcast_S32_S32x1_0 (iotaInDim S32 32 0))
      (broadcastInDim S32x1 ![] bcast_S_S32x1 (constantI S_ 32 8192#32))))) shapeCasts_S32x256_S8192

theorem sampleWords_apply (w : IVec S2x16x256 32) (D : Fin 2 → Fin 16 → Fin 256 → Fin 8192) (hw : ∀ b h j, w (ix3 b h j) = BitVec.ofNat 32 (D b h j).val)
    (b : Fin 2) (h : Fin 16) (j : Fin 256) :
    sampleWords w (ix1 ⟨(b.val * 16 + h.val) * 256 + j.val, by omega⟩) = BitVec.ofNat 32 (row b h (D b h j)).val := by
  have e : ∀ i : Fin 8192, sampleWords w (ix1 i) = w (ix3 ⟨i.val / 4096, by omega⟩ ⟨i.val / 256 % 16, by omega⟩ ⟨i.val % 256, by omega⟩) + BitVec.ofNat 32 (i.val / 256) * 8192#32 := fun i => by
    unfold sampleWords
    pointwise []
    exact congrArg (fun n => w (ix3 n ⟨i.val / 256 % 16, by omega⟩ ⟨i.val % 256, by omega⟩) + BitVec.ofNat 32 (i.val / 256) * 8192#32)
      (Fin.ext (by show i.val / 256 / 16 = i.val / 4096; omega))
  refine (e _).trans ?_
  have hb : (⟨((b.val * 16 + h.val) * 256 + j.val) / 4096, by omega⟩ : Fin 2) = b := Fin.ext (by show ((b.val * 16 + h.val) * 256 + j.val) / 4096 = b.val; omega)
  have hh : (⟨((b.val * 16 + h.val) * 256 + j.val) / 256 % 16, by omega⟩ : Fin 16) = h := Fin.ext (by show ((b.val * 16 + h.val) * 256 + j.val) / 256 % 16 = h.val; omega)
  have hj : (⟨((b.val * 16 + h.val) * 256 + j.val) % 256, by omega⟩ : Fin 256) = j := Fin.ext (by show ((b.val * 16 + h.val) * 256 + j.val) % 256 = j.val; omega)
  have hg : ((b.val * 16 + h.val) * 256 + j.val) / 256 = b.val * 16 + h.val := by omega
  show w (ix3 (⟨((b.val * 16 + h.val) * 256 + j.val) / 4096, _⟩ : Fin 2) (⟨((b.val * 16 + h.val) * 256 + j.val) / 256 % 16, _⟩ : Fin 16) (⟨((b.val * 16 + h.val) * 256 + j.val) % 256, _⟩ : Fin 256)) + BitVec.ofNat 32 (((b.val * 16 + h.val) * 256 + j.val) / 256) * 8192#32 = _
  rw [hb, hh, hj, hg, hw]
  show BitVec.ofNat 32 (D b h j).val + BitVec.ofNat 32 (b.val * 16 + h.val) * BitVec.ofNat 32 8192 = BitVec.ofNat 32 ((b.val * 16 + h.val) * 8192 + (D b h j).val)
  rw [← BitVec.ofNat_mul, ← BitVec.ofNat_add, Nat.add_comm]

/-! ## Wrapped positions -/

theorem not_neg {w : Nat} (hw : w < 262144) : IntOp.cmpi .slt (BitVec.ofNat 32 w) 0#32 = 0#1 := by
  have h : (BitVec.ofNat 32 w).toInt = w := StableHlo.Predicate.toInt_ofNat_small _ (by omega)
  simp only [IntOp.cmpi, BitVec.slt, h]
  rw [decide_eq_false (by simp)]; rfl

/-- Position words, a negative one wrapped, as a column. -/
def column (p : IVec S262144 32) : IVec S262144x1 32 :=
  broadcastInDim S262144x1 ![0] bcast_S262144_S262144x1_0
    (select (cmpi .slt p (broadcastInDim S262144 ![] bcast_S_S262144 (constantI S_ 32 0#32))) (addi p (broadcastInDim S262144 ![] bcast_S_S262144 (constantI S_ 32 262144#32))) p)

theorem column_apply (p : IVec S262144 32) (i n : Fin 262144) (h : p (ix1 i) = BitVec.ofNat 32 n.val) : column p (ix2 i 0) = BitVec.ofNat 32 n.val := by
  have e : column p (ix2 i 0) = Scalar.select (IntOp.cmpi .slt (p (ix1 i)) 0#32) (p (ix1 i) + 262144#32) (p (ix1 i)) := by
    unfold column
    pointwise []
    rfl
  rw [e, h, not_neg n.isLt]
  rfl

def columnS (p : IVec S8192 32) : IVec S8192x1 32 :=
  broadcastInDim S8192x1 ![0] bcast_S8192_S8192x1_0
    (select (cmpi .slt p (broadcastInDim S8192 ![] bcast_S_S8192 (constantI S_ 32 0#32))) (addi p (broadcastInDim S8192 ![] bcast_S_S8192 (constantI S_ 32 262144#32))) p)

theorem columnS_apply (p : IVec S8192 32) (i : Fin 8192) (n : Fin 262144) (h : p (ix1 i) = BitVec.ofNat 32 n.val) : columnS p (ix2 i 0) = BitVec.ofNat 32 n.val := by
  have e : columnS p (ix2 i 0) = Scalar.select (IntOp.cmpi .slt (p (ix1 i)) 0#32) (p (ix1 i) + 262144#32) (p (ix1 i)) := by
    unfold columnS
    pointwise []
    rfl
  rw [e, h, not_neg n.isLt]
  rfl

/-! ## The scatter of rows -/

theorem lands {R C w : Nat} (d : ScatterDims (shape2 R C) (shape2 R 1) (shape2 R C)) (hiw : d.insertedWindowDims = [0]) (huw : d.updateWindowDims = [1])
    (hsd : d.scatterDimsToOperandDims = [0]) (hivd : d.indexVectorDim = 1) (idx : IVec (shape2 R 1) w) (i : Fin R) (y : Fin C) (r : Fin R) (c : Fin C) :
    d.resultIdx? (ix2 i y) idx = some (ix2 r c) ↔ (idx (ix2 i (0 : Fin 1))).toInt = r.val ∧ y = c := by
  have hm : (0 : Fin 2) ∈ d.scatterDimsToOperandDims := by rw [hsd]; exact List.mem_singleton.2 rfl
  have hn : (1 : Fin 2) ∉ d.scatterDimsToOperandDims := by rw [hsd]; simp
  have hk : d.sKept = [1] := by
    show (shape2 R C).kept d.insertedWindowDims = _
    rw [hiw]
    rfl
  have hwin0 : d.window (ix2 i y) 0 = 0 := by
    unfold ScatterDims.window
    rw [dif_neg (by rw [hk]; simp)]
  have e1 : ∀ X : Fin 2, X = 1 → (ix2 i y X).val = y.val := fun X h => by subst h; rfl
  have e0 : ∀ X : Fin 2, X = 0 → (ix2 i y X).val = i.val := fun X h => by subst h; rfl
  have hu1 : ∀ k ∈ d.updateWindowDims, k = (1 : Fin 2) := fun k hk => by rw [huw] at hk; exact List.mem_singleton.1 hk
  have hu0 : ∀ k ∈ d.uScatter, k = (0 : Fin 2) := fun k hk => by
    have hu : d.uScatter = [0] := by
      show (shape2 R C).kept d.updateWindowDims = _
      rw [huw]
      rfl
    rw [hu] at hk; exact List.mem_singleton.1 hk
  have hwin1 : d.window (ix2 i y) 1 = y.val := by
    unfold ScatterDims.window
    rw [dif_pos (by rw [hk]; simp)]
    exact e1 _ (hu1 _ (List.getElem_mem _))
  have hstart0 : d.start (ix2 i y) idx 0 = (idx (ix2 i (0 : Fin 1))).toInt := by
    unfold ScatterDims.start
    rw [dif_pos hm]
    have hsi : d.siIdx (ix2 i y) ⟨d.scatterDimsToOperandDims.idxOf 0, List.idxOf_lt_length_iff.2 hm⟩ = ix2 i (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        exact e0 _ (hu0 _ (List.getElem_mem _))
      | ⟨1, _⟩ =>
        unfold ScatterDims.siIdx
        rw [dif_pos (by rw [hivd])]
        show List.idxOf (0 : Fin 2) d.scatterDimsToOperandDims = 0
        rw [hsd]; simp
    rw [hsi]
  have hstart1 : d.start (ix2 i y) idx 1 = 0 := by
    unfold ScatterDims.start
    rw [dif_neg hn]
  refine (resultIdx?_ix2 d _ idx r c).trans ?_
  rw [hwin0, hwin1, hstart0, hstart1]
  constructor
  · rintro ⟨a, b⟩; exact ⟨by omega, Fin.ext (by omega)⟩
  · rintro ⟨a, rfl⟩; exact ⟨by omega, by omega⟩

/-- Position words naming, for each head, a permutation of its rows. -/
def Slots (σ : Fin 2 → Fin 16 → Equiv.Perm (Fin 8192)) (p : IVec S262144 32) : Prop :=
  ∀ b h s, p (ix1 (row b h s)) = BitVec.ofNat 32 (row b h (σ b h s)).val

/-- The rows of `x` moved to their slots. -/
def scattered (x : FVec Ideal S262144x64 .f32) (p : IVec S262144 32) : FVec Ideal S262144x64 .f32 :=
  Host.scatter scatter_S262144x64_S262144x1_S262144x64_1_0_0_1 (fun _ b => b) (broadcastInDim S262144x64 ![] bcast_S_S262144x64 (constant S_ .f32 0x00000000#32)) (column p) x

variable (σ : Fin 2 → Fin 16 → Equiv.Perm (Fin 8192)) (p : IVec S262144 32) (hp : Slots σ p)
include hp

theorem scattered_apply (x : FVec Ideal S262144x64 .f32) (b : Fin 2) (h : Fin 16) (t : Fin 8192) (d : Fin 64) :
    scattered x p (ix2 (row b h t) d) = x (ix2 (row b h ((σ b h).symm t)) d) := by
  have key : ∀ (i : Fin 262144) (y : Fin 64) b' h' s, i = row b' h' s → ((scatter_S262144x64_S262144x1_S262144x64_1_0_0_1).resultIdx? (ix2 i y) (column p) = some (ix2 (row b h t) d)
      ↔ (b' = b ∧ h' = h ∧ σ b' h' s = t) ∧ y = d) := fun i y b' h' s hi => by
    subst hi
    refine (lands _ rfl rfl rfl rfl (column p) (row b' h' s) y (row b h t) d).trans ?_
    rw [column_apply p _ _ (hp b' h' s), StableHlo.Predicate.toInt_ofNat_small _ (by have := (row b' h' (σ b' h' s)).isLt; omega)]
    refine and_congr_left fun _ => ⟨fun e => row_inj (Fin.ext (by omega) : row b' h' (σ b' h' s) = row b h t), fun ⟨e1, e2, e3⟩ => by rw [e3, e1, e2]⟩
  unfold scattered
  refine scatter_set_hit _ _ (column p) x _ _ (fun k hk => ?_) (ix2 (row b h ((σ b h).symm t)) d) ((key _ d b h _ rfl).2 ⟨⟨rfl, rfl, (σ b h).apply_symm_apply t⟩, rfl⟩)
  obtain ⟨b', h', s', hi⟩ := row_surj (k 0)
  have hk' := (congrArg (fun q => (scatter_S262144x64_S262144x1_S262144x64_1_0_0_1).resultIdx? q (column p)) (eq_ix2 k).symm).trans hk
  obtain ⟨⟨rfl, rfl, e⟩, hd⟩ := (key (k 0) (k 1) b' h' s' hi).1 hk'
  rw [← e, Equiv.symm_apply_apply, ← hi, ← hd]
  exact congrArg x (eq_ix2 k)

/-- The rows of `x` fetched from their slots. -/
theorem fetched_apply (x : FVec Ideal S262144x64 .f32) (b : Fin 2) (h : Fin 16) (s : Fin 8192) (d : Fin 64) :
    Host.gather gather_S262144x64_S262144x1_S262144x64_1_0_n_n_0_1_164 x (column p) (ix2 (row b h s) d) = x (ix2 (row b h (σ b h s)) d) :=
  Idealize.ShloMosaic.Routing.gather_row _ rfl rfl rfl rfl rfl x (column p) _ d _ (column_apply p _ _ (hp b h s)) (by omega)

omit hp in
theorem sampled_apply (x : FVec Ideal S262144x64 .f32) (w : IVec S2x16x256 32) (D : Fin 2 → Fin 16 → Fin 256 → Fin 8192) (hw : ∀ b h j, w (ix3 b h j) = BitVec.ofNat 32 (D b h j).val)
    (b : Fin 2) (h : Fin 16) (j : Fin 256) (d : Fin 64) :
    shapeCast S32x256x64 (Host.gather gather_S262144x64_S8192x1_S8192x64_1_0_n_n_0_1_164 x (columnS (sampleWords w))) shapeCasts_S8192x64_S32x256x64 (ix3 (head b h) j d)
      = x (ix2 (row b h (D b h j)) d) :=
  (cast_g _ b h j d).trans (Idealize.ShloMosaic.Routing.gather_row _ rfl rfl rfl rfl rfl x (columnS (sampleWords w)) _ d _ (columnS_apply _ _ _ (sampleWords_apply w D hw b h j)) (by omega))

end Cert.Proof.Moves

end
-- ==== Proof.HostMid.lean ====
/- The operands of the attention kernel and the result, as the host operations leave them. -/
module

public import proofs.«01_k».proof.Proof.Moves
public import proofs.«01_k».proof.Proof.IdealFrame
public import Idealize.ShloMosaic.Lib.Routing.OpsSearch

@[expose] public section

set_option maxRecDepth 16384

noncomputable section

namespace Cert.KernelIdeal.Gen

open Idealize.ShloMosaic Idealize.ShloMosaic.TcCoe Idealize.SL.Sem Cert.KernelIdeal Cert.KernelIdeal.Facts₀ Cert.Proof.Moves

variable (U : Valuation τ sig (Elt Ideal))

theorem mid_v7 : StableHlo.after hostOps1 U (Proc.devRef .tc main_v7) = shapeCast S262144 (U (Proc.devRef .tc main_v6_0)) shapeCasts_S32x8192x1_S262144 := by
  after_results_simp
  rfl

theorem mid_v8 : StableHlo.after hostOps1 U (Proc.devRef .tc main_v8) = shapeCast S262144 (U (Proc.devRef .tc main_v6_1)) shapeCasts_S32x8192x1_S262144 := by
  after_results_simp
  rfl

/-- All rows of the heads. -/
def allRows (A : FVec Ideal S32x8192x64 .f32) : FVec Ideal S262144x64 .f32 := shapeCast S262144x64 A shapeCasts_S32x8192x64_S262144x64

set_option maxHeartbeats 4000000

theorem mid_v18 : StableHlo.after hostOps1_4 U (Proc.devRef .tc main_v18) = shapeCast S32x1x256 (U (Proc.devRef .tc main_v17)) shapeCasts_S2x16x256_S32x1x256 := by
  after_results_simp
  rfl

theorem mid_v70 : StableHlo.after hostOps1_4 U (Proc.devRef .tc main_v70)
    = shapeCast S32x32x256x64 (scattered (allRows (U (Proc.devRef .tc main_v0))) (U (Proc.devRef .tc main_v7))) shapeCasts_S262144x64_S32x32x256x64 := by
  after_results_simp
  rfl

theorem mid_v71 : StableHlo.after hostOps1_4 U (Proc.devRef .tc main_v71)
    = shapeCast S32x32x256x64 (scattered (allRows (U (Proc.devRef .tc main_v1))) (U (Proc.devRef .tc main_v8))) shapeCasts_S262144x64_S32x32x256x64 := by
  after_results_simp
  rfl

theorem mid_v72 : StableHlo.after hostOps1_4 U (Proc.devRef .tc main_v72)
    = shapeCast S32x32x256x64 (scattered (allRows (U (Proc.devRef .tc main_v2))) (U (Proc.devRef .tc main_v8))) shapeCasts_S262144x64_S32x32x256x64 := by
  after_results_simp
  rfl

theorem mid_v61 : StableHlo.after hostOps1_4 U (Proc.devRef .tc main_v61)
    = shapeCast S32x256x64 (Host.gather gather_S262144x64_S8192x1_S8192x64_1_0_n_n_0_1_164
        (scattered (allRows (U (Proc.devRef .tc main_v1))) (U (Proc.devRef .tc main_v8))) (columnS (sampleWords (U (Proc.devRef .tc main_v16))))) shapeCasts_S8192x64_S32x256x64 := by
  after_results_simp
  rfl

theorem mid_v69 : StableHlo.after hostOps1_4 U (Proc.devRef .tc main_v69)
    = shapeCast S32x256x64 (Host.gather gather_S262144x64_S8192x1_S8192x64_1_0_n_n_0_1_164
        (scattered (allRows (U (Proc.devRef .tc main_v2))) (U (Proc.devRef .tc main_v8))) (columnS (sampleWords (U (Proc.devRef .tc main_v16))))) shapeCasts_S8192x64_S32x256x64 := by
  after_results_simp
  rfl

theorem out_v82 : StableHlo.after hostOps2 U (Proc.devRef .tc main_v82)
    = shapeCast S2x16x8192x64 (Host.gather gather_S262144x64_S262144x1_S262144x64_1_0_n_n_0_1_164
        (shapeCast S262144x64 (U (Proc.devRef .tc main_v73)) shapeCasts_S32x32x256x64_S262144x64) (column (U (Proc.devRef .tc main_v7)))) shapeCasts_S262144x64_S2x16x8192x64 := by
  after_results_simp
  rfl

/-- The blocks of positions: the quotients by the block size, rounded down. -/
def blocks (x : IVec S2x16x256 32) : IVec S2x16x256 32 :=
  select (andi (cmpi .ne (signi x) (broadcastInDim S2x16x256 ![] bcast_S_S2x16x256 (signi (constantI S_ 32 256#32))))
      (cmpi .ne (Host.remsi x (broadcastInDim S2x16x256 ![] bcast_S_S2x16x256 (constantI S_ 32 256#32))) (broadcastInDim S2x16x256 ![] bcast_S_S2x16x256 (constantI S_ 32 0#32))))
    (subi (Host.divsi x (broadcastInDim S2x16x256 ![] bcast_S_S2x16x256 (constantI S_ 32 256#32))) (broadcastInDim S2x16x256 ![] bcast_S_S2x16x256 (constantI S_ 32 1#32)))
    (Host.divsi x (broadcastInDim S2x16x256 ![] bcast_S_S2x16x256 (constantI S_ 32 256#32)))

theorem mid_v17 : StableHlo.after hostOps1_3 (StableHlo.after hostOps1_2 U) (Proc.devRef .tc main_v17) = blocks (U (Proc.devRef .tc main_v16)) := by
  after_results_simp
  rfl

theorem blocks_apply (x : IVec S2x16x256 32) (i : S2x16x256.Idx) {a : Nat} (hx : x i = BitVec.ofNat 32 a) (ha : a < 2 ^ 31) : blocks x i = BitVec.ofNat 32 (a / 256) := by
  refine Eq.trans ?_ (Routing.pyDiv0_ap (fun _ => x i) (constantI S_ 32 256#32) (b := 256) hx rfl ha (by norm_num) (by norm_num))
  rfl

end Cert.KernelIdeal.Gen

end
-- ==== Proof.Whole.lean ====
/- The kernel's result at an index: the attention of the row at its rank over the sorted rows, where the drawn columns are given. -/
module

public import proofs.«01_k».proof.Proof.HostIn
public import proofs.«01_k».proof.Proof.HostMid

@[expose] public section

set_option maxRecDepth 16384

noncomputable section

namespace Cert.KernelIdeal.Gen

open Idealize.ShloMosaic Idealize.ShloMosaic.TcCoe Idealize.SL.Sem Cert.KernelIdeal Cert.KernelIdeal.Facts₀ Cert.Proof.Moves Cert.Proof.Ref

/-- A family over the heads, at a head among the 32. -/
def byHead {β : Type} (f : Fin 2 → Fin 16 → β) (g : Fin 32) : β := f ⟨g.val / 16, by omega⟩ ⟨g.val % 16, by omega⟩

theorem byHead_head {β : Type} (f : Fin 2 → Fin 16 → β) (b : Fin 2) (h : Fin 16) : byHead f (head b h) = f b h := by
  have hb : (⟨(head b h).val / 16, by have := (head b h).isLt; omega⟩ : Fin 2) = b := Fin.ext (by show (b.val * 16 + h.val) / 16 = b.val; omega)
  have hh : (⟨(head b h).val % 16, by omega⟩ : Fin 16) = h := Fin.ext (by show (b.val * 16 + h.val) % 16 = h.val; omega)
  unfold byHead
  rw [hb, hh]

variable (m : (ℓ : Loc nD τ sig) → Buf (Elt Ideal) ℓ) (ρ : Dev nD → PrngReg) (c : Dev nD)

abbrev arg0 : FVec Ideal S2x16x8192x64 .f32 := W0 m ρ c (Proc.devRef .tc main_arg0)
abbrev arg1 : FVec Ideal S2x16x8192x64 .f32 := W0 m ρ c (Proc.devRef .tc main_arg1)
abbrev arg2 : FVec Ideal S2x16x8192x64 .f32 := W0 m ρ c (Proc.devRef .tc main_arg2)
abbrev arg3 : FVec Ideal S64x7 .f32 := W0 m ρ c (Proc.devRef .tc main_arg3)
/-- The heads laid out along one axis. -/
abbrev flat (A : FVec Ideal S2x16x8192x64 .f32) : FVec Ideal S32x8192x64 .f32 := shapeCast S32x8192x64 A shapeCasts_S2x16x8192x64_S32x8192x64
/-- The hash keys of a head's rows. -/
abbrev hkey (A : FVec Ideal S2x16x8192x64 .f32) (P : FVec Ideal S64x7 .f32) (g : Fin 32) (s : Fin 8192) : Fin 128 :=
  hashKey (fun e => flat A (ix3 g s e)) fun e r => P (ix2 e r)

theorem hkey_keys (A : FVec Ideal S2x16x8192x64 .f32) (P : FVec Ideal S64x7 .f32) (b : Fin 2) (h : Fin 16) :
    (fun s => (hkey A P (head b h) s).val) = keys A P b h := by
  funext s
  unfold hkey keys
  simp only [cast_heads]

/-- The ranks of a head's rows. -/
def ranks (A : FVec Ideal S2x16x8192x64 .f32) (P : FVec Ideal S64x7 .f32) (b : Fin 2) (h : Fin 16) : Equiv.Perm (Fin 8192) := Cert.Proof.Sort.rankPerm (keys A P b h)

theorem slots_ranks (A : FVec Ideal S2x16x8192x64 .f32) (P : FVec Ideal S64x7 .f32) : Slots (ranks A P) (shapeCast S262144 (slots (hkey A P)) shapeCasts_S32x8192x1_S262144) := by
  intro b h s
  refine (cast_slots _ b h s).trans ?_
  show BitVec.ofNat 32 (Cert.Proof.Sort.rankNat (fun s => (hkey A P (head b h) s).val) s + (head b h).val * 8192) = BitVec.ofNat 32 ((b.val * 16 + h.val) * 8192 + Cert.Proof.Sort.rankNat (keys A P b h) s)
  rw [hkey_keys, Nat.add_comm]
  rfl

variable (h5 : ∀ (c : Dev nD) d e, (V3 m ρ c main_cst_1 : S128x128.Idx → EReal) (ix2 d e) = (if d < e then 1 else 0 : EReal))
  (h6 : ∀ (c : Dev nD) j j', (V3 m ρ c main_cst_2 : S256x256.Idx → EReal) (ix2 j j') = (if j' < j then 1 else 0 : EReal))

include h5 h6

theorem W4_v6_0 : W4 m ρ c (Proc.devRef .tc main_v6_0) = slots (hkey (arg0 m ρ c) (arg3 m ρ c)) := by
  refine (W4_arr m ρ c 7).trans (region0_q (V3 m ρ) h5 h6 c _ fun g => ?_)
  have e0 : V3 m ρ c main_v0 = flat (arg0 m ρ c) := in_v0 (W0 m ρ c)
  have e3 : V3 m ρ c main_v3 = padded (arg3 m ρ c) := in_v3 (W0 m ρ c)
  have e4 : V3 m ρ c main_v4 = tableRow lit0 := in_v4 (W0 m ρ c)
  have e5 : V3 m ρ c main_v5 = tableRow lit1 := in_v5 (W0 m ρ c)
  rw [e0, e3, e4, e5]
  exact Cert.Proof.HostIn.names _ _ g

theorem W4_v6_1 : W4 m ρ c (Proc.devRef .tc main_v6_1) = slots (hkey (arg1 m ρ c) (arg3 m ρ c)) := by
  refine (W4_arr m ρ c 8).trans (region0_k (V3 m ρ) h5 h6 c _ fun g => ?_)
  have e0 : V3 m ρ c main_v1 = flat (arg1 m ρ c) := in_v1 (W0 m ρ c)
  have e3 : V3 m ρ c main_v3 = padded (arg3 m ρ c) := in_v3 (W0 m ρ c)
  have e4 : V3 m ρ c main_v4 = tableRow lit0 := in_v4 (W0 m ρ c)
  have e5 : V3 m ρ c main_v5 = tableRow lit1 := in_v5 (W0 m ρ c)
  rw [e0, e3, e4, e5]
  exact Cert.Proof.HostIn.names _ _ g

omit h5 h6 in
theorem W8_of4 (r : Ref sig .tc) (h1 : r ∉ hostOps1_W) (h2 : r ∉ hostOps1_1_W) (h3 : r ∉ hostOps1_2_W) (h4 : r ∉ hostOps1_3_W) :
    W8 m ρ c (Proc.devRef .tc r) = W4 m ρ c (Proc.devRef .tc r) :=
  (W8_of m ρ c r h4).trans ((W7_of m ρ c r h3).trans ((W6_of m ρ c r h2).trans (W5_of m ρ c r h1)))

omit h5 h6 in
theorem W8_of5 (r : Ref sig .tc) (h2 : r ∉ hostOps1_1_W) (h3 : r ∉ hostOps1_2_W) (h4 : r ∉ hostOps1_3_W) :
    W8 m ρ c (Proc.devRef .tc r) = W5 m ρ c (Proc.devRef .tc r) :=
  (W8_of m ρ c r h4).trans ((W7_of m ρ c r h3).trans (W6_of m ρ c r h2))

omit h5 h6 in
theorem W8_v0 : W8 m ρ c (Proc.devRef .tc main_v0) = flat (arg0 m ρ c) :=
  (W8_of4 m ρ c main_v0 (by decide +kernel) (by decide +kernel) (by decide +kernel) (by decide +kernel)).trans ((W4_of m ρ c main_v0 (by decide +kernel)).trans (in_v0 (W0 m ρ c)))

omit h5 h6 in
theorem W8_v1 : W8 m ρ c (Proc.devRef .tc main_v1) = flat (arg1 m ρ c) :=
  (W8_of4 m ρ c main_v1 (by decide +kernel) (by decide +kernel) (by decide +kernel) (by decide +kernel)).trans ((W4_of m ρ c main_v1 (by decide +kernel)).trans (in_v1 (W0 m ρ c)))

omit h5 h6 in
theorem W8_v2 : W8 m ρ c (Proc.devRef .tc main_v2) = flat (arg2 m ρ c) :=
  (W8_of4 m ρ c main_v2 (by decide +kernel) (by decide +kernel) (by decide +kernel) (by decide +kernel)).trans ((W4_of m ρ c main_v2 (by decide +kernel)).trans (in_v2 (W0 m ρ c)))

theorem W8_v7 : W8 m ρ c (Proc.devRef .tc main_v7) = shapeCast S262144 (slots (hkey (arg0 m ρ c) (arg3 m ρ c))) shapeCasts_S32x8192x1_S262144 := by
  refine (W8_of5 m ρ c main_v7 (by decide +kernel) (by decide +kernel) (by decide +kernel)).trans ((mid_v7 (W4 m ρ c)).trans ?_)
  rw [W4_v6_0 m ρ c h5 h6]

theorem W8_v8 : W8 m ρ c (Proc.devRef .tc main_v8) = shapeCast S262144 (slots (hkey (arg1 m ρ c) (arg3 m ρ c))) shapeCasts_S32x8192x1_S262144 := by
  refine (W8_of5 m ρ c main_v8 (by decide +kernel) (by decide +kernel) (by decide +kernel)).trans ((mid_v8 (W4 m ρ c)).trans ?_)
  rw [W4_v6_1 m ρ c h5 h6]

omit h5 h6 in
/-- The rows of an array at their slots. -/
theorem sorted_rows (A B : FVec Ideal S2x16x8192x64 .f32) (P : FVec Ideal S64x7 .f32) (b : Fin 2) (h : Fin 16) (t : Fin 8192) (d : Fin 64) :
    scattered (allRows (flat A)) (shapeCast S262144 (slots (hkey B P)) shapeCasts_S32x8192x1_S262144) (ix2 (row b h t) d) = A (ix4 b h (order (keys B P b h) t) d) :=
  (scattered_apply (ranks B P) _ (slots_ranks B P) _ b h t d).trans ((cast_rows _ b h _ d).trans (cast_heads A b h _ d))

theorem V9_v70 (b : Fin 2) (h : Fin 16) (n : Fin 32) (r : Fin 256) (d : Fin 64) :
    (V9 m ρ c main_v70 : S32x32x256x64.Idx → EReal) (ix4 (head b h) n r d) = arg0 m ρ c (ix4 b h (order (keys (arg0 m ρ c) (arg3 m ρ c) b h) (inRow n r)) d) := by
  have e : V9 m ρ c main_v70 = _ := mid_v70 (W8 m ρ c)
  rw [e, W8_v0, W8_v7 m ρ c h5 h6]
  exact (cast_blocks _ b h n r d).trans (sorted_rows _ _ _ b h _ d)

theorem V9_v71 (b : Fin 2) (h : Fin 16) (n : Fin 32) (r : Fin 256) (d : Fin 64) :
    (V9 m ρ c main_v71 : S32x32x256x64.Idx → EReal) (ix4 (head b h) n r d) = arg1 m ρ c (ix4 b h (order (keys (arg1 m ρ c) (arg3 m ρ c) b h) (inRow n r)) d) := by
  have e : V9 m ρ c main_v71 = _ := mid_v71 (W8 m ρ c)
  rw [e, W8_v1, W8_v8 m ρ c h5 h6]
  exact (cast_blocks _ b h n r d).trans (sorted_rows _ _ _ b h _ d)

theorem V9_v72 (b : Fin 2) (h : Fin 16) (n : Fin 32) (r : Fin 256) (d : Fin 64) :
    (V9 m ρ c main_v72 : S32x32x256x64.Idx → EReal) (ix4 (head b h) n r d) = arg2 m ρ c (ix4 b h (order (keys (arg1 m ρ c) (arg3 m ρ c) b h) (inRow n r)) d) := by
  have e : V9 m ρ c main_v72 = _ := mid_v72 (W8 m ρ c)
  rw [e, W8_v2, W8_v8 m ρ c h5 h6]
  exact (cast_blocks _ b h n r d).trans (sorted_rows _ _ _ b h _ d)

variable (D : Fin 2 → Fin 16 → Fin 256 → Fin 8192) (hD : ∀ b h j, (W6 m ρ c (Proc.devRef .tc main_v16) : S2x16x256.Idx → BitVec 32) (ix3 b h j) = BitVec.ofNat 32 (D b h j).val)
include hD

omit h5 h6 in
theorem W8_v16 (b : Fin 2) (h : Fin 16) (j : Fin 256) : (W8 m ρ c (Proc.devRef .tc main_v16) : S2x16x256.Idx → BitVec 32) (ix3 b h j) = BitVec.ofNat 32 (D b h j).val :=
  (congrFun ((W8_of m ρ c main_v16 (by decide +kernel)).trans (W7_of m ρ c main_v16 (by decide +kernel))) (ix3 b h j)).trans (hD b h j)

theorem V9_v61 (b : Fin 2) (h : Fin 16) (j : Fin 256) (d : Fin 64) :
    (V9 m ρ c main_v61 : S32x256x64.Idx → EReal) (ix3 (head b h) j d) = arg1 m ρ c (ix4 b h (order (keys (arg1 m ρ c) (arg3 m ρ c) b h) (D b h j)) d) := by
  have e : V9 m ρ c main_v61 = _ := mid_v61 (W8 m ρ c)
  rw [e, W8_v1, W8_v8 m ρ c h5 h6]
  exact (sampled_apply _ _ D (W8_v16 m ρ c D hD) b h j d).trans (sorted_rows _ _ _ b h _ d)

theorem V9_v69 (b : Fin 2) (h : Fin 16) (j : Fin 256) (d : Fin 64) :
    (V9 m ρ c main_v69 : S32x256x64.Idx → EReal) (ix3 (head b h) j d) = arg2 m ρ c (ix4 b h (order (keys (arg1 m ρ c) (arg3 m ρ c) b h) (D b h j)) d) := by
  have e : V9 m ρ c main_v69 = _ := mid_v69 (W8 m ρ c)
  rw [e, W8_v2, W8_v8 m ρ c h5 h6]
  exact (sampled_apply _ _ D (W8_v16 m ρ c D hD) b h j d).trans (sorted_rows _ _ _ b h _ d)

omit h5 h6 in
theorem V9_v18 (b : Fin 2) (h : Fin 16) (j : Fin 256) :
    (V9 m ρ c main_v18 : S32x1x256.Idx → BitVec 32) (ix3 (head b h) 0 j) = BitVec.ofNat 32 ((D b h j).val / 256) := by
  have e : V9 m ρ c main_v18 = _ := mid_v18 (W8 m ρ c)
  have e' : W8 m ρ c (Proc.devRef .tc main_v17) = _ := mid_v17 (W6 m ρ c)
  rw [e, e']
  exact (cast_h _ b h j).trans (blocks_apply _ _ (hD b h j) (by have := (D b h j).isLt; omega))

omit h5 h6 hD in
theorem head_surj (g : Fin 32) : ∃ b h, g = head b h :=
  ⟨⟨g.val / 16, by omega⟩, ⟨g.val % 16, by omega⟩, Fin.ext (by show g.val = g.val / 16 * 16 + g.val % 16; omega)⟩

omit h5 h6 hD in
theorem mix_congr {x x' y y' : Fin 256 → ℝ} {m m' : Fin 256 → Bool} {v v' u u' : Fin 256 → EReal} (hx : x = x') (hy : y = y') (hm : m = m') (hv : v = v') (hu : u = u') :
    Cert.Proof.Attn.mix x y m Cert.Proof.Attn.shift v u = Cert.Proof.Attn.mix x' y' m' Cert.Proof.Attn.shift v' u' := by
  subst hx hy hm hv hu; rfl

variable (Qr Kr : Fin 2 → Fin 16 → Fin 8192 → Fin 64 → ℝ) (hq : ∀ b h s d, arg0 m ρ c (ix4 b h s d) = (Qr b h s d : EReal)) (hk : ∀ b h s d, arg1 m ρ c (ix4 b h s d) = (Kr b h s d : EReal))
include hq hk

theorem W10_v73 : W10 m ρ c (Proc.devRef .tc main_v73)
    = attended (byHead fun b h n r e => Qr b h (order (keys (arg0 m ρ c) (arg3 m ρ c) b h) (inRow n r)) e) (byHead fun b h n r e => Kr b h (order (keys (arg1 m ρ c) (arg3 m ρ c) b h) (inRow n r)) e)
        (byHead fun b h j e => Kr b h (order (keys (arg1 m ρ c) (arg3 m ρ c) b h) (D b h j)) e) (byHead fun b h n j => decide (n.val = (D b h j).val / 256)) (V9 m ρ c main_v72) (V9 m ρ c main_v69) := by
  refine (W10_arr m ρ c 6).trans (region1 (V9 m ρ) c _ _ _ _ (fun g n r e => ?_) (fun g n r e => ?_) (fun g j e => ?_) (fun g n j => ?_))
  · obtain ⟨b, h, rfl⟩ := head_surj g
    rw [byHead_head]
    exact (V9_v70 m ρ c h5 h6 b h n r e).trans (hq _ _ _ _)
  · obtain ⟨b, h, rfl⟩ := head_surj g
    rw [byHead_head]
    exact (V9_v71 m ρ c h5 h6 b h n r e).trans (hk _ _ _ _)
  · obtain ⟨b, h, rfl⟩ := head_surj g
    rw [byHead_head]
    exact (V9_v61 m ρ c h5 h6 D hD b h j e).trans (hk _ _ _ _)
  · obtain ⟨b, h, rfl⟩ := head_surj g
    rw [byHead_head, V9_v18 m ρ c D hD b h j, decide_eq_true_iff]
    refine ⟨fun e => ?_, fun e => by rw [e]⟩
    have := congrArg BitVec.toNat e
    rw [BitVec.toNat_ofNat, BitVec.toNat_ofNat] at this
    have := (D b h j).isLt
    have := n.isLt
    omega

omit hq hk in
theorem attended_read (b : Fin 2) (h : Fin 16) (t : Fin 8192) (d : Fin 64) :
    attended (byHead fun b h n r e => Qr b h (order (keys (arg0 m ρ c) (arg3 m ρ c) b h) (inRow n r)) e) (byHead fun b h n r e => Kr b h (order (keys (arg1 m ρ c) (arg3 m ρ c) b h) (inRow n r)) e)
        (byHead fun b h j e => Kr b h (order (keys (arg1 m ρ c) (arg3 m ρ c) b h) (D b h j)) e) (byHead fun b h n j => decide (n.val = (D b h j).val / 256)) (V9 m ρ c main_v72) (V9 m ρ c main_v69)
        (ix4 (head b h) ⟨t.val / 256, by omega⟩ ⟨t.val % 256, by omega⟩ d)
      = Cert.Proof.Attn.mix (xb (fun b h t => Qr b h (order (keys (arg0 m ρ c) (arg3 m ρ c) b h) t)) (fun b h t => Kr b h (order (keys (arg1 m ρ c) (arg3 m ρ c) b h) t)) b h t)
          (xs (fun b h t => Qr b h (order (keys (arg0 m ρ c) (arg3 m ρ c) b h) t)) (fun b h t => Kr b h (order (keys (arg1 m ρ c) (arg3 m ρ c) b h) t)) D b h t)
          (inBlock D b h t) Cert.Proof.Attn.shift
          (fun j => arg2 m ρ c (ix4 b h (order (keys (arg1 m ρ c) (arg3 m ρ c) b h) ⟨t.val / 256 * 256 + j.val, by omega⟩) d))
          (fun j => arg2 m ρ c (ix4 b h (order (keys (arg1 m ρ c) (arg3 m ρ c) b h) (D b h j)) d)) := by
  have ht : inRow ⟨t.val / 256, by omega⟩ ⟨t.val % 256, by omega⟩ = t := Fin.ext (by show t.val / 256 * 256 + t.val % 256 = t.val; omega)
  unfold attended
  refine mix_congr (funext fun j => ?_) (funext fun j => ?_) (funext fun j => ?_) (funext fun j => ?_) (funext fun j => ?_)
  · show (∑ e, byHead (β := Fin 32 → Fin 256 → Fin 64 → ℝ) _ (head b h) ⟨t.val / 256, _⟩ ⟨t.val % 256, _⟩ e * byHead (β := Fin 32 → Fin 256 → Fin 64 → ℝ) _ (head b h) ⟨t.val / 256, _⟩ j e) * (1 / 8) = _
    rw [byHead_head, byHead_head, ht]
    rfl
  · show (∑ e, byHead (β := Fin 32 → Fin 256 → Fin 64 → ℝ) _ (head b h) ⟨t.val / 256, _⟩ ⟨t.val % 256, _⟩ e * byHead (β := Fin 256 → Fin 64 → ℝ) _ (head b h) j e) * (1 / 8) = _
    rw [byHead_head, byHead_head, ht]
    rfl
  · show byHead (β := Fin 32 → Fin 256 → Bool) _ (head b h) ⟨t.val / 256, _⟩ j = _
    rw [byHead_head]
    rfl
  · exact V9_v72 m ρ c h5 h6 b h ⟨t.val / 256, by omega⟩ j d
  · exact V9_v69 m ρ c h5 h6 D hD b h j d

theorem W11_v82 (b : Fin 2) (h : Fin 16) (s : Fin 8192) (d : Fin 64) :
    (W11 m ρ c (Proc.devRef .tc main_v82) : S2x16x8192x64.Idx → EReal) (ix4 b h s d)
      = Cert.Proof.Attn.mix (xb (fun b h t => Qr b h (order (keys (arg0 m ρ c) (arg3 m ρ c) b h) t)) (fun b h t => Kr b h (order (keys (arg1 m ρ c) (arg3 m ρ c) b h) t)) b h (Cert.Proof.Sort.rank (keys (arg0 m ρ c) (arg3 m ρ c) b h) s))
          (xs (fun b h t => Qr b h (order (keys (arg0 m ρ c) (arg3 m ρ c) b h) t)) (fun b h t => Kr b h (order (keys (arg1 m ρ c) (arg3 m ρ c) b h) t)) D b h (Cert.Proof.Sort.rank (keys (arg0 m ρ c) (arg3 m ρ c) b h) s))
          (inBlock D b h (Cert.Proof.Sort.rank (keys (arg0 m ρ c) (arg3 m ρ c) b h) s)) Cert.Proof.Attn.shift
          (fun j => arg2 m ρ c (ix4 b h (order (keys (arg1 m ρ c) (arg3 m ρ c) b h) ⟨(Cert.Proof.Sort.rank (keys (arg0 m ρ c) (arg3 m ρ c) b h) s).val / 256 * 256 + j.val, by omega⟩) d))
          (fun j => arg2 m ρ c (ix4 b h (order (keys (arg1 m ρ c) (arg3 m ρ c) b h) (D b h j)) d)) := by
  have e7 : W10 m ρ c (Proc.devRef .tc main_v7) = _ :=
    (W10_of m ρ c main_v7 (by decide +kernel)).trans ((W9_of m ρ c main_v7 (by decide +kernel)).trans (W8_v7 m ρ c h5 h6))
  have e : W11 m ρ c (Proc.devRef .tc main_v82) = _ := out_v82 (W10 m ρ c)
  rw [e, e7, W10_v73 m ρ c h5 h6 D hD Qr Kr hq hk]
  refine (cast_f _ b h s d).trans ((fetched_apply (ranks _ _) _ (slots_ranks _ _) _ b h s d).trans ((cast_unblock _ b h _ d).trans ?_))
  rw [show ranks (arg0 m ρ c) (arg3 m ρ c) b h s = Cert.Proof.Sort.rank (keys (arg0 m ρ c) (arg3 m ρ c) b h) s from rfl]
  exact attended_read m ρ c h5 h6 D hD Qr Kr b h _ d

end Cert.KernelIdeal.Gen

end
-- ==== Proof.Tables2.lean ====
/- The table of the strict order on the 128 codes, at an index. -/
module

public import proofs.«01_k».proof.KernelIdeal

@[expose] public section

set_option maxRecDepth 16384

namespace Cert.Proof.Tables

open Idealize.ShloMosaic Cert.KernelIdeal

set_option maxHeartbeats 4000000

theorem rows2 : ∀ q : Fin 8, ∀ d : Fin 16, ∀ e : Fin 128, lit2t ((q.val * 16 + d.val) * 128 + e.val) = if q.val * 16 + d.val < e.val then 0x3F800000#32 else 0x00000000#32 := by
  intro q
  fin_cases q <;> decide +kernel

theorem table2 (d e : Fin 128) : lit2t (d.val * 128 + e.val) = if d.val < e.val then 0x3F800000#32 else 0x00000000#32 := by
  have h := rows2 ⟨d.val / 16, by omega⟩ ⟨d.val % 16, by omega⟩ e
  rwa [show d.val / 16 * 16 + d.val % 16 = d.val by omega] at h

end Cert.Proof.Tables
-- ==== Proof.Tables3.lean ====
/- The table of the strict order on the 256 rows of a block, at an index. -/
module

public import proofs.«01_k».proof.KernelIdeal

@[expose] public section

set_option maxRecDepth 16384

namespace Cert.Proof.Tables

open Idealize.ShloMosaic Cert.KernelIdeal

set_option maxHeartbeats 4000000

theorem rows3 : ∀ q : Fin 32, ∀ j : Fin 8, ∀ j' : Fin 256, lit3t ((q.val * 8 + j.val) * 256 + j'.val) = if j'.val < q.val * 8 + j.val then 0x3F800000#32 else 0x00000000#32 := by
  intro q
  fin_cases q <;> decide +kernel

theorem table3 (j j' : Fin 256) : lit3t (j.val * 256 + j'.val) = if j'.val < j.val then 0x3F800000#32 else 0x00000000#32 := by
  have h := rows3 ⟨j.val / 8, by omega⟩ ⟨j.val % 8, by omega⟩ j'
  rwa [show j.val / 8 * 8 + j.val % 8 = j.val by omega] at h

end Cert.Proof.Tables
-- ==== Proof.Inputs.lean ====
/- What the precondition says: the query and the key are arrays of reals. The triangles of ones the kernel counts with. -/
module

public import proofs.«01_k».proof.Proof.Whole
public import proofs.«01_k».proof.Proof.Tables2
public import proofs.«01_k».proof.Proof.Tables3
public import proofs.«01_k».proof.Pre_finite_inputs
public import Idealize.ShloMosaic.Lib.ReduceAll

@[expose] public section

set_option maxRecDepth 16384

noncomputable section

namespace Cert.Proof.Inputs

open Idealize.ShloMosaic

instance : Subsingleton Cert.Pre_finite_inputs.S_.Idx := ⟨fun a b => funext fun x => x.elim0⟩

theorem top_word : FloatOps.ofBits (F := Ideal) .f32 0x7F800000#32 = (⊤ : EReal) := by
  show Ideal.ofBits .f32 0x7F800000#32 = ⊤
  simp [Ideal.ofBits, Ideal.ieee]

/-- A number whose absolute value is below infinity is a real one. -/
theorem real_of_abs (x : EReal) (h : Ideal.cmp .olt (max x (-x)) ⊤ = 1#1) : ((x.toReal : ℝ) : EReal) = x := by
  have hlt : max x (-x) < ⊤ := by
    by_contra hn
    rw [Ideal.cmp, decide_eq_false hn] at h
    exact absurd h (by decide)
  have h1 : x ≠ ⊤ := fun e => by rw [e] at hlt; exact absurd hlt (by simp)
  have h2 : x ≠ ⊥ := fun e => by rw [e] at hlt; exact absurd hlt (by simp)
  exact EReal.coe_toReal h1 h2

variable [Cert.Pre_finite_inputs.Facts]
open Cert.Pre_finite_inputs Cert.Pre_finite_inputs.Facts

theorem all_real (X : FVec Ideal S2x16x8192x64 .f32) (h : Host.reduce IntOp.andi (cmpf .olt (Host.absf X) (broadcastInDim S2x16x8192x64 ![] bcast_S_S2x16x8192x64 (constant S_ .f32 0x7F800000#32))) (constantI S_ 1 1#1) reducesTo_S2x16x8192x64_S_d0_1_2_3 h_S_ ix0 = 1#1)
    (i : S2x16x8192x64.Idx) : (((X i : EReal).toReal : ℝ) : EReal) = X i := by
  have := Host.reduce_andi_all _ _ _ _ _ h i
  refine real_of_abs _ ?_
  rw [← top_word]
  exact this

theorem inputs_real (A B C : FVec Ideal S2x16x8192x64 .f32) (P : FVec Ideal S64x7 .f32) (h : fn A B C P = fun _ => 1#1) :
    (∀ i, (((A i : EReal).toReal : ℝ) : EReal) = A i) ∧ ∀ i, (((B i : EReal).toReal : ℝ) : EReal) = B i := by
  obtain ⟨h1, h2⟩ := IntOp.andi_eq_one.1 (congrFun h ix0)
  exact ⟨all_real A h1, all_real B h2⟩

end Cert.Proof.Inputs

namespace Cert.KernelIdeal.Gen

open Idealize.ShloMosaic Idealize.ShloMosaic.TcCoe Idealize.SL.Sem Cert.KernelIdeal Cert.KernelIdeal.Facts₀

variable (m : (ℓ : Loc nD τ sig) → Buf (Elt Ideal) ℓ) (ρ : Dev nD → PrngReg)

theorem ones_word : FloatOps.ofBits (F := Ideal) .f32 0x3F800000#32 = (1 : EReal) := Ideal.ofBits_one_f32

theorem upper_ones (c : Dev nD) (d e : Fin 128) : (V3 m ρ c main_cst_1 : S128x128.Idx → EReal) (ix2 d e) = (if d < e then 1 else 0 : EReal) := by
  have h : V3 m ρ c main_cst_1 = _ := in_cst_1 (W0 m ρ c)
  rw [h]
  have hr : (S128x128.rowMajor (ix2 d e)).val = d.val * 128 + e.val := Shape.rowMajor_val_two _
  have ht : lit2 (S128x128.rowMajor (ix2 d e)) = if d.val < e.val then 0x3F800000#32 else 0x00000000#32 :=
    (congrArg lit2t hr).trans (Cert.Proof.Tables.table2 d e)
  show FloatOps.ofBits (F := Ideal) .f32 (lit2 (S128x128.rowMajor (ix2 d e))) = _
  rw [ht]
  by_cases hd : d < e
  · rw [if_pos hd, if_pos (show d.val < e.val from hd)]
    exact ones_word
  · rw [if_neg hd, if_neg (show ¬ d.val < e.val from hd)]
    exact Ideal.ofBits_zero_f32

theorem lower_ones (c : Dev nD) (j j' : Fin 256) : (V3 m ρ c main_cst_2 : S256x256.Idx → EReal) (ix2 j j') = (if j' < j then 1 else 0 : EReal) := by
  have h : V3 m ρ c main_cst_2 = _ := in_cst_2 (W0 m ρ c)
  rw [h]
  have hr : (S256x256.rowMajor (ix2 j j')).val = j.val * 256 + j'.val := Shape.rowMajor_val_two _
  have ht : lit3 (S256x256.rowMajor (ix2 j j')) = if j'.val < j.val then 0x3F800000#32 else 0x00000000#32 :=
    (congrArg lit3t hr).trans (Cert.Proof.Tables.table3 j j')
  show FloatOps.ofBits (F := Ideal) .f32 (lit3 (S256x256.rowMajor (ix2 j j'))) = _
  rw [ht]
  by_cases hd : j' < j
  · rw [if_pos hd, if_pos (show j'.val < j.val from hd)]
    exact ones_word
  · rw [if_neg hd, if_neg (show ¬ j'.val < j.val from hd)]
    exact Ideal.ofBits_zero_f32

end Cert.KernelIdeal.Gen

end
-- ==== Proof.Ends.lean ====
/- The kernel's runs end with the result's array at the contents the host operations leave. -/
module

public import proofs.«01_k».proof.Proof.IdealFrame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result's array at its last contents and the arguments as launched. -/
theorem ends : θ_run defs (onTc (τ := τ) (main (F := F))) ⟨m, fun _ => 0, ρ⟩ (fun r => ∀ c : Dev nD,
      r.2.mem ((c.tc : Thread nD τ).loc main_v82) = W11 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz c =>
      ⟨h c _ (mem_uc main_v82 (by decide)), (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c)⟩)

end Cert.KernelIdeal.Gen

end
-- ==== Proof.Draw1.lean ====
/- The random words of the kernel's sampled columns: the rounds of the generator, as the host operations run them. -/
module

public import proofs.«01_k».proof.Proof.Moves
public import proofs.«01_k».proof.Proof.IdealFrame
public import Idealize.ShloMosaic.Lib.Routing.OpsSearch

@[expose] public section

set_option maxRecDepth 65536

noncomputable section

namespace Cert.KernelIdeal.Gen

open Idealize.ShloMosaic Idealize.ShloMosaic.TcCoe Idealize.SL.Sem Cert.KernelIdeal Cert.KernelIdeal.Facts₀

/-- `n` operations of the draw, from the `k`-th on. -/
abbrev stretch (k n : Nat) : List (HloOp τ sig (Elt Ideal)) := ((hostOps1_1 (F := Ideal)).drop k).take n

section
variable {S : Shape} (bc : IVec S_ 32 → IVec S 32)

/-- A rotation to the left by `r`, of which `l` bits come back on the right. -/
def turned (r l : BitVec 32) (x : IVec S 32) : IVec S 32 := ori (Host.shli x (bc (constantI S_ 32 r))) (Host.shrui x (bc (constantI S_ 32 l)))

/-- One round: the left word takes in the right one, the right one turns and takes in the left. -/
def round (r l : BitVec 32) (p : IVec S 32 × IVec S 32) : IVec S 32 × IVec S 32 := (addi p.1 p.2, xori (addi p.1 p.2) (turned bc r l p.2))

/-- The key words put in after four rounds. -/
def keyed (k k' : IVec S_ 32) (c : BitVec 32) (p : IVec S 32 × IVec S 32) : IVec S 32 × IVec S 32 := (addi p.1 (bc k), addi (addi p.2 (bc k')) (bc (constantI S_ 32 c)))

/-- Four rounds of the first kind. -/
def odd (p : IVec S 32 × IVec S 32) : IVec S 32 × IVec S 32 := round bc 6#32 26#32 (round bc 26#32 6#32 (round bc 15#32 17#32 (round bc 13#32 19#32 p)))

/-- Four rounds of the second kind. -/
def even (p : IVec S 32 × IVec S 32) : IVec S 32 × IVec S 32 := round bc 24#32 8#32 (round bc 16#32 16#32 (round bc 29#32 3#32 (round bc 17#32 15#32 p)))

end

/-- A word at both keys. -/
def bc2 : IVec S_ 32 → IVec S2 32 := broadcastInDim S2 ![] bcast_S_S2

variable (U : Valuation τ sig (Elt Ideal))

set_option maxHeartbeats 4000000

/-- The bounds and the key words while the key is split. -/
def Kept3 (V : Valuation τ sig (Elt Ideal)) (V6 V7 : IVec S1x1x1 32) (V1 : IVec S_ 1) (k0 k1 k2 : IVec S_ 32) : Prop :=
  V (Proc.devRef .tc main_call1_v6) = V6 ∧ V (Proc.devRef .tc main_call1_v7) = V7 ∧ V (Proc.devRef .tc main_call1_v1) = V1
    ∧ V (Proc.devRef .tc main_call1_call3_v1) = k0 ∧ V (Proc.devRef .tc main_call1_call3_v3) = k1 ∧ V (Proc.devRef .tc main_call1_call3_call0_v1) = k2

/-- The bounds and the key words while the low words are drawn. -/
def Kept5 (V : Valuation τ sig (Elt Ideal)) (V6 V7 : IVec S1x1x1 32) (V1 : IVec S_ 1) (k0 k1 k2 : IVec S_ 32) : Prop :=
  V (Proc.devRef .tc main_call1_v6) = V6 ∧ V (Proc.devRef .tc main_call1_v7) = V7 ∧ V (Proc.devRef .tc main_call1_v1) = V1
    ∧ V (Proc.devRef .tc main_call1_v35) = k0 ∧ V (Proc.devRef .tc main_call1_v37) = k1 ∧ V (Proc.devRef .tc main_call1_call5_v1) = k2

/-- A word at every sample. -/
def bcS : IVec S_ 32 → IVec S2x16x256 32 := broadcastInDim S2x16x256 ![] bcast_S_S2x16x256

theorem split1 {V6 V7 : IVec S1x1x1 32} {V1 : IVec S_ 1} {k0 k1 k2 : IVec S_ 32} {p} (hk : Kept3 U V6 V7 V1 k0 k1 k2)
    (hp : (U (Proc.devRef .tc main_call1_call3_call0_v3), U (Proc.devRef .tc main_call1_call3_call0_v5)) = p) :
    Kept3 (StableHlo.after (stretch 38 43) U) V6 V7 V1 k0 k1 k2
      ∧ (StableHlo.after (stretch 38 43) U (Proc.devRef .tc main_call1_call3_call0_v35), StableHlo.after (stretch 38 43) U (Proc.devRef .tc main_call1_call3_call0_v39))
        = keyed bc2 k1 k2 1#32 (odd bc2 p) := by
  obtain ⟨rfl, rfl, rfl, rfl, rfl, rfl⟩ := hk
  subst hp
  simp only [Kept3, stretch, hostOps1_1, List.drop_succ_cons, List.drop_zero, List.take_succ_cons, List.take_zero]
  after_results_simp
  refine ⟨⟨?_, ?_, ?_, ?_, ?_, ?_⟩, ?_⟩ <;> first | rfl | exact trivial

theorem split2 {V6 V7 : IVec S1x1x1 32} {V1 : IVec S_ 1} {k0 k1 k2 : IVec S_ 32} {p} (hk : Kept3 U V6 V7 V1 k0 k1 k2)
    (hp : (U (Proc.devRef .tc main_call1_call3_call0_v35), U (Proc.devRef .tc main_call1_call3_call0_v39)) = p) :
    Kept3 (StableHlo.after (stretch 81 43) U) V6 V7 V1 k0 k1 k2
      ∧ (StableHlo.after (stretch 81 43) U (Proc.devRef .tc main_call1_call3_call0_v69), StableHlo.after (stretch 81 43) U (Proc.devRef .tc main_call1_call3_call0_v73))
        = keyed bc2 k2 k0 2#32 (even bc2 p) := by
  obtain ⟨rfl, rfl, rfl, rfl, rfl, rfl⟩ := hk
  subst hp
  simp only [Kept3, stretch, hostOps1_1, List.drop_succ_cons, List.drop_zero, List.take_succ_cons, List.take_zero]
  after_results_simp
  refine ⟨⟨?_, ?_, ?_, ?_, ?_, ?_⟩, ?_⟩ <;> first | rfl | exact trivial

theorem split3 {V6 V7 : IVec S1x1x1 32} {V1 : IVec S_ 1} {k0 k1 k2 : IVec S_ 32} {p} (hk : Kept3 U V6 V7 V1 k0 k1 k2)
    (hp : (U (Proc.devRef .tc main_call1_call3_call0_v69), U (Proc.devRef .tc main_call1_call3_call0_v73)) = p) :
    Kept3 (StableHlo.after (stretch 124 43) U) V6 V7 V1 k0 k1 k2
      ∧ (StableHlo.after (stretch 124 43) U (Proc.devRef .tc main_call1_call3_call0_v103), StableHlo.after (stretch 124 43) U (Proc.devRef .tc main_call1_call3_call0_v107))
        = keyed bc2 k0 k1 3#32 (odd bc2 p) := by
  obtain ⟨rfl, rfl, rfl, rfl, rfl, rfl⟩ := hk
  subst hp
  simp only [Kept3, stretch, hostOps1_1, List.drop_succ_cons, List.drop_zero, List.take_succ_cons, List.take_zero]
  after_results_simp
  refine ⟨⟨?_, ?_, ?_, ?_, ?_, ?_⟩, ?_⟩ <;> first | rfl | exact trivial

theorem split4 {V6 V7 : IVec S1x1x1 32} {V1 : IVec S_ 1} {k0 k1 k2 : IVec S_ 32} {p} (hk : Kept3 U V6 V7 V1 k0 k1 k2)
    (hp : (U (Proc.devRef .tc main_call1_call3_call0_v103), U (Proc.devRef .tc main_call1_call3_call0_v107)) = p) :
    Kept3 (StableHlo.after (stretch 167 43) U) V6 V7 V1 k0 k1 k2
      ∧ (StableHlo.after (stretch 167 43) U (Proc.devRef .tc main_call1_call3_call0_v137), StableHlo.after (stretch 167 43) U (Proc.devRef .tc main_call1_call3_call0_v141))
        = keyed bc2 k1 k2 4#32 (even bc2 p) := by
  obtain ⟨rfl, rfl, rfl, rfl, rfl, rfl⟩ := hk
  subst hp
  simp only [Kept3, stretch, hostOps1_1, List.drop_succ_cons, List.drop_zero, List.take_succ_cons, List.take_zero]
  after_results_simp
  refine ⟨⟨?_, ?_, ?_, ?_, ?_, ?_⟩, ?_⟩ <;> first | rfl | exact trivial

theorem split5 {V6 V7 : IVec S1x1x1 32} {V1 : IVec S_ 1} {k0 k1 k2 : IVec S_ 32} {p} (hk : Kept3 U V6 V7 V1 k0 k1 k2)
    (hp : (U (Proc.devRef .tc main_call1_call3_call0_v137), U (Proc.devRef .tc main_call1_call3_call0_v141)) = p) :
    Kept3 (StableHlo.after (stretch 210 43) U) V6 V7 V1 k0 k1 k2
      ∧ (StableHlo.after (stretch 210 43) U (Proc.devRef .tc main_call1_call3_v11_0), StableHlo.after (stretch 210 43) U (Proc.devRef .tc main_call1_call3_v11_1))
        = keyed bc2 k2 k0 5#32 (odd bc2 p) := by
  obtain ⟨rfl, rfl, rfl, rfl, rfl, rfl⟩ := hk
  subst hp
  simp only [Kept3, stretch, hostOps1_1, List.drop_succ_cons, List.drop_zero, List.take_succ_cons, List.take_zero]
  after_results_simp
  refine ⟨⟨?_, ?_, ?_, ?_, ?_, ?_⟩, ?_⟩ <;> first | rfl | exact trivial

theorem low1 {V6 V7 : IVec S1x1x1 32} {V1 : IVec S_ 1} {k0 k1 k2 : IVec S_ 32} {p} (hk : Kept5 U V6 V7 V1 k0 k1 k2)
    (hp : (U (Proc.devRef .tc main_call1_call5_v3), U (Proc.devRef .tc main_call1_call5_v5)) = p) :
    Kept5 (StableHlo.after (stretch 536 43) U) V6 V7 V1 k0 k1 k2
      ∧ (StableHlo.after (stretch 536 43) U (Proc.devRef .tc main_call1_call5_v35), StableHlo.after (stretch 536 43) U (Proc.devRef .tc main_call1_call5_v39))
        = keyed bcS k1 k2 1#32 (odd bcS p) := by
  obtain ⟨rfl, rfl, rfl, rfl, rfl, rfl⟩ := hk
  subst hp
  simp only [Kept5, stretch, hostOps1_1, List.drop_succ_cons, List.drop_zero, List.take_succ_cons, List.take_zero]
  after_results_simp
  refine ⟨⟨?_, ?_, ?_, ?_, ?_, ?_⟩, ?_⟩ <;> first | rfl | exact trivial

theorem low2 {V6 V7 : IVec S1x1x1 32} {V1 : IVec S_ 1} {k0 k1 k2 : IVec S_ 32} {p} (hk : Kept5 U V6 V7 V1 k0 k1 k2)
    (hp : (U (Proc.devRef .tc main_call1_call5_v35), U (Proc.devRef .tc main_call1_call5_v39)) = p) :
    Kept5 (StableHlo.after (stretch 579 43) U) V6 V7 V1 k0 k1 k2
      ∧ (StableHlo.after (stretch 579 43) U (Proc.devRef .tc main_call1_call5_v69), StableHlo.after (stretch 579 43) U (Proc.devRef .tc main_call1_call5_v73))
        = keyed bcS k2 k0 2#32 (even bcS p) := by
  obtain ⟨rfl, rfl, rfl, rfl, rfl, rfl⟩ := hk
  subst hp
  simp only [Kept5, stretch, hostOps1_1, List.drop_succ_cons, List.drop_zero, List.take_succ_cons, List.take_zero]
  after_results_simp
  refine ⟨⟨?_, ?_, ?_, ?_, ?_, ?_⟩, ?_⟩ <;> first | rfl | exact trivial

theorem low3 {V6 V7 : IVec S1x1x1 32} {V1 : IVec S_ 1} {k0 k1 k2 : IVec S_ 32} {p} (hk : Kept5 U V6 V7 V1 k0 k1 k2)
    (hp : (U (Proc.devRef .tc main_call1_call5_v69), U (Proc.devRef .tc main_call1_call5_v73)) = p) :
    Kept5 (StableHlo.after (stretch 622 43) U) V6 V7 V1 k0 k1 k2
      ∧ (StableHlo.after (stretch 622 43) U (Proc.devRef .tc main_call1_call5_v103), StableHlo.after (stretch 622 43) U (Proc.devRef .tc main_call1_call5_v107))
        = keyed bcS k0 k1 3#32 (odd bcS p) := by
  obtain ⟨rfl, rfl, rfl, rfl, rfl, rfl⟩ := hk
  subst hp
  simp only [Kept5, stretch, hostOps1_1, List.drop_succ_cons, List.drop_zero, List.take_succ_cons, List.take_zero]
  after_results_simp
  refine ⟨⟨?_, ?_, ?_, ?_, ?_, ?_⟩, ?_⟩ <;> first | rfl | exact trivial

theorem low4 {V6 V7 : IVec S1x1x1 32} {V1 : IVec S_ 1} {k0 k1 k2 : IVec S_ 32} {p} (hk : Kept5 U V6 V7 V1 k0 k1 k2)
    (hp : (U (Proc.devRef .tc main_call1_call5_v103), U (Proc.devRef .tc main_call1_call5_v107)) = p) :
    Kept5 (StableHlo.after (stretch 665 43) U) V6 V7 V1 k0 k1 k2
      ∧ (StableHlo.after (stretch 665 43) U (Proc.devRef .tc main_call1_call5_v137), StableHlo.after (stretch 665 43) U (Proc.devRef .tc main_call1_call5_v141))
        = keyed bcS k1 k2 4#32 (even bcS p) := by
  obtain ⟨rfl, rfl, rfl, rfl, rfl, rfl⟩ := hk
  subst hp
  simp only [Kept5, stretch, hostOps1_1, List.drop_succ_cons, List.drop_zero, List.take_succ_cons, List.take_zero]
  after_results_simp
  refine ⟨⟨?_, ?_, ?_, ?_, ?_, ?_⟩, ?_⟩ <;> first | rfl | exact trivial

theorem low5 {V6 V7 : IVec S1x1x1 32} {V1 : IVec S_ 1} {k0 k1 k2 : IVec S_ 32} {p} (hk : Kept5 U V6 V7 V1 k0 k1 k2)
    (hp : (U (Proc.devRef .tc main_call1_call5_v137), U (Proc.devRef .tc main_call1_call5_v141)) = p) :
    Kept5 (StableHlo.after (stretch 708 43) U) V6 V7 V1 k0 k1 k2
      ∧ (StableHlo.after (stretch 708 43) U (Proc.devRef .tc main_call1_v53_0), StableHlo.after (stretch 708 43) U (Proc.devRef .tc main_call1_v53_1))
        = keyed bcS k2 k0 5#32 (odd bcS p) := by
  obtain ⟨rfl, rfl, rfl, rfl, rfl, rfl⟩ := hk
  subst hp
  simp only [Kept5, stretch, hostOps1_1, List.drop_succ_cons, List.drop_zero, List.take_succ_cons, List.take_zero]
  after_results_simp
  refine ⟨⟨?_, ?_, ?_, ?_, ?_, ?_⟩, ?_⟩ <;> first | rfl | exact trivial

/-- The words of a key. -/
def keyWord0 (x : IVec S2 32) : IVec S_ 32 := shapeCast S_ (extractStridedSlice S1 ![0] x slices_S2_S1_0) shapeCasts_S1_S_

/-- The second of them. -/
def keyWord1 (x : IVec S2 32) : IVec S_ 32 := shapeCast S_ (extractStridedSlice S1 ![1] x slices_S2_S1_1) shapeCasts_S1_S_

/-- The third key word. -/
def keyWord2 (x y : IVec S_ 32) : IVec S_ 32 := xori (xori x y) (constantI S_ 32 466688986#32)

/-- The numbers of the two keys. -/
def count2 : IVec S2 64 := muli (broadcastInDim S2 ![] bcast_S_S2 (constantI S_ 64 1#64)) (iotaInDim S2 64 0)

/-- The numbers of the samples. -/
def countS : IVec S2x16x256 64 :=
  addi (addi (muli (broadcastInDim S2x16x256 ![] bcast_S_S2x16x256 (constantI S_ 64 4096#64)) (iotaInDim S2x16x256 64 0))
      (muli (broadcastInDim S2x16x256 ![] bcast_S_S2x16x256 (constantI S_ 64 256#64)) (iotaInDim S2x16x256 64 1)))
    (muli (broadcastInDim S2x16x256 ![] bcast_S_S2x16x256 (constantI S_ 64 1#64)) (iotaInDim S2x16x256 64 2))

/-- The second of the two keys a split gives. -/
def secondKey (p : IVec S2 32 × IVec S2 32) : IVec S2 32 :=
  shapeCast S2 (extractStridedSlice S1x2 ![1, 0] (concatenate S2x2 1 [⟨S2x1, broadcastInDim S2x1 ![0] bcast_S2_S2x1_0 p.1⟩, ⟨S2x1, broadcastInDim S2x1 ![0] bcast_S2_S2x1_0 p.2⟩] concatenates_S2x1_S2x1_S2x2_d1) slices_S2x2_S1x2_1_0) shapeCasts_S1x2_S2

/-- The bounds, brought into the range of the words. -/
def bounded (x : IVec S_ 32) : IVec S1x1x1 32 :=
  broadcastInDim S1x1x1 ![] bcast_S_S1x1x1 (minsi (constantI S_ 32 2147483647#32) (maxsi (constantI S_ 32 2147483648#32) x))

theorem draw_start : Kept3 (StableHlo.after (stretch 0 38) U) (bounded (U (Proc.devRef .tc main_c_6))) (bounded (U (Proc.devRef .tc main_c_7)))
      (cmpi .sgt (U (Proc.devRef .tc main_c_7)) (minsi (constantI S_ 32 2147483647#32) (maxsi (constantI S_ 32 2147483648#32) (constantI S_ 32 2147483647#32))))
      (keyWord0 (U (Proc.devRef .tc main_v15))) (keyWord1 (U (Proc.devRef .tc main_v15))) (keyWord2 (keyWord0 (U (Proc.devRef .tc main_v15))) (keyWord1 (U (Proc.devRef .tc main_v15))))
    ∧ (StableHlo.after (stretch 0 38) U (Proc.devRef .tc main_call1_call3_call0_v3), StableHlo.after (stretch 0 38) U (Proc.devRef .tc main_call1_call3_call0_v5))
      = (addi (trunci 32 (Host.shrui count2 (broadcastInDim S2 ![] bcast_S_S2 (constantI S_ 64 32#64))) natLt_32_64) (bc2 (keyWord0 (U (Proc.devRef .tc main_v15)))),
          addi (trunci 32 count2 natLt_32_64) (bc2 (keyWord1 (U (Proc.devRef .tc main_v15))))) := by
  simp only [Kept3, stretch, hostOps1_1, List.drop_succ_cons, List.drop_zero, List.take_succ_cons, List.take_zero]
  after_results_simp
  refine ⟨⟨?_, ?_, ?_, ?_, ?_, ?_⟩, ?_⟩
  · rfl
  · rfl
  · simp only [StableHlo.TRef.ofBuf_toBuf]
    rfl
  · rfl
  · rfl
  · rfl
  · rfl

theorem draw_middle {V6 V7 : IVec S1x1x1 32} {V1 : IVec S_ 1} {k0 k1 k2 : IVec S_ 32} {p} (hk : Kept3 U V6 V7 V1 k0 k1 k2)
    (hp : (U (Proc.devRef .tc main_call1_call3_v11_0), U (Proc.devRef .tc main_call1_call3_v11_1)) = p) :
    Kept5 (StableHlo.after (stretch 253 283) U) V6 V7 V1 (keyWord0 (secondKey p)) (keyWord1 (secondKey p)) (keyWord2 (keyWord0 (secondKey p)) (keyWord1 (secondKey p)))
    ∧ (StableHlo.after (stretch 253 283) U (Proc.devRef .tc main_call1_call5_v3), StableHlo.after (stretch 253 283) U (Proc.devRef .tc main_call1_call5_v5))
      = (addi (trunci 32 (Host.shrui countS (broadcastInDim S2x16x256 ![] bcast_S_S2x16x256 (constantI S_ 64 32#64))) natLt_32_64) (bcS (keyWord0 (secondKey p))),
          addi (trunci 32 countS natLt_32_64) (bcS (keyWord1 (secondKey p)))) := by
  obtain ⟨rfl, rfl, rfl, rfl, rfl, rfl⟩ := hk
  subst hp
  simp only [Kept5, stretch, hostOps1_1, List.drop_succ_cons, List.drop_zero, List.take_succ_cons, List.take_zero]
  after_results_simp
  refine ⟨⟨?_, ?_, ?_, ?_, ?_, ?_⟩, ?_⟩ <;> first | rfl | exact trivial

/-- The width of the range. -/
def width (V6 V7 : IVec S1x1x1 32) (V1 : IVec S_ 1) : IVec S1x1x1 32 :=
  select (andi (broadcastInDim S1x1x1 ![] bcast_S_S1x1x1 V1) (cmpi .sgt V7 V6))
    (addi (select (cmpi .sle V7 V6) (broadcastInDim S1x1x1 ![] bcast_S_S1x1x1 (constantI S_ 32 1#32)) (subi V7 V6)) (broadcastInDim S1x1x1 ![] bcast_S_S1x1x1 (constantI S_ 32 1#32)))
    (select (cmpi .sle V7 V6) (broadcastInDim S1x1x1 ![] bcast_S_S1x1x1 (constantI S_ 32 1#32)) (subi V7 V6))

/-- The width at every sample. -/
def spread (x : IVec S1x1x1 32) : IVec S2x16x256 32 := broadcastInDim S2x16x256 ![0, 1, 2] bcast_S1x1x1_S2x16x256_0_1_2 x

/-- What a high word counts for, modulo the width. -/
def weight (x : IVec S1x1x1 32) : IVec S1x1x1 32 :=
  Host.remui (muli (Host.remui (broadcastInDim S1x1x1 ![] bcast_S_S1x1x1 (constantI S_ 32 65536#32)) x) (Host.remui (broadcastInDim S1x1x1 ![] bcast_S_S1x1x1 (constantI S_ 32 65536#32)) x)) x

theorem draw_end {V6 V7 : IVec S1x1x1 32} {V1 : IVec S_ 1} {k0 k1 k2 : IVec S_ 32} {p} (hk : Kept5 U V6 V7 V1 k0 k1 k2)
    (hp : (U (Proc.devRef .tc main_call1_v53_0), U (Proc.devRef .tc main_call1_v53_1)) = p) :
    StableHlo.after (stretch 751 31) U (Proc.devRef .tc main_v16)
      = addi (spread V6) (Host.remui (addi (muli (Host.remui (U (Proc.devRef .tc main_call1_v33)) (spread (width V6 V7 V1))) (spread (weight (width V6 V7 V1)))) (Host.remui (xori p.1 p.2) (spread (width V6 V7 V1)))) (spread (width V6 V7 V1))) := by
  obtain ⟨rfl, rfl, rfl, rfl, rfl, rfl⟩ := hk
  subst hp
  simp only [stretch, hostOps1_1, List.drop_succ_cons, List.drop_zero, List.take_succ_cons, List.take_zero]
  after_results_simp
  rfl

/-- The draw, a stretch at a time. -/
theorem after_stretch (k n : Nat) : StableHlo.after ((hostOps1_1 (F := Ideal)).drop k) U = StableHlo.after ((hostOps1_1 (F := Ideal)).drop (k + n)) (StableHlo.after (stretch k n) U) := by
  rw [← StableHlo.after_append, ← List.drop_drop, List.take_append_drop]

end Cert.KernelIdeal.Gen

end
-- ==== Proof.Draw2.lean ====
/- The words of the generator as numbers, and the table of sampled columns they give. -/
module

public import proofs.«01_k».proof.ReferenceIdeal

@[expose] public section

set_option maxRecDepth 65536

namespace Cert.Proof.Draw

/-- `f n`, with `n` worked out first. -/
def strict (n : Nat) (f : Nat → Nat) : Nat := Nat.rec (f 0) (fun m _ => f (Nat.succ m)) n

theorem strict_eq (n : Nat) (f : Nat → Nat) : strict n f = f n := by
  cases n <;> rfl

/-- A rotation to the left by `r`, of which `l` bits come back on the right. -/
def turn (r l a : Nat) : Nat := Nat.lor (Nat.mod (Nat.shiftLeft a r) 4294967296) (Nat.shiftRight a l)

/-- One round. -/
def roundN (r l : Nat) (q : Nat × Nat) : Nat × Nat := (Nat.mod (Nat.add q.1 q.2) 4294967296, Nat.xor (Nat.mod (Nat.add q.1 q.2) 4294967296) (turn r l q.2))

/-- The key words put in after four rounds. -/
def keyedN (k k' c : Nat) (q : Nat × Nat) : Nat × Nat := (Nat.mod (Nat.add q.1 k) 4294967296, Nat.mod (Nat.add (Nat.mod (Nat.add q.2 k') 4294967296) c) 4294967296)

/-- Four rounds of the first kind. -/
def oddN (q : Nat × Nat) : Nat × Nat := roundN 6 26 (roundN 26 6 (roundN 15 17 (roundN 13 19 q)))

/-- Four rounds of the second kind. -/
def evenN (q : Nat × Nat) : Nat × Nat := roundN 24 8 (roundN 16 16 (roundN 29 3 (roundN 17 15 q)))

/-- The third key word. -/
def third (k0 k1 : Nat) : Nat := Nat.xor (Nat.xor k0 k1) 466688986

/-- The twenty rounds. -/
def rounds (k0 k1 : Nat) (q : Nat × Nat) : Nat × Nat :=
  keyedN (third k0 k1) k0 5 (oddN (keyedN k1 (third k0 k1) 4 (evenN (keyedN k0 k1 3 (oddN (keyedN (third k0 k1) k0 2 (evenN (keyedN k1 (third k0 k1) 1 (oddN q)))))))))

/-- One round, and what is made of its words. -/
def roundK (r l a b : Nat) (f : Nat → Nat → Nat) : Nat :=
  strict (Nat.mod (Nat.add a b) 4294967296) fun x => strict (Nat.xor x (turn r l b)) fun y => f x y

theorem roundK_eq (r l : Nat) (q : Nat × Nat) (f : Nat → Nat → Nat) : roundK r l q.1 q.2 f = f (roundN r l q).1 (roundN r l q).2 := by
  unfold roundK
  rw [strict_eq, strict_eq]
  rfl

/-- The key words put in, and what is made of the words. -/
def keyedK (k k' c a b : Nat) (f : Nat → Nat → Nat) : Nat :=
  strict (Nat.mod (Nat.add a k) 4294967296) fun x => strict (Nat.mod (Nat.add (Nat.mod (Nat.add b k') 4294967296) c) 4294967296) fun y => f x y

theorem keyedK_eq (k k' c : Nat) (q : Nat × Nat) (f : Nat → Nat → Nat) : keyedK k k' c q.1 q.2 f = f (keyedN k k' c q).1 (keyedN k k' c q).2 := by
  unfold keyedK
  rw [strict_eq, strict_eq]
  rfl

/-- Four rounds of the first kind, and what is made of the words. -/
def oddK (a b : Nat) (f : Nat → Nat → Nat) : Nat :=
  roundK 13 19 a b fun a b => roundK 15 17 a b fun a b => roundK 26 6 a b fun a b => roundK 6 26 a b f

theorem oddK_eq (q : Nat × Nat) (f : Nat → Nat → Nat) : oddK q.1 q.2 f = f (oddN q).1 (oddN q).2 := by
  unfold oddK
  rw [roundK_eq, roundK_eq, roundK_eq, roundK_eq]
  rfl

/-- Four rounds of the second kind, and what is made of the words. -/
def evenK (a b : Nat) (f : Nat → Nat → Nat) : Nat :=
  roundK 17 15 a b fun a b => roundK 29 3 a b fun a b => roundK 16 16 a b fun a b => roundK 24 8 a b f

theorem evenK_eq (q : Nat × Nat) (f : Nat → Nat → Nat) : evenK q.1 q.2 f = f (evenN q).1 (evenN q).2 := by
  unfold evenK
  rw [roundK_eq, roundK_eq, roundK_eq, roundK_eq]
  rfl

/-- The twenty rounds, and what is made of the words. -/
def roundsK (k0 k1 k2 a b : Nat) (f : Nat → Nat → Nat) : Nat :=
  oddK a b fun a b => keyedK k1 k2 1 a b fun a b => evenK a b fun a b => keyedK k2 k0 2 a b fun a b => oddK a b fun a b => keyedK k0 k1 3 a b fun a b =>
    evenK a b fun a b => keyedK k1 k2 4 a b fun a b => oddK a b fun a b => keyedK k2 k0 5 a b f

theorem roundsK_eq (k0 k1 : Nat) (q : Nat × Nat) (f : Nat → Nat → Nat) : roundsK k0 k1 (third k0 k1) q.1 q.2 f = f (rounds k0 k1 q).1 (rounds k0 k1 q).2 := by
  unfold roundsK
  rw [oddK_eq, keyedK_eq, evenK_eq, keyedK_eq, oddK_eq, keyedK_eq, evenK_eq, keyedK_eq, oddK_eq, keyedK_eq]
  rfl

theorem keys_split : rounds 0 42 (0, 43) = (64467757, 2916123636) := by
  have h0 := roundsK_eq 0 42 (0, 43) fun a _ => a
  have h1 := roundsK_eq 0 42 (0, 43) fun _ b => b
  refine Prod.ext (h0.symm.trans ?_) (h1.symm.trans ?_) <;> decide +kernel

theorem third_word : third 64467757 2916123636 = 3050711811 := by decide +kernel

/-- What is drawn from a counter word. -/
def drawnAt (b : Nat) : Nat := Nat.mod (Nat.xor (rounds 64467757 2916123636 (64467757, b)).1 (rounds 64467757 2916123636 (64467757, b)).2) 8192

/-- The same, worked out word by word. -/
def drawnAtK (b : Nat) : Nat := roundsK 64467757 2916123636 3050711811 64467757 b fun x y => Nat.mod (Nat.xor x y) 8192

theorem drawnAtK_eq (b : Nat) : drawnAtK b = drawnAt b := by
  have h := roundsK_eq 64467757 2916123636 (64467757, b) fun x y => Nat.mod (Nat.xor x y) 8192
  rw [third_word] at h
  exact h

/-- The counter word of a sample. -/
def counter (n : Nat) : Nat := Nat.mod (Nat.add n 2916123636) 4294967296

/-- The word of a sample. -/
def sample (n : Nat) : Nat := drawnAt (counter n)

/-- The same, worked out word by word. -/
def sampleK (n : Nat) : Nat := strict (counter n) fun b => drawnAtK b

theorem sampleK_eq (n : Nat) : sampleK n = sample n := by
  unfold sampleK
  rw [strict_eq, drawnAtK_eq]
  rfl

theorem rows : ∀ q : Fin 32, ∀ t : Fin 256, Nat.beq (sampleK (q.val * 256 + t.val)) (Cert.ReferenceIdeal.lit2t (q.val * 256 + t.val)).toNat = true := by
  intro q
  fin_cases q <;> decide +kernel

/-- The table holds the words drawn. -/
theorem sample_table (n : Fin 8192) : sample n.val = (Cert.ReferenceIdeal.lit2 n).toNat := by
  have h := Nat.eq_of_beq_eq_true (rows ⟨n.val / 256, by omega⟩ ⟨n.val % 256, by omega⟩)
  rw [show n.val / 256 * 256 + n.val % 256 = n.val by omega, sampleK_eq] at h
  exact h

end Cert.Proof.Draw
-- ==== Proof.Draw3.lean ====
/- The kernel's sampled columns are the words of the table. -/
module

public import proofs.«01_k».proof.Proof.Draw1
public import proofs.«01_k».proof.Proof.Draw2
public import proofs.«01_k».proof.Proof.RefSort

@[expose] public section

set_option maxRecDepth 65536
set_option maxHeartbeats 4000000

noncomputable section

namespace Cert.KernelIdeal.Gen

open Idealize.ShloMosaic Idealize.ShloMosaic.TcCoe Idealize.SL.Sem Cert.KernelIdeal Cert.KernelIdeal.Facts₀ Cert.Proof.Draw

section
variable {S : Shape} (bc : IVec S_ 32 → IVec S 32) (hbc : ∀ w : BitVec 32, bc (fun _ => w) = fun _ => w)

/-- The two words at a place are the numbers of `q`. -/
def Words (p : IVec S 32 × IVec S 32) (i : S.Idx) (q : Nat × Nat) : Prop := (p.1 i).toNat = q.1 ∧ (p.2 i).toNat = q.2

include hbc

theorem round_words {p : IVec S 32 × IVec S 32} {i : S.Idx} {q : Nat × Nat} (r l : BitVec 32) (hr : r.toNat < 32) (hl : l.toNat < 32) (h : Words p i q) :
    Words (round bc r l p) i (roundN r.toNat l.toNat q) := by
  obtain ⟨h1, h2⟩ := h
  have ha : (addi p.1 p.2 i).toNat = (q.1 + q.2) % 4294967296 := by
    show (p.1 i + p.2 i).toNat = _
    rw [BitVec.toNat_add, h1, h2]
  refine ⟨ha, ?_⟩
  have hR : bc (constantI S_ 32 r) = fun _ => r := hbc r
  have hL : bc (constantI S_ 32 l) = fun _ => l := hbc l
  show (addi p.1 p.2 i ^^^ (turned bc r l p.2 i)).toNat = _
  rw [BitVec.toNat_xor, ha]
  unfold turned
  rw [hR, hL]
  show _ ^^^ ((IntOp.shli .host (p.2 i) r) ||| (IntOp.shrui .host (p.2 i) l)).toNat = _
  unfold IntOp.shli IntOp.shrui
  rw [if_pos hr, if_pos hl, BitVec.toNat_or]
  show _ ^^^ ((p.2 i <<< r.toNat).toNat ||| (p.2 i >>> l.toNat).toNat) = _
  rw [BitVec.toNat_shiftLeft, BitVec.toNat_ushiftRight, h2]
  rfl

theorem keyed_words {p : IVec S 32 × IVec S 32} {i : S.Idx} {q : Nat × Nat} (k k' c : BitVec 32) (h : Words p i q) :
    Words (keyed bc (fun _ => k) (fun _ => k') c p) i (keyedN k.toNat k'.toNat c.toNat q) := by
  obtain ⟨h1, h2⟩ := h
  have hC : bc (constantI S_ 32 c) = fun _ => c := hbc c
  unfold keyed
  rw [hbc, hbc, hC]
  refine ⟨?_, ?_⟩
  · show (p.1 i + k).toNat = _
    rw [BitVec.toNat_add, h1]
    rfl
  · show (p.2 i + k' + c).toNat = _
    rw [BitVec.toNat_add, BitVec.toNat_add, h2]
    rfl

theorem odd_words {p : IVec S 32 × IVec S 32} {i : S.Idx} {q : Nat × Nat} (h : Words p i q) : Words (odd bc p) i (oddN q) :=
  round_words bc hbc 6#32 26#32 (by decide) (by decide) (round_words bc hbc 26#32 6#32 (by decide) (by decide)
    (round_words bc hbc 15#32 17#32 (by decide) (by decide) (round_words bc hbc 13#32 19#32 (by decide) (by decide) h)))

theorem even_words {p : IVec S 32 × IVec S 32} {i : S.Idx} {q : Nat × Nat} (h : Words p i q) : Words (even bc p) i (evenN q) :=
  round_words bc hbc 24#32 8#32 (by decide) (by decide) (round_words bc hbc 16#32 16#32 (by decide) (by decide)
    (round_words bc hbc 29#32 3#32 (by decide) (by decide) (round_words bc hbc 17#32 15#32 (by decide) (by decide) h)))

theorem rounds_words {p : IVec S 32 × IVec S 32} {i : S.Idx} {q : Nat × Nat} (k0 k1 : BitVec 32) (h : Words p i q) :
    Words (keyed bc (keyWord2 (fun _ => k0) (fun _ => k1)) (fun _ => k0) 5#32 (odd bc (keyed bc (fun _ => k1) (keyWord2 (fun _ => k0) (fun _ => k1)) 4#32 (even bc
      (keyed bc (fun _ => k0) (fun _ => k1) 3#32 (odd bc (keyed bc (keyWord2 (fun _ => k0) (fun _ => k1)) (fun _ => k0) 2#32 (even bc (keyed bc (fun _ => k1) (keyWord2 (fun _ => k0) (fun _ => k1)) 1#32 (odd bc p))))))))))
      i (rounds k0.toNat k1.toNat q) := by
  have e : keyWord2 (fun _ => k0) (fun _ => k1) = fun _ => k0 ^^^ k1 ^^^ 466688986#32 := rfl
  have t : (k0 ^^^ k1 ^^^ 466688986#32).toNat = third k0.toNat k1.toNat := by
    rw [BitVec.toNat_xor, BitVec.toNat_xor]
    rfl
  rw [e]
  unfold rounds
  rw [← t]
  exact keyed_words bc hbc _ _ 5#32 (odd_words bc hbc (keyed_words bc hbc _ _ 4#32 (even_words bc hbc (keyed_words bc hbc _ _ 3#32
    (odd_words bc hbc (keyed_words bc hbc _ _ 2#32 (even_words bc hbc (keyed_words bc hbc _ _ 1#32 (odd_words bc hbc h)))))))))

end

theorem bc2_const (w : BitVec 32) : bc2 (fun _ => w) = fun _ => w := rfl
theorem bcS_const (w : BitVec 32) : bcS (fun _ => w) = fun _ => w := rfl

variable (U : Valuation τ sig (Elt Ideal))

/-- The launch key. -/
def launchKey : IVec S2 32 :=
  concatenate S2 0 [⟨S1, broadcastInDim S1 ![] bcast_S_S1 (Host.shrui (constantI S_ 32 42#32) (constantI S_ 32 32#32))⟩, ⟨S1, broadcastInDim S1 ![] bcast_S_S1 (andi (constantI S_ 32 42#32) (constantI S_ 32 4294967295#32))⟩] concatenates_S1_S1_S2_d0

theorem mid_v15 : StableHlo.after hostOps1 U (Proc.devRef .tc main_v15) = launchKey := by
  after_results_simp
  rfl

theorem mid_c6 : StableHlo.after hostOps1 U (Proc.devRef .tc main_c_6) = constantI S_ 32 0#32 := by
  after_results_simp

theorem mid_c7 : StableHlo.after hostOps1 U (Proc.devRef .tc main_c_7) = constantI S_ 32 8192#32 := by
  after_results_simp

theorem key0 : keyWord0 launchKey = fun _ => 0#32 := by
  funext i
  unfold keyWord0 launchKey
  pointwise []
  rfl

theorem key1 : keyWord1 launchKey = fun _ => 42#32 := by
  funext i
  unfold keyWord1 launchKey
  pointwise []
  rfl

theorem second0 (p : IVec S2 32 × IVec S2 32) : keyWord0 (secondKey p) = fun _ => p.1 (ix1 1) := by
  funext i
  unfold keyWord0 secondKey
  pointwise []

theorem second1 (p : IVec S2 32 × IVec S2 32) : keyWord1 (secondKey p) = fun _ => p.2 (ix1 1) := by
  funext i
  unfold keyWord1 secondKey
  pointwise []

/-- The counter words of the split. -/
def splitStart (k0 k1 : IVec S_ 32) : IVec S2 32 × IVec S2 32 :=
  (addi (trunci 32 (Host.shrui count2 (broadcastInDim S2 ![] bcast_S_S2 (constantI S_ 64 32#64))) natLt_32_64) (bc2 k0), addi (trunci 32 count2 natLt_32_64) (bc2 k1))

/-- The counter words of the samples. -/
def lowStart (k0 k1 : IVec S_ 32) : IVec S2x16x256 32 × IVec S2x16x256 32 :=
  (addi (trunci 32 (Host.shrui countS (broadcastInDim S2x16x256 ![] bcast_S_S2x16x256 (constantI S_ 64 32#64))) natLt_32_64) (bcS k0), addi (trunci 32 countS natLt_32_64) (bcS k1))

theorem splitStart_words : Words (splitStart (fun _ => 0#32) (fun _ => 42#32)) (ix1 1) (0, 43) := by
  refine ⟨?_, ?_⟩ <;> decide +kernel

theorem countS_apply (b : Fin 2) (h : Fin 16) (j : Fin 256) : countS (ix3 b h j) = BitVec.ofNat 64 (b.val * 4096 + h.val * 256 + j.val) := by
  show BitVec.ofNat 64 4096 * BitVec.ofNat 64 b.val + BitVec.ofNat 64 256 * BitVec.ofNat 64 h.val + BitVec.ofNat 64 1 * BitVec.ofNat 64 j.val = _
  rw [← BitVec.ofNat_mul, ← BitVec.ofNat_mul, ← BitVec.ofNat_mul, ← BitVec.ofNat_add, ← BitVec.ofNat_add]
  congr 1
  omega

theorem low_word (n : Nat) (h : n < 8192) : (BitVec.ofNat 64 n).setWidth 32 = BitVec.ofNat 32 n := by
  apply BitVec.eq_of_toNat_eq
  rw [BitVec.toNat_setWidth, BitVec.toNat_ofNat, BitVec.toNat_ofNat]
  omega

theorem high_word (n : Nat) (h : n < 8192) : (IntOp.shrui .host (BitVec.ofNat 64 n) 32#64).setWidth 32 = 0#32 := by
  unfold IntOp.shrui
  rw [if_pos (by decide)]
  apply BitVec.eq_of_toNat_eq
  show ((BitVec.ofNat 64 n >>> 32).setWidth 32).toNat = 0
  rw [BitVec.toNat_setWidth, BitVec.toNat_ushiftRight, BitVec.toNat_ofNat, Nat.shiftRight_eq_div_pow]
  omega

theorem lowStart_words (k0 k1 : BitVec 32) (b : Fin 2) (h : Fin 16) (j : Fin 256) :
    Words (lowStart (fun _ => k0) (fun _ => k1)) (ix3 b h j) (k0.toNat, Nat.mod (Nat.add (b.val * 4096 + h.val * 256 + j.val) k1.toNat) 4294967296) := by
  have hn : b.val * 4096 + h.val * 256 + j.val < 8192 := by omega
  refine ⟨?_, ?_⟩
  · show ((IntOp.shrui .host (countS (ix3 b h j)) 32#64).setWidth 32 + k0).toNat = _
    rw [countS_apply, high_word _ hn, BitVec.zero_add]
  · show ((countS (ix3 b h j)).setWidth 32 + k1).toNat = _
    rw [countS_apply, low_word _ hn, BitVec.toNat_add, BitVec.toNat_ofNat, Nat.mod_add_mod]
    rfl

theorem lower_bound : bounded (constantI S_ 32 0#32) = fun _ => 0#32 := by
  funext i
  show IntOp.minsi 2147483647#32 (IntOp.maxsi 2147483648#32 0#32) = 0#32
  decide +kernel
theorem upper_bound : bounded (constantI S_ 32 8192#32) = fun _ => 8192#32 := by
  funext i
  show IntOp.minsi 2147483647#32 (IntOp.maxsi 2147483648#32 8192#32) = 8192#32
  decide +kernel
theorem not_above : cmpi .sgt (constantI S_ 32 8192#32) (minsi (constantI S_ 32 2147483647#32) (maxsi (constantI S_ 32 2147483648#32) (constantI S_ 32 2147483647#32))) = fun _ => 0#1 := by
  funext i
  show IntOp.cmpi .sgt 8192#32 (IntOp.minsi 2147483647#32 (IntOp.maxsi 2147483648#32 2147483647#32)) = 0#1
  decide +kernel
theorem width_word : width (fun _ => 0#32) (fun _ => 8192#32) (fun _ => 0#1) = fun _ => 8192#32 := by
  funext i
  unfold width
  pointwise []
  decide +kernel
theorem weight_word : weight (fun _ => 8192#32) = fun _ => 0#32 := by
  funext i
  show IntOp.remui .host (IntOp.muli (IntOp.remui .host 65536#32 8192#32) (IntOp.remui .host 65536#32 8192#32)) 8192#32 = 0#32
  decide +kernel

theorem end_word (u x y : BitVec 32) :
    IntOp.addi 0#32 (IntOp.remui .host (IntOp.addi (IntOp.muli (IntOp.remui .host u 8192#32) 0#32) (IntOp.remui .host (IntOp.xori x y) 8192#32)) 8192#32)
      = BitVec.ofNat 32 (Nat.mod (Nat.xor x.toNat y.toNat) 8192) := by
  unfold IntOp.remui
  rw [if_neg (by decide), if_neg (by decide), if_neg (by decide)]
  show 0#32 + (u % 8192#32 * 0#32 + (x ^^^ y) % 8192#32) % 8192#32 = _
  rw [BitVec.mul_zero, BitVec.zero_add, BitVec.zero_add]
  apply BitVec.eq_of_toNat_eq
  rw [BitVec.toNat_umod, BitVec.toNat_umod, BitVec.toNat_xor, BitVec.toNat_ofNat, BitVec.toNat_ofNat]
  show (x.toNat ^^^ y.toNat) % 8192 % 8192 = (x.toNat ^^^ y.toNat) % 8192 % 4294967296
  omega

/-- The twenty rounds of the split: its keys are two known words. -/
theorem split_rounds {V6 V7 : IVec S1x1x1 32} {V1 : IVec S_ 1} {k0 k1 k2 : IVec S_ 32} {p} (hk : Kept3 U V6 V7 V1 k0 k1 k2)
    (hp : (U (Proc.devRef .tc main_call1_call3_call0_v3), U (Proc.devRef .tc main_call1_call3_call0_v5)) = p) :
    ∃ U', StableHlo.after ((hostOps1_1 (F := Ideal)).drop 38) U = StableHlo.after ((hostOps1_1 (F := Ideal)).drop 253) U' ∧ Kept3 U' V6 V7 V1 k0 k1 k2
      ∧ (U' (Proc.devRef .tc main_call1_call3_v11_0), U' (Proc.devRef .tc main_call1_call3_v11_1))
        = keyed bc2 k2 k0 5#32 (odd bc2 (keyed bc2 k1 k2 4#32 (even bc2 (keyed bc2 k0 k1 3#32 (odd bc2 (keyed bc2 k2 k0 2#32 (even bc2 (keyed bc2 k1 k2 1#32 (odd bc2 p))))))))) := by
  have h1 := split1 U hk hp
  have h2 := split2 _ h1.1 h1.2
  have h3 := split3 _ h2.1 h2.2
  have h4 := split4 _ h3.1 h3.2
  have h5 := split5 _ h4.1 h4.2
  refine ⟨_, ?_, h5.1, h5.2⟩
  rw [after_stretch U 38 43, after_stretch _ 81 43, after_stretch _ 124 43, after_stretch _ 167 43, after_stretch _ 210 43]

/-- The twenty rounds of the low words. -/
theorem low_rounds {V6 V7 : IVec S1x1x1 32} {V1 : IVec S_ 1} {k0 k1 k2 : IVec S_ 32} {p} (hk : Kept5 U V6 V7 V1 k0 k1 k2)
    (hp : (U (Proc.devRef .tc main_call1_call5_v3), U (Proc.devRef .tc main_call1_call5_v5)) = p) :
    ∃ U', StableHlo.after ((hostOps1_1 (F := Ideal)).drop 536) U = StableHlo.after ((hostOps1_1 (F := Ideal)).drop 751) U' ∧ Kept5 U' V6 V7 V1 k0 k1 k2
      ∧ (U' (Proc.devRef .tc main_call1_v53_0), U' (Proc.devRef .tc main_call1_v53_1))
        = keyed bcS k2 k0 5#32 (odd bcS (keyed bcS k1 k2 4#32 (even bcS (keyed bcS k0 k1 3#32 (odd bcS (keyed bcS k2 k0 2#32 (even bcS (keyed bcS k1 k2 1#32 (odd bcS p))))))))) := by
  have h1 := low1 U hk hp
  have h2 := low2 _ h1.1 h1.2
  have h3 := low3 _ h2.1 h2.2
  have h4 := low4 _ h3.1 h3.2
  have h5 := low5 _ h4.1 h4.2
  refine ⟨_, ?_, h5.1, h5.2⟩
  rw [after_stretch U 536 43, after_stretch _ 579 43, after_stretch _ 622 43, after_stretch _ 665 43, after_stretch _ 708 43]

theorem drop_all : (hostOps1_1 (F := Ideal)).drop 751 = stretch 751 31 := by
  simp only [stretch, hostOps1_1, List.drop_succ_cons, List.drop_zero, List.take_succ_cons, List.take_zero]

/-- The drawn words are the table's. -/
theorem draw_word (h15 : U (Proc.devRef .tc main_v15) = launchKey) (h6 : U (Proc.devRef .tc main_c_6) = constantI S_ 32 0#32) (h7 : U (Proc.devRef .tc main_c_7) = constantI S_ 32 8192#32)
    (b : Fin 2) (h : Fin 16) (j : Fin 256) :
    (StableHlo.after hostOps1_1 U (Proc.devRef .tc main_v16) : S2x16x256.Idx → BitVec 32) (ix3 b h j) = BitVec.ofNat 32 (Cert.Proof.Ref.drawn b h j).val := by
  obtain ⟨hk0, hp0⟩ := draw_start U
  rw [h15, h6, h7, lower_bound, upper_bound, not_above, key0, key1] at hk0
  rw [h15, key0, key1] at hp0
  obtain ⟨U1, e1, hk1, hp1⟩ := split_rounds _ hk0 hp0
  obtain ⟨hk2, hp2⟩ := draw_middle U1 hk1 hp1
  obtain ⟨w0, w1⟩ := rounds_words bc2 bc2_const 0#32 42#32 splitStart_words
  rw [show rounds (0#32).toNat (42#32).toNat (0, 43) = _ from keys_split] at w0 w1
  have z0 := BitVec.eq_of_toNat_eq (w0.trans (BitVec.toNat_ofNat 64467757 32).symm)
  have z1 := BitVec.eq_of_toNat_eq (w1.trans (BitVec.toNat_ofNat 2916123636 32).symm)
  unfold splitStart at z0 z1
  rw [second0, second1, z0, z1] at hk2 hp2
  obtain ⟨U3, e3, hk3, hp3⟩ := low_rounds _ hk2 hp2
  obtain ⟨v0, v1⟩ := rounds_words bcS bcS_const 64467757#32 2916123636#32 (lowStart_words 64467757#32 2916123636#32 b h j)
  have e : StableHlo.after hostOps1_1 U = StableHlo.after (stretch 751 31) U3 := by
    rw [← drop_all, ← e3, ← after_stretch U1 253 283, ← e1, ← after_stretch U 0 38]
    rfl
  rw [e, draw_end U3 hk3 hp3, width_word, weight_word]
  refine (end_word _ _ _).trans ?_
  refine congrArg (BitVec.ofNat 32) ?_
  have hn : b.val * 4096 + h.val * 256 + j.val < 8192 := by omega
  have hs := sample_table ⟨b.val * 4096 + h.val * 256 + j.val, hn⟩
  have hi : Cert.ReferenceIdeal.S2x16x256.rowMajor (ix3 b h j) = (⟨b.val * 4096 + h.val * 256 + j.val, hn⟩ : Fin 8192) := by
    apply Fin.ext
    rw [Shape.rowMajor_val_three]
    show (b.val * 16 + h.val) * 256 + j.val = b.val * 4096 + h.val * 256 + j.val
    omega
  have ht : (Cert.Proof.Ref.drawn b h j).val = sample (b.val * 4096 + h.val * 256 + j.val) :=
    (congrArg (fun i : Fin 8192 => (Cert.ReferenceIdeal.lit2 i).toNat % 8192) hi).trans
      ((congrArg (fun x => x % 8192) hs.symm).trans (Nat.mod_mod _ _))
  rw [show (64467757#32).toNat = 64467757 by decide +kernel, show (2916123636#32).toNat = 2916123636 by decide +kernel] at v0 v1
  exact (congrArg₂ (fun x y => Nat.mod (Nat.xor x y) 8192) v0 v1).trans ht.symm

end Cert.KernelIdeal.Gen

end
-- ==== Proof.Claims.lean ====
/- The value claim: the kernel's result is the reference's, wherever the query and the key are real. -/
module

public import proofs.«01_k».proof.Defs
public import proofs.«01_k».proof.Proof.Inputs
public import proofs.«01_k».proof.Proof.Ends
public import proofs.«01_k».proof.Proof.Draw3

@[expose] public section

set_option maxRecDepth 16384

noncomputable section

namespace Cert.KernelIdeal.Gen

open Idealize.ShloMosaic Idealize.ShloMosaic.TcCoe Idealize.SL.Sem Cert.KernelIdeal Cert.KernelIdeal.Facts₀

variable (m : (ℓ : Loc nD τ sig) → Buf (Elt Ideal) ℓ) (ρ : Dev nD → PrngReg)

theorem drawn_columns (c : Dev nD) (b : Fin 2) (h : Fin 16) (j : Fin 256) :
    (W6 m ρ c (Proc.devRef .tc main_v16) : S2x16x256.Idx → BitVec 32) (ix3 b h j) = BitVec.ofNat 32 (Cert.Proof.Ref.drawn b h j).val :=
  draw_word (W5 m ρ c) (mid_v15 (W4 m ρ c)) (mid_c6 (W4 m ρ c)) (mid_c7 (W4 m ρ c)) b h j

/-- The kernel's result is the reference's on real query and key. -/
theorem result_eq (c : Dev nD) (hA : ∀ i, (((arg0 m ρ c i : EReal).toReal : ℝ) : EReal) = arg0 m ρ c i) (hB : ∀ i, (((arg1 m ρ c i : EReal).toReal : ℝ) : EReal) = arg1 m ρ c i)
    (V0 : Valuation Cert.ReferenceIdeal.τ Cert.ReferenceIdeal.sig (Elt Ideal))
    (h0 : V0 (Proc.devRef .tc Cert.ReferenceIdeal.main_arg0) = arg0 m ρ c) (h1 : V0 (Proc.devRef .tc Cert.ReferenceIdeal.main_arg1) = arg1 m ρ c)
    (h2 : V0 (Proc.devRef .tc Cert.ReferenceIdeal.main_arg2) = arg2 m ρ c) (h3 : V0 (Proc.devRef .tc Cert.ReferenceIdeal.main_arg3) = arg3 m ρ c) :
    (W11 m ρ c (Proc.devRef .tc main_v82) : S2x16x8192x64.Idx → EReal) = Cert.Proof.Ref.result V0 := by
  funext i
  obtain ⟨b, h, s, d, rfl⟩ : ∃ b h s d, i = ix4 b h s d := ⟨i 0, i 1, i 2, i 3, eq_ix4 i⟩
  refine (W11_v82 m ρ c (upper_ones m ρ) (lower_ones m ρ) Cert.Proof.Ref.drawn (drawn_columns m ρ c) (fun b h s d => (arg0 m ρ c (ix4 b h s d) : EReal).toReal) (fun b h s d => (arg1 m ρ c (ix4 b h s d) : EReal).toReal)
    (fun b h s d => (hA _).symm) (fun b h s d => (hB _).symm) b h s d).trans ?_
  exact (Cert.Proof.Ref.result_read V0 (arg0 m ρ c) (arg1 m ρ c) (arg2 m ρ c) (arg3 m ρ c) h0 h1 h2 h3 _ _ (fun b h s d => (hA _).symm) (fun b h s d => (hB _).symm) b h s d).symm

end Cert.KernelIdeal.Gen

namespace Cert.Proof

open Idealize.ShloMosaic Idealize.SL.Sem

/-- The kernel's result array ends as the reference's does. -/
theorem algebraic [Cert.Pre_finite_inputs.Facts] : Cert.algebraic_KernelIdeal_ReferenceIdeal_pre_finite_inputs := by
  intro m g m' g' hpre hagree
  refine ⟨fun c => Cert.KernelIdeal.Gen.W11 m g c (Proc.devRef .tc Cert.KernelIdeal.main_v82), Cert.KernelIdeal.Gen.ends (F := Ideal) m g, ?_⟩
  refine (θ_run Cert.ReferenceIdeal.defs _ _).mono (fun _ h c => ⟨(h c).1.trans ?_, (h c).2⟩) (Cert.Proof.Ref.run_result m' g')
  obtain ⟨hA, hB⟩ := Cert.Proof.Inputs.inputs_real _ _ _ _ (hpre c)
  exact (Cert.KernelIdeal.Gen.result_eq m g c hA hB _ (hagree c).1 (hagree c).2.1 (hagree c).2.2.1 (hagree c).2.2.2).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.IdealFrame
public import proofs.«01_k».proof.Proof.Claims
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The printed kernel runs, leaves its arguments alone and ends quiescent. -/
theorem frame_p : Cert.quiescent_Kernel := fun m ρ _ => Cert.Kernel.Gen.frame m ρ

/-- The kernel at the ideal instance runs, leaves its arguments alone and ends quiescent. -/
theorem frame_pi : Cert.quiescent_KernelIdeal := fun m ρ _ => Cert.KernelIdeal.Gen.frame m ρ

/-- The reference at the ideal instance runs, leaves its arguments alone and ends quiescent. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one rewrite: the constant subtracted to hide a column is infinity at the ideal instance. -/
theorem preserves : Cert.preserves_Kernel_KernelIdeal :=
  IdealRules.named_const.statement Cert.KernelIdeal.κ "mask" .f32 0x7F7FFFFF#32 ⊤ rfl

/-- The side conditions of the precondition's operations. -/
theorem pre_facts : Cert.Pre_finite_inputs.Facts :=
  ⟨by decide, by decide, by decide⟩

/-- Everything claimed. -/
theorem claim : Cert.Claim :=
  ⟨Cert.Kernel.Gen.facts, Cert.KernelIdeal.Gen.facts, Cert.ReferenceIdeal.Gen.facts, pre_facts,
    frame_p, frame_pi, fun m ρ _ => frame_pi m ρ trivial, frame_ri, fun m ρ _ => frame_ri m ρ trivial, preserves, @algebraic pre_facts⟩

end Cert.Proof

end
